-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_statistics_of_the_logits [hPre_statistics_of_the_logits : Cert.Pre_statistics_of_the_logits.Facts] (m : (ℓ : Loc Cert.KernelIdeal.nD Cert.KernelIdeal.τ Cert.KernelIdeal.sig) → Buf (Elt Ideal) ℓ) : Prop :=
  ∀ c : Dev Cert.KernelIdeal.nD,
    (Cert.Pre_statistics_of_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_statistics_of_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_statistics_of_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_statistics_of_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_statistics_of_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_statistics_of_the_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_statistics_of_the_logits [hPre_statistics_of_the_logits : Cert.Pre_statistics_of_the_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_statistics_of_the_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_statistics_of_the_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_statistics_of_the_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_statistics_of_the_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_statistics_of_the_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_statistics_of_the_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_finite_activations [hPre_finite_activations : Cert.Pre_finite_activations.Facts] (m : (ℓ : Loc Cert.QuantIdeal.nD Cert.QuantIdeal.τ Cert.QuantIdeal.sig) → Buf (Elt Ideal) ℓ) : Prop :=
  ∀ c : Dev Cert.QuantIdeal.nD,
    (Cert.Pre_finite_activations.fn (F := Ideal) (m ((c.tc : Thread Cert.QuantIdeal.nD Cert.QuantIdeal.τ).loc Cert.QuantIdeal.main_arg0))).1 = (fun _ => 1#1)
    ∧ (Cert.Pre_finite_activations.fn (F := Ideal) (m ((c.tc : Thread Cert.QuantIdeal.nD Cert.QuantIdeal.τ).loc Cert.QuantIdeal.main_arg0))).2 = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_finite_activations [hPre_finite_activations : Cert.Pre_finite_activations.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_finite_activations.fn (F := Ideal) (m ((c.tc : Thread Cert.QuantReferenceIdeal.nD Cert.QuantReferenceIdeal.τ).loc Cert.QuantReferenceIdeal.main_arg0))).1 = (fun _ => 1#1)
    ∧ (Cert.Pre_finite_activations.fn (F := Ideal) (m ((c.tc : Thread Cert.QuantReferenceIdeal.nD Cert.QuantReferenceIdeal.τ).loc Cert.QuantReferenceIdeal.main_arg0))).2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_statistics_of_the_logits [hKernelIdeal : Cert.KernelIdeal.Facts] [hPre_statistics_of_the_logits : Cert.Pre_statistics_of_the_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_statistics_of_the_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_statistics_of_the_logits [hReferenceIdeal : Cert.ReferenceIdeal.Facts] [hPre_statistics_of_the_logits : Cert.Pre_statistics_of_the_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_statistics_of_the_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantIdeal_pre_finite_activations [hQuantIdeal : Cert.QuantIdeal.Facts] [hPre_finite_activations : Cert.Pre_finite_activations.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_finite_activations m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def quiescent_QuantReferenceIdeal_pre_finite_activations [hQuantReferenceIdeal : Cert.QuantReferenceIdeal.Facts] [hPre_finite_activations : Cert.Pre_finite_activations.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_finite_activations m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3))
      ∧ r.2.sem = fun _ => 0)

def preserves_Kernel_KernelIdeal : Prop :=
  True

def algebraic_KernelIdeal_ReferenceIdeal_pre_statistics_of_the_logits [hKernelIdeal : Cert.KernelIdeal.Facts] [hReferenceIdeal : Cert.ReferenceIdeal.Facts] [hPre_statistics_of_the_logits : Cert.Pre_statistics_of_the_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_statistics_of_the_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Quant_QuantIdeal : Prop :=
  True

def algebraic_QuantIdeal_QuantReferenceIdeal_pre_finite_activations [hQuantIdeal : Cert.QuantIdeal.Facts] [hQuantReferenceIdeal : Cert.QuantReferenceIdeal.Facts] [hPre_finite_activations : Cert.Pre_finite_activations.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_finite_activations m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)) (v2 : (c : Dev Cert.QuantIdeal.nD) → Buf (Elt Ideal) ((c.tc : Thread Cert.QuantIdeal.nD Cert.QuantIdeal.τ).loc Cert.QuantIdeal.main_v0_2)) (v3 : (c : Dev Cert.QuantIdeal.nD) → Buf (Elt Ideal) ((c.tc : Thread Cert.QuantIdeal.nD Cert.QuantIdeal.τ).loc Cert.QuantIdeal.main_v0_3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_v0_2) = v2 c
          ∧ r.2.mem ((c.tc : Thread Cert.QuantIdeal.nD Cert.QuantIdeal.τ).loc Cert.QuantIdeal.main_v0_3) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_v0_2) = v2 c
          ∧ r.2.mem ((c.tc : Thread Cert.QuantReferenceIdeal.nD Cert.QuantReferenceIdeal.τ).loc Cert.QuantReferenceIdeal.main_v0_3) = v3 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)) →
    ∃ (v0 : (c : Dev Cert.ForwardIdeal.nD) → Buf (Elt Ideal) ((c.tc : Thread Cert.ForwardIdeal.nD Cert.ForwardIdeal.τ).loc Cert.ForwardIdeal.main_v1_0)) (v1 : (c : Dev Cert.ForwardIdeal.nD) → Buf (Elt Ideal) ((c.tc : Thread Cert.ForwardIdeal.nD Cert.ForwardIdeal.τ).loc Cert.ForwardIdeal.main_v1_5)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v1_0) = v0 c
          ∧ r.2.mem ((c.tc : Thread Cert.ForwardIdeal.nD Cert.ForwardIdeal.τ).loc Cert.ForwardIdeal.main_v1_5) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v0_0) = v0 c
          ∧ r.2.mem ((c.tc : Thread Cert.ForwardReferenceIdeal.nD Cert.ForwardReferenceIdeal.τ).loc Cert.ForwardReferenceIdeal.main_v0_1) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hForward : Cert.Forward.Facts) (hForwardIdeal : Cert.ForwardIdeal.Facts) (hForwardReferenceIdeal : Cert.ForwardReferenceIdeal.Facts) (hPre_statistics_of_the_logits : Cert.Pre_statistics_of_the_logits.Facts) (hPre_finite_activations : Cert.Pre_finite_activations.Facts),
    quiescent_Kernel (hKernel := hKernel)
    ∧ quiescent_KernelIdeal (hKernelIdeal := hKernelIdeal)
    ∧ quiescent_KernelIdeal_pre_statistics_of_the_logits (hKernelIdeal := hKernelIdeal) (hPre_statistics_of_the_logits := hPre_statistics_of_the_logits)
    ∧ quiescent_ReferenceIdeal (hReferenceIdeal := hReferenceIdeal)
    ∧ quiescent_ReferenceIdeal_pre_statistics_of_the_logits (hReferenceIdeal := hReferenceIdeal) (hPre_statistics_of_the_logits := hPre_statistics_of_the_logits)
    ∧ quiescent_Quant (hQuant := hQuant)
    ∧ quiescent_QuantIdeal (hQuantIdeal := hQuantIdeal)
    ∧ quiescent_QuantIdeal_pre_finite_activations (hQuantIdeal := hQuantIdeal) (hPre_finite_activations := hPre_finite_activations)
    ∧ quiescent_QuantReferenceIdeal (hQuantReferenceIdeal := hQuantReferenceIdeal)
    ∧ quiescent_QuantReferenceIdeal_pre_finite_activations (hQuantReferenceIdeal := hQuantReferenceIdeal) (hPre_finite_activations := hPre_finite_activations)
    ∧ quiescent_Forward (hForward := hForward)
    ∧ quiescent_ForwardIdeal (hForwardIdeal := hForwardIdeal)
    ∧ quiescent_ForwardReferenceIdeal (hForwardReferenceIdeal := hForwardReferenceIdeal)
    ∧ preserves_Kernel_KernelIdeal
    ∧ algebraic_KernelIdeal_ReferenceIdeal_pre_statistics_of_the_logits (hKernelIdeal := hKernelIdeal) (hReferenceIdeal := hReferenceIdeal) (hPre_statistics_of_the_logits := hPre_statistics_of_the_logits)
    ∧ preserves_Quant_QuantIdeal
    ∧ algebraic_QuantIdeal_QuantReferenceIdeal_pre_finite_activations (hQuantIdeal := hQuantIdeal) (hQuantReferenceIdeal := hQuantReferenceIdeal) (hPre_finite_activations := hPre_finite_activations)
    ∧ preserves_Forward_ForwardIdeal
    ∧ algebraic_ForwardIdeal_ForwardReferenceIdeal (hForwardIdeal := hForwardIdeal) (hForwardReferenceIdeal := hForwardReferenceIdeal)
-- ==== Pre_finite_activations.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  bitsLt_bf16_f32 : FTy.bits .bf16 < FTy.bits .f32

variable [Facts]

def fn {F : FTy → Type} [FloatOps F] (main_arg0 : FVec F S1024x1024 .bf16) : IVec S1024x1024 1 × IVec S1024x1024 1 :=
  let main_cst : FVec F S_ .f32 := constant S_ .f32 0x7F7F0000#32
  let main_v0 : FVec F S1024x1024 .f32 := broadcastInDim S1024x1024 ![] bcast_S_S1024x1024 main_cst
  let main_v1 : FVec F S1024x1024 .f32 := (extf .f32 · bitsLt_bf16_f32) main_arg0
  let main_v2 : IVec S1024x1024 1 := cmpf .ole main_v1 main_v0
  let main_v3 : FVec F S1024x1024 .f32 := Host.negf main_v0
  let main_v4 : IVec S1024x1024 1 := cmpf .oge main_v1 main_v3
  (main_v2, main_v4)
-- ==== Pre_statistics_of_the_logits.lean ====
abbrev S128256x1024 : Shape := ⟨2, ![128256, 1024]⟩
abbrev S1002x8 : Shape := ⟨2, ![1002, 8]⟩
abbrev S1024x1024 : Shape := ⟨2, ![1024, 1024]⟩
abbrev S1x1024 : Shape := ⟨2, ![1, 1024]⟩
abbrev S167x1x1024 : Shape := ⟨3, ![167, 1, 1024]⟩
abbrev S_ : Shape := ⟨0, ![]⟩
abbrev S1024 : Shape := ⟨1, ![1024]⟩
abbrev S167x768x1024 : Shape := ⟨3, ![167, 768, 1024]⟩
abbrev S167x1024 : Shape := ⟨2, ![167, 1024]⟩

class Facts : Prop where
  bcast_S1x1024_S128256x1024_0_1 : S1x1024.BroadcastsInDim S128256x1024 (![0, 1] : Fin 2 → Fin S128256x1024.rank)
  bcast_S_S128256x1024 : S_.BroadcastsInDim S128256x1024 (![] : Fin 0 → Fin S128256x1024.rank)
  reducesTo_S128256x1024_S1024_d0 : S128256x1024.ReducesTo [0] S1024
  h_S_ : 0 < S_.numel
  bcast_S1024_S1x1024_1 : S1024.BroadcastsInDim S1x1024 (![1] : Fin 1 → Fin S1x1024.rank)
  shapeCasts_S128256x1024_S167x768x1024 : S128256x1024.ShapeCasts S167x768x1024
  reducesTo_S167x768x1024_S167x1024_d1 : S167x768x1024.ReducesTo [1] S167x1024
  bcast_S167x1024_S167x1x1024_0_2 : S167x1024.BroadcastsInDim S167x1x1024 (![0, 2] : Fin 2 → Fin S167x1x1024.rank)

variable [Facts]

def fn_part1 {F : FTy → Type} [FloatOps F] (main_arg7 : FVec F S1x1024 .f32) (main_arg8 : FVec F S167x1x1024 .f32) (main_v6 : FVec F S128256x1024 .f32) (main_v7 : IVec S128256x1024 1) (main_v9 : IVec S128256x1024 1) (main_v12 : IVec S1x1024 1) (main_v17 : IVec S1x1024 1) (main_v18 : FVec F S128256x1024 .f32) (main_cst_3 : FVec F S_ .f32) : IVec S128256x1024 1 × IVec S128256x1024 1 × IVec S1x1024 1 × IVec S1x1024 1 × IVec S1x1024 1 × IVec S167x1x1024 1 :=
  let main_v19 : FVec F S1024 .f32 := (fun x v => Host.reduceAdd x v reducesTo_S128256x1024_S1024_d0 h_S_) main_v18 main_cst_3
  let main_v20 : FVec F S1x1024 .f32 := broadcastInDim S1x1024 ![1] bcast_S1024_S1x1024_1 main_v19
  let main_v21 : IVec S1x1024 1 := cmpf .oeq main_arg7 main_v20
  let main_v22 : FVec F S167x768x1024 .f32 := shapeCast S167x768x1024 main_v6 shapeCasts_S128256x1024_S167x768x1024
  let main_cst_4 : FVec F S_ .f32 := constant S_ .f32 0xFF800000#32
  let main_v23 : FVec F S167x1024 .f32 := (fun x v => Host.reduce FloatOps.maximumf x v reducesTo_S167x768x1024_S167x1024_d1 h_S_) main_v22 main_cst_4
  let main_v24 : FVec F S167x1x1024 .f32 := broadcastInDim S167x1x1024 ![0, 2] bcast_S167x1024_S167x1x1024_0_2 main_v23
  let main_v25 : IVec S167x1x1024 1 := cmpf .oeq main_arg8 main_v24
  (main_v7, main_v9, main_v12, main_v17, main_v21, main_v25)

def fn {F : FTy → Type} [FloatOps F] (main_arg0 : FVec F S128256x1024 .f32) (main_arg1 : FVec F S128256x1024 .fp8e4m3) (main_arg2 : FVec F S1002x8 .f32) (main_arg3 : FVec F S1024x1024 .bf16) (main_arg4 : IVec S1x1024 32) (main_arg5 : FVec F S1x1024 .f32) (main_arg6 : FVec F S1x1024 .f32) (main_arg7 : FVec F S1x1024 .f32) (main_arg8 : FVec F S167x1x1024 .f32) : IVec S128256x1024 1 × IVec S128256x1024 1 × IVec S1x1024 1 × IVec S1x1024 1 × IVec S1x1024 1 × IVec S167x1x1024 1 :=
  let main_v0 : IVec S128256x1024 32 := iotaInDim S128256x1024 32 0
  let main_v1 : IVec S128256x1024 32 := broadcastInDim S128256x1024 ![0, 1] bcast_S1x1024_S128256x1024_0_1 main_arg4
  let main_v2 : IVec S128256x1024 1 := cmpi .eq main_v0 main_v1
  let main_cst : FVec F S_ .f32 := constant S_ .f32 0xFF61B1E6#32
  let main_v3 : FVec F S128256x1024 .f32 := broadcastInDim S128256x1024 ![] bcast_S_S128256x1024 main_cst
  let main_cst_0 : FVec F S_ .f32 := constant S_ .f32 0x00000000#32
  let main_v4 : FVec F S128256x1024 .f32 := broadcastInDim S128256x1024 ![] bcast_S_S128256x1024 main_cst_0
  let main_v5 : FVec F S128256x1024 .f32 := broadcastInDim S128256x1024 ![0, 1] bcast_S1x1024_S128256x1024_0_1 main_arg5
  let main_v6 : FVec F S128256x1024 .f32 := select main_v2 main_v3 main_arg0
  let main_v7 : IVec S128256x1024 1 := cmpf .oge main_arg0 main_v3
  let main_v8 : FVec F S128256x1024 .f32 := Host.negf main_v3
  let main_v9 : IVec S128256x1024 1 := cmpf .ole main_arg0 main_v8
  let main_cst_1 : FVec F S_ .f32 := constant S_ .f32 0xFF800000#32
  let main_v10 : FVec F S1024 .f32 := (fun x v => Host.reduce FloatOps.maximumf x v reducesTo_S128256x1024_S1024_d0 h_S_) main_arg0 main_cst_1
  let main_v11 : FVec F S1x1024 .f32 := broadcastInDim S1x1024 ![1] bcast_S1024_S1x1024_1 main_v10
  let main_v12 : IVec S1x1024 1 := cmpf .oeq main_arg5 main_v11
  let main_v13 : FVec F S128256x1024 .f32 := subf main_arg0 main_v5
  let main_v14 : FVec F S128256x1024 .f32 := Host.exp main_v13
  let main_cst_2 : FVec F S_ .f32 := constant S_ .f32 0x00000000#32
  let main_v15 : FVec F S1024 .f32 := (fun x v => Host.reduceAdd x v reducesTo_S128256x1024_S1024_d0 h_S_) main_v14 main_cst_2
  let main_v16 : FVec F S1x1024 .f32 := broadcastInDim S1x1024 ![1] bcast_S1024_S1x1024_1 main_v15
  let main_v17 : IVec S1x1024 1 := cmpf .oeq main_arg6 main_v16
  let main_v18 : FVec F S128256x1024 .f32 := select main_v2 main_arg0 main_v4
  let main_cst_3 : FVec F S_ .f32 := constant S_ .f32 0x00000000#32
  fn_part1 (F := F) main_arg7 main_arg8 main_v6 main_v7 main_v9 main_v12 main_v17 main_v18 main_cst_3
-- ==== Kernel.lean ====
abbrev S128256x1024 : Shape := ⟨2, ![128256, 1024]⟩
abbrev S1002x8 : Shape := ⟨2, ![1002, 8]⟩
abbrev S1024x1024 : Shape := ⟨2, ![1024, 1024]⟩
abbrev S1x1024 : Shape := ⟨2, ![1, 1024]⟩
abbrev S167x1x1024 : Shape := ⟨3, ![167, 1, 1024]⟩
abbrev S8016 : Shape := ⟨1, ![8016]⟩
abbrev S1024x128256 : Shape := ⟨2, ![1024, 128256]⟩
abbrev S768x1024 : Shape := ⟨2, ![768, 1024]⟩
abbrev S1x1x1024 : Shape := ⟨3, ![1, 1, 1024]⟩
abbrev S1024x768 : Shape := ⟨2, ![1024, 768]⟩
abbrev S1 : Shape := ⟨1, ![1]⟩
abbrev S128x128 : Shape := ⟨2, ![128, 128]⟩
abbrev S1x128 : Shape := ⟨2, ![1, 128]⟩
abbrev S1x1x128 : Shape := ⟨3, ![1, 1, 128]⟩

abbrev nBuf : Space → Nat
  | .hbm => 14
  | .vmem => 22
  | .smem => 1
  | _ => 0

abbrev bufTy : (tb : Table) → Fin (tcTables nBuf tb) → BufTy
  | .hbm, ⟨0, _⟩ => ⟨S128256x1024, .f32⟩
  | .hbm, ⟨1, _⟩ => ⟨S128256x1024, .fp8e4m3⟩
  | .hbm, ⟨2, _⟩ => ⟨S1002x8, .f32⟩
  | .hbm, ⟨3, _⟩ => ⟨S1024x1024, .bf16⟩
  | .hbm, ⟨4, _⟩ => ⟨S1x1024, .i32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S167x1x1024, .f32⟩
  | .hbm, ⟨9, _⟩ => ⟨S8016, .f32⟩
  | .hbm, ⟨10, _⟩ => ⟨S128256x1024, .f32⟩
  | .hbm, ⟨11, _⟩ => ⟨S1024x128256, .fp8e5m2⟩
  | .hbm, ⟨12, _⟩ => ⟨S167x1x1024, .f32⟩
  | .hbm, ⟨13, _⟩ => ⟨S1024x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .fp8e4m3⟩
  | .local _ .vmem, ⟨3, _⟩ => ⟨S768x1024, .fp8e4m3⟩
  | .local _ .vmem, ⟨4, _⟩ => ⟨S1024x1024, .bf16⟩
  | .local _ .vmem, ⟨5, _⟩ => ⟨S1x1024, .i32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S768x1024, .f32⟩
  | .local _ .vmem, ⟨12, _⟩ => ⟨S768x1024, .f32⟩
  | .local _ .vmem, ⟨13, _⟩ => ⟨S1024x768, .fp8e5m2⟩
  | .local _ .vmem, ⟨14, _⟩ => ⟨S1024x768, .fp8e5m2⟩
  | .local _ .vmem, ⟨15, _⟩ => ⟨S1x1x1024, .f32⟩
  | .local _ .vmem, ⟨16, _⟩ => ⟨S1x1x1024, .f32⟩
  | .local _ .vmem, ⟨17, _⟩ => ⟨S1024x1024, .bf16⟩
  | .local _ .vmem, ⟨18, _⟩ => ⟨S768x1024, .bf16⟩
  | .local _ .vmem, ⟨19, _⟩ => ⟨S768x1024, .bf16⟩
  | .local _ .vmem, ⟨20, _⟩ => ⟨S1024x768, .bf16⟩
  | .local _ .vmem, ⟨21, _⟩ => ⟨S1024x1024, .f32⟩
  | .local _ .smem, ⟨0, _⟩ => ⟨S8016, .f32⟩
  | _, _ => ⟨S128256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![167], ![false]⟩

def k0_off1 (i : grid0.Coords) (c0_i32_1 : BitVec 32) (c0_i32_2 : BitVec 32) : Fin 1 → Nat :=
  let arg0 : BitVec 32 := BitVec.ofNat 32 (i 0).val
  let c6_i32 : BitVec 32 := 6#32
  let v3 : BitVec 32 := Scalar.muli arg0 c6_i32
  let v4 : BitVec 32 := Scalar.addi v3 c0_i32_1
  let c8_i32 : BitVec 32 := 8#32
  let v5 : BitVec 32 := Scalar.muli v4 c8_i32
  let v6 : BitVec 32 := Scalar.addi v5 c0_i32_2
  let v7 : Index := Scalar.indexCast v6
  ![v7.toNat]
def k0_cond2 (i : grid0.Coords) : BitVec 1 :=
  let arg0 : BitVec 32 := BitVec.ofNat 32 (i 0).val
  let c166_i32 : BitVec 32 := 166#32
  let v3256 : BitVec 1 := Scalar.cmpi .eq arg0 c166_i32
  let v3257 : BitVec 32 := Scalar.extui v3256
  let c0_i32_1372 : BitVec 32 := 0#32
  let v3258 : BitVec 1 := Scalar.cmpi .ne v3257 c0_i32_1372
  v3258

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8016 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x768 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S128256x1024 : Shape := ⟨2, ![128256, 1024]⟩
abbrev S1002x8 : Shape := ⟨2, ![1002, 8]⟩
abbrev S1024x1024 : Shape := ⟨2, ![1024, 1024]⟩
abbrev S1x1024 : Shape := ⟨2, ![1, 1024]⟩
abbrev S167x1x1024 : Shape := ⟨3, ![167, 1, 1024]⟩
abbrev S1024x128256 : Shape := ⟨2, ![1024, 128256]⟩
abbrev S1002x128x8x128 : Shape := ⟨4, ![1002, 128, 8, 128]⟩
abbrev S1002x1x8x1 : Shape := ⟨4, ![1002, 1, 8, 1]⟩
abbrev S1024x1 : Shape := ⟨2, ![1024, 1]⟩
abbrev S1024 : Shape := ⟨1, ![1024]⟩
abbrev S1024x167x768 : Shape := ⟨3, ![1024, 167, 768]⟩
abbrev S1024x167 : Shape := ⟨2, ![1024, 167]⟩
abbrev S1024x167x1 : Shape := ⟨3, ![1024, 167, 1]⟩
abbrev S167x1024 : Shape := ⟨2, ![167, 1024]⟩

abbrev nBuf : Space → Nat
  | .hbm => 13
  | .vmem => 13
  | .smem => 0
  | _ => 0

abbrev bufTy : (tb : Table) → Fin (tcTables nBuf tb) → BufTy
  | .hbm, ⟨0, _⟩ => ⟨S128256x1024, .f32⟩
  | .hbm, ⟨1, _⟩ => ⟨S128256x1024, .fp8e4m3⟩
  | .hbm, ⟨2, _⟩ => ⟨S1002x8, .f32⟩
  | .hbm, ⟨3, _⟩ => ⟨S1024x1024, .bf16⟩
  | .hbm, ⟨4, _⟩ => ⟨S1x1024, .i32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S167x1x1024, .f32⟩
  | .hbm, ⟨9, _⟩ => ⟨S128256x1024, .f32⟩
  | .hbm, ⟨10, _⟩ => ⟨S1024x128256, .fp8e5m2⟩
  | .hbm, ⟨11, _⟩ => ⟨S167x1x1024, .f32⟩
  | .hbm, ⟨12, _⟩ => ⟨S1024x1024, .bf16⟩
  | .local _ .vmem, ⟨0, _⟩ => ⟨S128256x1024, .f32⟩
  | .local _ .vmem, ⟨1, _⟩ => ⟨S128256x1024, .fp8e4m3⟩
  | .local _ .vmem, ⟨2, _⟩ => ⟨S1002x8, .f32⟩
  | .local _ .vmem, ⟨3, _⟩ => ⟨S1024x1024, .bf16⟩
  | .local _ .vmem, ⟨4, _⟩ => ⟨S1x1024, .i32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S167x1x1024, .f32⟩
  | .local _ .vmem, ⟨9, _⟩ => ⟨S128256x1024, .f32⟩
  | .local _ .vmem, ⟨10, _⟩ => ⟨S1024x128256, .fp8e5m2⟩
  | .local _ .vmem, ⟨11, _⟩ => ⟨S167x1x1024, .f32⟩
  | .local _ .vmem, ⟨12, _⟩ => ⟨S1024x1024, .bf16⟩
  | _, _ => ⟨S128256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128256x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1002x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S167x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128256 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S167x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Quant.lean ====
abbrev S1024x1024 : Shape := ⟨2, ![1024, 1024]⟩
abbrev S1024x8 : Shape := ⟨2, ![1024, 8]⟩
abbrev S256x1024 : Shape := ⟨2, ![256, 1024]⟩
abbrev S256x8 : Shape := ⟨2, ![256, 8]⟩
abbrev S1024x256 : Shape := ⟨2, ![1024, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩

abbrev nBuf : Space → Nat
  | .hbm => 5
  | .vmem => 10
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .fp8e4m3⟩
  | .hbm, ⟨2, _⟩ => ⟨S1024x8, .f32⟩
  | .hbm, ⟨3, _⟩ => ⟨S1024x1024, .bf16⟩
  | .hbm, ⟨4, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .fp8e4m3⟩
  | .local _ .vmem, ⟨3, _⟩ => ⟨S256x1024, .fp8e4m3⟩
  | .local _ .vmem, ⟨4, _⟩ => ⟨S256x8, .f32⟩
  | .local _ .vmem, ⟨5, _⟩ => ⟨S256x8, .f32⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantReferenceIdeal.lean ====
abbrev S1024x1024 : Shape := ⟨2, ![1024, 1024]⟩
abbrev S1024x8 : Shape := ⟨2, ![1024, 8]⟩
abbrev S1024x8x128 : Shape := ⟨3, ![1024, 8, 128]⟩
abbrev S1024x8x1 : Shape := ⟨3, ![1024, 8, 1]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .fp8e4m3⟩
  | .hbm, ⟨2, _⟩ => ⟨S1024x8, .f32⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .fp8e4m3⟩
  | .local _ .vmem, ⟨2, _⟩ => ⟨S1024x8, .f32⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Forward.lean ====
abbrev S1002x8 : Shape := ⟨2, ![1002, 8]⟩
abbrev S128256x1024 : Shape := ⟨2, ![128256, 1024]⟩
abbrev S1024x1024 : Shape := ⟨2, ![1024, 1024]⟩
abbrev S1x1024 : Shape := ⟨2, ![1, 1024]⟩
abbrev S8016 : Shape := ⟨1, ![8016]⟩
abbrev S167x1x1024 : Shape := ⟨3, ![167, 1, 1024]⟩
abbrev S768x1024 : Shape := ⟨2, ![768, 1024]⟩
abbrev S1x1x1024 : Shape := ⟨3, ![1, 1, 1024]⟩
abbrev S1 : Shape := ⟨1, ![1]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 11
  | .vmem => 13
  | .smem => 1
  | _ => 0

abbrev bufTy : (tb : Table) → Fin (tcTables nBuf tb) → BufTy
  | .hbm, ⟨0, _⟩ => ⟨S1002x8, .f32⟩
  | .hbm, ⟨1, _⟩ => ⟨S128256x1024, .fp8e4m3⟩
  | .hbm, ⟨2, _⟩ => ⟨S1024x1024, .bf16⟩
  | .hbm, ⟨3, _⟩ => ⟨S1x1024, .i32⟩
  | .hbm, ⟨4, _⟩ => ⟨S8016, .f32⟩
  | .hbm, ⟨5, _⟩ => ⟨S128256x1024, .f32⟩
  | .hbm, ⟨6, _⟩ => ⟨S167x1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S768x1024, .fp8e4m3⟩
  | .local _ .vmem, ⟨1, _⟩ => ⟨S768x1024, .fp8e4m3⟩
  | .local _ .vmem, ⟨2, _⟩ => ⟨S1024x1024, .bf16⟩
  | .local _ .vmem, ⟨3, _⟩ => ⟨S1x1024, .i32⟩
  | .local _ .vmem, ⟨4, _⟩ => ⟨S768x1024, .f32⟩
  | .local _ .vmem, ⟨5, _⟩ => ⟨S768x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S768x1024, .bf16⟩
  | .local _ .smem, ⟨0, _⟩ => ⟨S8016, .f32⟩
  | _, _ => ⟨S1002x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![167], ![false]⟩

def k0_off1 (i : grid0.Coords) (c0_i32_1 : BitVec 32) (c0_i32_2 : BitVec 32) : Fin 1 → Nat :=
  let arg0 : BitVec 32 := BitVec.ofNat 32 (i 0).val
  let c6_i32 : BitVec 32 := 6#32
  let v3 : BitVec 32 := Scalar.muli arg0 c6_i32
  let v4 : BitVec 32 := Scalar.addi v3 c0_i32_1
  let c8_i32 : BitVec 32 := 8#32
  let v5 : BitVec 32 := Scalar.muli v4 c8_i32
  let v6 : BitVec 32 := Scalar.addi v5 c0_i32_2
  let v7 : Index := Scalar.indexCast v6
  ![v7.toNat]
def k0_cond2 (i : grid0.Coords) : BitVec 1 :=
  let arg0 : BitVec 32 := BitVec.ofNat 32 (i 0).val
  let c166_i32 : BitVec 32 := 166#32
  let v13312 : BitVec 1 := Scalar.cmpi .eq arg0 c166_i32
  let v13313 : BitVec 32 := Scalar.extui v13312
  let c0_i32_5782 : BitVec 32 := 0#32
  let v13314 : BitVec 1 := Scalar.cmpi .ne v13313 c0_i32_5782
  v13314

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8016 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ForwardReferenceIdeal.lean ====
abbrev S1002x8 : Shape := ⟨2, ![1002, 8]⟩
abbrev S128256x1024 : Shape := ⟨2, ![128256, 1024]⟩
abbrev S1024x1024 : Shape := ⟨2, ![1024, 1024]⟩
abbrev S1x1024 : Shape := ⟨2, ![1, 1024]⟩
abbrev S1002x128x8x128 : Shape := ⟨4, ![1002, 128, 8, 128]⟩
abbrev S1002x1x8x1 : Shape := ⟨4, ![1002, 1, 8, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S1002x8, .f32⟩
  | .hbm, ⟨1, _⟩ => ⟨S128256x1024, .fp8e4m3⟩
  | .hbm, ⟨2, _⟩ => ⟨S1024x1024, .bf16⟩
  | .hbm, ⟨3, _⟩ => ⟨S1x1024, .i32⟩
  | .hbm, ⟨4, _⟩ => ⟨S128256x1024, .f32⟩
  | .hbm, ⟨5, _⟩ => ⟨S1x1024, .f32⟩
  | .local _ .vmem, ⟨0, _⟩ => ⟨S1002x8, .f32⟩
  | .local _ .vmem, ⟨1, _⟩ => ⟨S128256x1024, .fp8e4m3⟩
  | .local _ .vmem, ⟨2, _⟩ => ⟨S1024x1024, .bf16⟩
  | .local _ .vmem, ⟨3, _⟩ => ⟨S1x1024, .i32⟩
  | .local _ .vmem, ⟨4, _⟩ => ⟨S128256x1024, .f32⟩
  | .local _ .vmem, ⟨5, _⟩ => ⟨S1x1024, .f32⟩
  | _, _ => ⟨S1002x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1002x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128256x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.FwdTile.lean ====
module
public import proofs.«01_k».proof.Proof.Gen.ForwardIdeal.Skeleton
public import Idealize.ShloMosaic.Lib.Pipeline.ValueKit
public import Idealize.ShloMosaic.Lib.Pipeline.ReadBack
@[expose] public section
set_option maxRecDepth 16384
noncomputable section

/-! The forward call's block of widened weights and its product with the activations, as functions of the block's inputs. -/

namespace Cert.ForwardIdeal.Blk
open Cert.ForwardIdeal Cert.ForwardIdeal.Gen Idealize.ShloMosaic Idealize.ShloMosaic.TcCoe
variable {F : FTy → Type} [FloatOps F]

theorem inbTile (R C : Nat) (hR : R + 128 ≤ 768) (hC : C + 128 ≤ 1024) :
    ∀ a : Fin 2, (![R, C] : Fin 2 → Nat) a + (![128, 128] : Fin 2 → Nat) a ≤ S768x1024.size a := by
  intro a; fin_cases a
  · exact hR
  · exact hC

abbrev ldTile {e : EltTy} (X : Vec F S768x1024 e) (R C : Nat) (hR : R + 128 ≤ 768) (hC : C + 128 ≤ 1024) : Vec F S128x128 e :=
  View.ld X (Rect.unit (s := S768x1024) ![R, C] ![128, 128] (inbTile R C hR hC))

theorem ldTile_apply {e : EltTy} (X : Vec F S768x1024 e) (R C : Nat) (hR : R + 128 ≤ 768) (hC : C + 128 ≤ 1024)
    (x : S128x128.Idx) (v : Fin 768) (t : Fin 1024) (hv : v.val = R + (x 0).val) (ht : t.val = C + (x 1).val) :
    ldTile X R C hR hC x = X (ix2 v t) := by
  refine View.ld_unit_apply_of X _ _ _ _ _ fun a => ?_
  fin_cases a
  · exact hv
  · exact ht

theorem same_apply {α : Type} (f : S128x128.Idx → α) (x : S128x128.Idx) :
    shapeCast S128x128 f shapeCasts_S128x128_S128x128 x = f x := by
  rw [shapeCast_self]

theorem off1_eq (i : grid0.Coords) (r : Fin 6) (c : Fin 8) :
    k0_off1 i (BitVec.ofNat 32 r.val) (BitVec.ofNat 32 c.val) 0 = ((i 0).val * 6 + r.val) * 8 + c.val := by
  have r_r : r.val < 6 := r.isLt
  have r_c : c.val < 8 := c.isLt
  have r_i : (i 0).val < 167 := (i 0).isLt
  have h1 : Affine.IsInt (BitVec.ofNat 32 r.val) ((r.val : Int)) := Affine.ofNat _ (by omega)
  have h2 : Affine.IsInt (BitVec.ofNat 32 c.val) ((c.val : Int)) := Affine.ofNat _ (by omega)
  have h0 : Affine.IsInt (BitVec.ofNat 32 (i 0).val) (((i 0).val : Int)) := Affine.ofNat _ (by omega)
  have h6 : Affine.IsInt 6#32 (6) := Affine.ofNat _ (by omega)
  have h3 : Affine.IsInt _ (6 * ((i 0).val : Int)) := Affine.muli h0 h6 (by omega)
  have h4 : Affine.IsInt _ (6 * ((i 0).val : Int) + (r.val : Int)) := Affine.addi h3 h1 (by omega)
  have h8 : Affine.IsInt 8#32 (8) := Affine.ofNat _ (by omega)
  have h5 : Affine.IsInt _ (48 * ((i 0).val : Int) + 8 * (r.val : Int)) := Affine.muli h4 h8 (by omega)
  have h7 : Affine.IsInt _ (48 * ((i 0).val : Int) + 8 * (r.val : Int) + (c.val : Int)) := Affine.addi h5 h2 (by omega)
  exact Affine.nat_eq h7 _ (by push_cast; ring)

/-- The weight at row `v` and column `d` of the block, dequantised with the scale of its 128 x 128 tile. -/
def bWq (i : grid0.Coords) (x0 : Vec F S8016 .f32) (x1 : Vec F S768x1024 .fp8e4m3) (v : Fin 768) (d : Fin 1024) : F .bf16 :=
  FloatOps.mulf (FloatOps.extf .bf16 bitsLt_fp8e4m3_bf16 (x1 (ix2 v d)))
    (FloatOps.truncf .bf16 bitsLt_bf16_f32 (x0 (ix1 ⟨((i 0).val * 6 + v.val / 128) * 8 + d.val / 128, by
      have h : (i 0).val < 167 := (i 0).isLt
      omega⟩)))

theorem wq_tile (i : grid0.Coords) (x0 : Vec F S8016 .f32) (x1 : Vec F S768x1024 .fp8e4m3) (r : Fin 6) (c : Fin 8)
    (hn : 0 < (Rect.unit (s := S8016) (k0_off1 i (BitVec.ofNat 32 r.val) (BitVec.ofNat 32 c.val)) ![1] (k0_off1_inb i r c)).shape.numel)
    (pay : FVec F S128x128 .bf16) (x : S128x128.Idx) (y : S768x1024.Idx)
    (hp : pay = shapeCast S128x128 (mulf (extf .bf16 (ldTile x1 (128 * r.val) (128 * c.val) (by omega) (by omega)) bitsLt_fp8e4m3_bf16)
      (truncf .bf16 (broadcast S128x128 (View.ld x0 (Rect.unit (s := S8016) (k0_off1 i (BitVec.ofNat 32 r.val) (BitVec.ofNat 32 c.val)) ![1] (k0_off1_inb i r c))
        (Shape.Idx.first hn))) bitsLt_bf16_f32)) shapeCasts_S128x128_S128x128)
    (h0 : (y 0).val = 128 * r.val + (x 0).val) (h1 : (y 1).val = 128 * c.val + (x 1).val) (x0_lt : (x 0).val < 128) (x1_lt : (x 1).val < 128) :
    pay x = bWq i x0 x1 (y 0) (y 1) := by
  rw [hp, same_apply]
  show FloatOps.mulf (FloatOps.extf _ _ (ldTile x1 (128 * r.val) (128 * c.val) _ _ x)) (FloatOps.truncf _ _ (View.ld x0 _ _)) = _
  rw [ldTile_apply x1 _ _ _ _ x (y 0) (y 1) h0 h1]
  unfold bWq
  congr 2
  refine View.ld_unit_apply_of x0 _ _ _ _ _ fun a => ?_
  fin_cases a
  show ((i 0).val * 6 + (y 0).val / 128) * 8 + (y 1).val / 128 = k0_off1 i _ _ 0 + 0
  rw [off1_eq, h0, h1]
  omega

/-- A block of transposed logits: the widened weights times the transposed activations. -/
def bLT (i : grid0.Coords) (x0 : Vec F S8016 .f32) (x1 : Vec F S768x1024 .fp8e4m3) (x2 : Vec F S1024x1024 .bf16) : FVec F S768x1024 .f32 :=
  matmul dot_S768x1024_S1024x1024_S768x1024_1_0_0_1_n_n none
    (fun y : S768x1024.Idx => bWq i x0 x1 (y 0) (y 1)) x2 (constant S768x1024 .f32 0x00000000#32)

theorem canon_whole2 {e : EltTy} {n0 n1 : Nat} (v : View sig .tc .vmem ⟨2, ![n0, n1]⟩ e) (L : List (View.Piece (Elt F) ⟨2, ![n0, n1]⟩ e))
    (inb) (G : Vec F ⟨2, ![n0, n1]⟩ e) (hL : ∀ z, View.canon L z = G z) :
    v.readCov L (Rect.unit (s := ⟨2, ![n0, n1]⟩) ![0, 0] ![n0, n1] inb).toLoadRect = G := by
  rw [View.readCov_eq_canon']
  funext j
  rw [hL]
  refine congrArg G (funext fun a => Fin.ext ?_)
  fin_cases a
  · show 0 + 1 * (j 0).val = (j 0).val
    omega
  · show 0 + 1 * (j 1).val = (j 1).val
    omega

theorem ld_whole2 {e : EltTy} {n0 n1 : Nat} (X : Vec F ⟨2, ![n0, n1]⟩ e) (inb) :
    View.ld X (Rect.unit (s := ⟨2, ![n0, n1]⟩) ![0, 0] ![n0, n1] inb) = X := by
  funext j
  refine View.ld_unit_apply_of X _ _ _ _ _ fun a => ?_
  fin_cases a <;> exact (Nat.zero_add _).symm

theorem idx_eq2 {n0 n1 : Nat} (x y : (⟨2, ![n0, n1]⟩ : Shape).Idx) (h0 : (y 0).val = (x 0).val) (h1 : (y 1).val = (x 1).val) : x = y := by
  funext a; fin_cases a
  · exact Fin.ext h0.symm
  · exact Fin.ext h1.symm

end Cert.ForwardIdeal.Blk
-- ==== Proof.FwdA.lean ====
module
public import proofs.«01_k».proof.Proof.Gen.ForwardIdeal.Frame
public import proofs.«01_k».proof.Proof.FwdTile
@[expose] public section
set_option maxRecDepth 16384
set_option maxHeartbeats 4000000
noncomputable section

/-! The block of transposed logits that the forward call's body leaves at the first point. -/

namespace Cert.ForwardIdeal.Blk
open Cert.ForwardIdeal Cert.ForwardIdeal.Gen Idealize.ShloMosaic Idealize.ShloMosaic.TcCoe
variable {F : FTy → Type} [FloatOps F]
theorem lt_A (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : cond0_0 i) (hc1 : ¬cond0_1 i)
    (x0 : Vec F S8016 .f32) (x1 : Vec F S768x1024 .fp8e4m3) (x2 : Vec F S1024x1024 .bf16) (x3 : Vec F S1x1024 .i32) :
    out0_A_4 c i arg1 harg1 arg2 harg2 arg3 harg3 arg4 harg4 arg5 harg5 arg6 harg6 arg7 harg7 arg8 harg8 arg9 harg9 arg10 harg10 arg11 harg11 hc0 hc1 x0 x1 x2 x3 = bLT i x0 x1 x2 := by
  funext y
  frame_open
  rw [View.read_writes_junk_apply_eq_canon]
  simp only [View.readAt_eq_ld, Memref.IsWhole.read_unread]
  canon_tiles x h
  refine (congrFun (congrArg₂ k0_pay61 (canon_whole2 _ _ _ (fun z : S768x1024.Idx => bWq i x0 x1 (z 0) (z 1)) ?_) (ld_whole2 _ _)) x).trans ?_
  · intro z
    canon_tiles w h
    case piece0 => exact wq_tile i x0 x1 5 7 _ _ w z (by rfl) (by simpa using h0) (by simpa using h1) w0_lt w1_lt
    case piece1 => exact wq_tile i x0 x1 5 6 _ _ w z (by rfl) (by simpa using h0) (by simpa using h1) w0_lt w1_lt
    case piece2 => exact wq_tile i x0 x1 5 5 _ _ w z (by rfl) (by simpa using h0) (by simpa using h1) w0_lt w1_lt
    case piece3 => exact wq_tile i x0 x1 5 4 _ _ w z (by rfl) (by simpa using h0) (by simpa using h1) w0_lt w1_lt
    case piece4 => exact wq_tile i x0 x1 5 3 _ _ w z (by rfl) (by simpa using h0) (by simpa using h1) w0_lt w1_lt
    case piece5 => exact wq_tile i x0 x1 5 2 _ _ w z (by rfl) (by simpa using h0) (by simpa using h1) w0_lt w1_lt
    case piece6 => exact wq_tile i x0 x1 5 1 _ _ w z (by rfl) (by simpa using h0) (by simpa using h1) w0_lt w1_lt
    case piece7 => exact wq_tile i x0 x1 5 0 _ _ w z (by rfl) (by simpa using h0) (by simpa using h1) w0_lt w1_lt
    case piece8 => exact wq_tile i x0 x1 4 7 _ _ w z (by rfl) (by simpa using h0) (by simpa using h1) w0_lt w1_lt
    case piece9 => exact wq_tile i x0 x1 4 6 _ _ w z (by rfl) (by simpa using h0) (by simpa using h1) w0_lt w1_lt
    case piece10 => exact wq_tile i x0 x1 4 5 _ _ w z (by rfl) (by simpa using h0) (by simpa using h1) w0_lt w1_lt
    case piece11 => exact wq_tile i x0 x1 4 4 _ _ w z (by rfl) (by simpa using h0) (by simpa using h1) w0_lt w1_lt
    case piece12 => exact wq_tile i x0 x1 4 3 _ _ w z (by rfl) (by simpa using h0) (by simpa using h1) w0_lt w1_lt
    case piece13 => exact wq_tile i x0 x1 4 2 _ _ w z (by rfl) (by simpa using h0) (by simpa using h1) w0_lt w1_lt
    case piece14 => exact wq_tile i x0 x1 4 1 _ _ w z (by rfl) (by simpa using h0) (by simpa using h1) w0_lt w1_lt
    case piece15 => exact wq_tile i x0 x1 4 0 _ _ w z (by rfl) (by simpa using h0) (by simpa using h1) w0_lt w1_lt
    case piece16 => exact wq_tile i x0 x1 3 7 _ _ w z (by rfl) (by simpa using h0) (by simpa using h1) w0_lt w1_lt
    case piece17 => exact wq_tile i x0 x1 3 6 _ _ w z (by rfl) (by simpa using h0) (by simpa using h1) w0_lt w1_lt
    case piece18 => exact wq_tile i x0 x1 3 5 _ _ w z (by rfl) (by simpa using h0) (by simpa using h1) w0_lt w1_lt
    case piece19 => exact wq_tile i x0 x1 3 4 _ _ w z (by rfl) (by simpa using h0) (by simpa using h1) w0_lt w1_lt
    case piece20 => exact wq_tile i x0 x1 3 3 _ _ w z (by rfl) (by simpa using h0) (by simpa using h1) w0_lt w1_lt
    case piece21 => exact wq_tile i x0 x1 3 2 _ _ w z (by rfl) (by simpa using h0) (by simpa using h1) w0_lt w1_lt
    case piece22 => exact wq_tile i x0 x1 3 1 _ _ w z (by rfl) (by simpa using h0) (by simpa using h1) w0_lt w1_lt
    case piece23 => exact wq_tile i x0 x1 3 0 _ _ w z (by rfl) (by simpa using h0) (by simpa using h1) w0_lt w1_lt
    case piece24 => exact wq_tile i x0 x1 2 7 _ _ w z (by rfl) (by simpa using h0) (by simpa using h1) w0_lt w1_lt
    case piece25 => exact wq_tile i x0 x1 2 6 _ _ w z (by rfl) (by simpa using h0) (by simpa using h1) w0_lt w1_lt
    case piece26 => exact wq_tile i x0 x1 2 5 _ _ w z (by rfl) (by simpa using h0) (by simpa using h1) w0_lt w1_lt
    case piece27 => exact wq_tile i x0 x1 2 4 _ _ w z (by rfl) (by simpa using h0) (by simpa using h1) w0_lt w1_lt
    case piece28 => exact wq_tile i x0 x1 2 3 _ _ w z (by rfl) (by simpa using h0) (by simpa using h1) w0_lt w1_lt
    case piece29 => exact wq_tile i x0 x1 2 2 _ _ w z (by rfl) (by simpa using h0) (by simpa using h1) w0_lt w1_lt
    case piece30 => exact wq_tile i x0 x1 2 1 _ _ w z (by rfl) (by simpa using h0) (by simpa using h1) w0_lt w1_lt
    case piece31 => exact wq_tile i x0 x1 2 0 _ _ w z (by rfl) (by simpa using h0) (by simpa using h1) w0_lt w1_lt
    case piece32 => exact wq_tile i x0 x1 1 7 _ _ w z (by rfl) (by simpa using h0) (by simpa using h1) w0_lt w1_lt
    case piece33 => exact wq_tile i x0 x1 1 6 _ _ w z (by rfl) (by simpa using h0) (by simpa using h1) w0_lt w1_lt
    case piece34 => exact wq_tile i x0 x1 1 5 _ _ w z (by rfl) (by simpa using h0) (by simpa using h1) w0_lt w1_lt
    case piece35 => exact wq_tile i x0 x1 1 4 _ _ w z (by rfl) (by simpa using h0) (by simpa using h1) w0_lt w1_lt
    case piece36 => exact wq_tile i x0 x1 1 3 _ _ w z (by rfl) (by simpa using h0) (by simpa using h1) w0_lt w1_lt
    case piece37 => exact wq_tile i x0 x1 1 2 _ _ w z (by rfl) (by simpa using h0) (by simpa using h1) w0_lt w1_lt
    case piece38 => exact wq_tile i x0 x1 1 1 _ _ w z (by rfl) (by simpa using h0) (by simpa using h1) w0_lt w1_lt
    case piece39 => exact wq_tile i x0 x1 1 0 _ _ w z (by rfl) (by simpa using h0) (by simpa using h1) w0_lt w1_lt
    case piece40 => exact wq_tile i x0 x1 0 7 _ _ w z (by rfl) (by simpa using h0) (by simpa using h1) w0_lt w1_lt
    case piece41 => exact wq_tile i x0 x1 0 6 _ _ w z (by rfl) (by simpa using h0) (by simpa using h1) w0_lt w1_lt
    case piece42 => exact wq_tile i x0 x1 0 5 _ _ w z (by rfl) (by simpa using h0) (by simpa using h1) w0_lt w1_lt
    case piece43 => exact wq_tile i x0 x1 0 4 _ _ w z (by rfl) (by simpa using h0) (by simpa using h1) w0_lt w1_lt
    case piece44 => exact wq_tile i x0 x1 0 3 _ _ w z (by rfl) (by simpa using h0) (by simpa using h1) w0_lt w1_lt
    case piece45 => exact wq_tile i x0 x1 0 2 _ _ w z (by rfl) (by simpa using h0) (by simpa using h1) w0_lt w1_lt
    case piece46 => exact wq_tile i x0 x1 0 1 _ _ w z (by rfl) (by simpa using h0) (by simpa using h1) w0_lt w1_lt
    case piece47 => exact wq_tile i x0 x1 0 0 _ _ w z (by rfl) (by simpa using h0) (by simpa using h1) w0_lt w1_lt
  · rw [idx_eq2 x y h0 h1]
    rfl

end Cert.ForwardIdeal.Blk
-- ==== Proof.FwdVec.lean ====
module
public import proofs.«01_k».proof.Proof.Gen.ForwardIdeal.Skeleton
public import proofs.«01_k».proof.Proof.FwdTile
@[expose] public section
set_option maxRecDepth 16384
noncomputable section

/-! One step of the forward call on 128 tokens: the running maximum, sum of exponentials and label logit after a chunk of 768 logits, as vectors. -/

namespace Cert.ForwardIdeal.Blk
open Cert.ForwardIdeal Cert.ForwardIdeal.Gen Idealize.ShloMosaic Idealize.ShloMosaic.TcCoe

section
variable {F : FTy → Type} [FloatOps F]

/-! ## Eight rows at a time -/

def vHit (lb : IVec S8x128 32) (k : Nat) : IVec S8x128 1 :=
  cmpi .eq (addi (iota .tc S8x128 32 [0] iota_S8x128_d0_w32) (broadcast S8x128 (BitVec.ofNat 32 (8 * k)))) lb

def vM8 (lb : IVec S8x128 32) (X : Fin 96 → FVec F S8x128 .f32) : (n : Nat) → n ≤ 96 → FVec F S8x128 .f32
  | 0, _ => broadcast S8x128 (Scalar.ofBits .f32 0xFF61B1E6#32)
  | n + 1, h => maximumf (vM8 lb X n (Nat.le_of_succ_le h)) (select (vHit lb n) (broadcast S8x128 (Scalar.ofBits .f32 0xFF61B1E6#32))
      (shapeCast S8x128 (X ⟨n, h⟩) shapeCasts_S8x128_S8x128))

def vL8 (lb : IVec S8x128 32) (X : Fin 96 → FVec F S8x128 .f32) : (n : Nat) → n ≤ 96 → FVec F S8x128 .f32
  | 0, _ => broadcast S8x128 (Scalar.ofBits .f32 0x00000000#32)
  | n + 1, h => addf (vL8 lb X n (Nat.le_of_succ_le h)) (select (vHit lb n) (shapeCast S8x128 (X ⟨n, h⟩) shapeCasts_S8x128_S8x128)
      (broadcast S8x128 (Scalar.ofBits .f32 0x00000000#32)))

def vS8 (mb : FVec F S8x128 .f32) (X : Fin 96 → FVec F S8x128 .f32) : (n : Nat) → n ≤ 96 → FVec F S8x128 .f32
  | 0, _ => broadcast S8x128 (Scalar.ofBits .f32 0x00000000#32)
  | n + 1, h => addf (vS8 mb X n (Nat.le_of_succ_le h)) (exp (subf (shapeCast S8x128 (X ⟨n, h⟩) shapeCasts_S8x128_S8x128) mb))

/-! ## The chunk -/

def vLab (i : BitVec 32) (lab : IVec S1x128 32) : IVec S1x128 32 := subi lab (broadcast S1x128 (Scalar.muli i 768#32))

def vLabB (i : BitVec 32) (lab : IVec S1x128 32) : IVec S8x128 32 :=
  broadcastTo S8x128 (shapeCast S1x128 (vLab i lab) shapeCasts_S1x128_S1x128) broadcasts_S1x128_S8x128

def vCm (i : BitVec 32) (lab : IVec S1x128 32) (X : Fin 96 → FVec F S8x128 .f32) : FVec F S1x128 .f32 :=
  shapeCast S1x128 (multiReduction .maximumf [0] S128 (vM8 (vLabB i lab) X 96 (Nat.le_refl _)) 0xFF800000#32 reduces_S8x128_S128 (.inl rfl) rfl)
    shapeCasts_S128_S1x128

def vLs (i : BitVec 32) (lab : IVec S1x128 32) (X : Fin 96 → FVec F S8x128 .f32) : FVec F S1x128 .f32 :=
  shapeCast S1x128 (multiReduction .add [0] S128 (vL8 (vLabB i lab) X 96 (Nat.le_refl _)) 0x00000000#32 reduces_S8x128_S128 (.inl rfl) rfl)
    shapeCasts_S128_S1x128

def vMx (i : BitVec 32) (lab : IVec S1x128 32) (X : Fin 96 → FVec F S8x128 .f32) (mo : FVec F S1x128 .f32) : FVec F S1x128 .f32 :=
  maximumf (shapeCast S1x128 mo shapeCasts_S1x128_S1x128) (maximumf (vCm i lab X)
    (select (andi (cmpi .sge (vLab i lab) (broadcast S1x128 0#32)) (cmpi .slt (vLab i lab) (broadcast S1x128 768#32))) (vLs i lab X)
      (broadcast S1x128 (Scalar.ofBits .f32 0xFF61B1E6#32))))

def vSm (i : BitVec 32) (lab : IVec S1x128 32) (X : Fin 96 → FVec F S8x128 .f32) (mo so : FVec F S1x128 .f32) : FVec F S1x128 .f32 :=
  addf (mulf (shapeCast S1x128 so shapeCasts_S1x128_S1x128) (exp (subf (shapeCast S1x128 mo shapeCasts_S1x128_S1x128) (vMx i lab X mo))))
    (shapeCast S1x128 (multiReduction .add [0] S128
      (vS8 (broadcastTo S8x128 (shapeCast S1x128 (vMx i lab X mo) shapeCasts_S1x128_S1x128) broadcasts_S1x128_S8x128) X 96 (Nat.le_refl _))
      0x00000000#32 reduces_S8x128_S128 (.inl rfl) rfl) shapeCasts_S128_S1x128)

def vLl (i : BitVec 32) (lab : IVec S1x128 32) (X : Fin 96 → FVec F S8x128 .f32) (lo : FVec F S1x128 .f32) : FVec F S1x128 .f32 :=
  addf (shapeCast S1x128 lo shapeCasts_S1x128_S1x128) (vLs i lab X)

end

/-! ## All the tokens of a block -/

section
variable {F : FTy → Type} [FloatOps F]

theorem inbStrip (k : Fin 96) (C : Nat) (hC : C + 128 ≤ 1024) :
    ∀ a : Fin 2, (![8 * k.val, C] : Fin 2 → Nat) a + (![8, 128] : Fin 2 → Nat) a ≤ S768x1024.size a := by
  have hk := k.isLt
  intro a; fin_cases a
  · show 8 * k.val + 8 ≤ 768
    omega
  · exact hC

theorem inbTok (C : Nat) (hC : C + 128 ≤ 1024) :
    ∀ a : Fin 2, (![0, C] : Fin 2 → Nat) a + (![1, 128] : Fin 2 → Nat) a ≤ S1x1024.size a := by
  intro a; fin_cases a
  · exact Nat.le_refl 1
  · exact hC

theorem col_le (c : Fin 8) : 128 * c.val + 128 ≤ 1024 := by have := c.isLt; omega

abbrev ldStrip (W : Vec F S768x1024 .f32) (c : Fin 8) (k : Fin 96) : Vec F S8x128 .f32 :=
  View.ld W (Rect.unit (s := S768x1024) ![8 * k.val, 128 * c.val] ![8, 128] (inbStrip k _ (col_le c)))

abbrev ldTok {e : EltTy} (X : Vec F S1x1024 e) (c : Fin 8) : Vec F S1x128 e :=
  View.ld X (Rect.unit (s := S1x1024) ![0, 128 * c.val] ![1, 128] (inbTok _ (col_le c)))

abbrev colOf (y : S1x1024.Idx) : Fin 8 := ⟨(y 1).val / 128, by have h : (y 1).val < 1024 := (y 1).isLt; omega⟩
abbrev laneOf (y : S1x1024.Idx) : Fin 128 := ⟨(y 1).val % 128, Nat.mod_lt _ (by decide)⟩

def bMx (i : grid0.Coords) (W : Vec F S768x1024 .f32) (lab : Vec F S1x1024 .i32) (mo : Vec F S1x1024 .f32) : Vec F S1x1024 .f32 := fun y =>
  vMx (BitVec.ofNat 32 (i 0).val) (ldTok lab (colOf y)) (ldStrip W (colOf y)) (ldTok mo (colOf y)) (ix2 0 (laneOf y))

def bSm (i : grid0.Coords) (W : Vec F S768x1024 .f32) (lab : Vec F S1x1024 .i32) (mo so : Vec F S1x1024 .f32) : Vec F S1x1024 .f32 := fun y =>
  vSm (BitVec.ofNat 32 (i 0).val) (ldTok lab (colOf y)) (ldStrip W (colOf y)) (ldTok mo (colOf y)) (ldTok so (colOf y)) (ix2 0 (laneOf y))

def bLl (i : grid0.Coords) (W : Vec F S768x1024 .f32) (lab : Vec F S1x1024 .i32) (lo : Vec F S1x1024 .f32) : Vec F S1x1024 .f32 := fun y =>
  vLl (BitVec.ofNat 32 (i 0).val) (ldTok lab (colOf y)) (ldStrip W (colOf y)) (ldTok lo (colOf y)) (ix2 0 (laneOf y))

/-- Where some later store covers an index, what was stored before does not matter there. -/
theorem canon_keep {S : Shape} {e : EltTy} (L L' : List (View.Piece (Elt F) S e)) (y : S.Idx) (v : Elt F e) (hc : ∃ p ∈ L, y ∈ p.1.set)
    (h : View.canon L y = v) : View.canon (L ++ L') y = v := by
  rw [← h]
  clear h
  induction L with
  | nil => obtain ⟨p, hp, _⟩ := hc; exact absurd hp List.not_mem_nil
  | cons q L ih =>
    rw [List.cons_append]
    by_cases hy : y ∈ q.1.set
    · rw [← Rect.map_emb_univ] at hy
      obtain ⟨x, _, rfl⟩ := Finset.mem_map.mp hy
      exact (View.canon_cons_emb q.1 q.2 (L ++ L') x).trans (View.canon_cons_emb q.1 q.2 L x).symm
    · rw [View.canon_cons_of_not_mem q _ hy, View.canon_cons_of_not_mem q _ hy]
      refine ih ?_
      obtain ⟨p, hp, hm⟩ := hc
      rcases List.mem_cons.mp hp with rfl | hp
      · exact absurd hm hy
      · exact ⟨p, hp, hm⟩

theorem pay1_congr {m m' s s' l l' : Vec F S1x1024 .f32} (hm : m = m') (hs : s = s') (hl : l = l') : k0_pay1 m s l = k0_pay1 m' s' l' := by
  rw [hm, hs, hl]

theorem col_eq (c : Fin 8) (x : S1x128.Idx) (y : S1x1024.Idx) (h1 : (y 1).val = 128 * c.val + (x 1).val) (hx : (x 1).val < 128) :
    colOf y = c ∧ ix2 0 (laneOf y) = x := by
  refine ⟨Fin.ext ?_, idx_eq2 _ _ ?_ ?_⟩
  · show (y 1).val / 128 = c.val
    omega
  · have h : (x 0).val < 1 := (x 0).isLt
    show (x 0).val = 0
    omega
  · show (x 1).val = (y 1).val % 128
    omega

section
variable (i : grid0.Coords) (W : Vec F S768x1024 .f32) (lab : Vec F S1x1024 .i32) (mo so lo : Vec F S1x1024 .f32)
  (v : View sig .tc .vmem S768x1024 .f32) (L : List (View.Piece (Elt F) S768x1024 .f32)) (hL : ∀ z, View.canon L z = W z)
  (c : Fin 8) (pay : Vec F S1x128 .f32) (x : S1x128.Idx) (y : S1x1024.Idx)
  (h1 : (y 1).val = 128 * c.val + (x 1).val) (hx : (x 1).val < 128)
include hL h1 hx

omit h1 hx in
theorem strip_eq : (fun k : Fin 96 => v.readCov L (Rect.unit (s := S768x1024) ![8 * k.val, 128 * c.val] ![8, 128] (inbStrip k _ (col_le c))).toLoadRect) = ldStrip W c := by
  funext k j
  rw [View.readCov_eq_canon']
  exact hL _

theorem mx_tile (hp : pay = vMx (BitVec.ofNat 32 (i 0).val) (ldTok lab c)
      (fun k : Fin 96 => v.readCov L (Rect.unit (s := S768x1024) ![8 * k.val, 128 * c.val] ![8, 128] (inbStrip k _ (col_le c))).toLoadRect) (ldTok mo c)) :
    pay x = bMx i W lab mo y := by
  obtain ⟨e1, e2⟩ := col_eq c x y h1 hx
  rw [hp, strip_eq W v L hL c]
  unfold bMx
  rw [e1, e2]

theorem sm_tile (hp : pay = vSm (BitVec.ofNat 32 (i 0).val) (ldTok lab c)
      (fun k : Fin 96 => v.readCov L (Rect.unit (s := S768x1024) ![8 * k.val, 128 * c.val] ![8, 128] (inbStrip k _ (col_le c))).toLoadRect) (ldTok mo c) (ldTok so c)) :
    pay x = bSm i W lab mo so y := by
  obtain ⟨e1, e2⟩ := col_eq c x y h1 hx
  rw [hp, strip_eq W v L hL c]
  unfold bSm
  rw [e1, e2]

theorem ll_tile (hp : pay = vLl (BitVec.ofNat 32 (i 0).val) (ldTok lab c)
      (fun k : Fin 96 => v.readCov L (Rect.unit (s := S768x1024) ![8 * k.val, 128 * c.val] ![8, 128] (inbStrip k _ (col_le c))).toLoadRect) (ldTok lo c)) :
    pay x = bLl i W lab lo y := by
  obtain ⟨e1, e2⟩ := col_eq c x y h1 hx
  rw [hp, strip_eq W v L hL c]
  unfold bLl
  rw [e1, e2]

end
end

end Cert.ForwardIdeal.Blk
-- ==== Proof.StatA.lean ====
module
public import proofs.«01_k».proof.Proof.Gen.ForwardIdeal.Frame
public import proofs.«01_k».proof.Proof.FwdA
public import proofs.«01_k».proof.Proof.FwdVec
@[expose] public section
set_option maxRecDepth 16384
set_option maxHeartbeats 4000000
noncomputable section

/-! The running maximum, sum of exponentials and label logit that the forward call's body leaves at the first point. -/

namespace Cert.ForwardIdeal.Blk
open Cert.ForwardIdeal Cert.ForwardIdeal.Gen Idealize.ShloMosaic Idealize.ShloMosaic.TcCoe
variable {F : FTy → Type} [FloatOps F]
theorem mx_A (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : cond0_0 i) (hc1 : ¬cond0_1 i)
    (x0 : Vec F S8016 .f32) (x1 : Vec F S768x1024 .fp8e4m3) (x2 : Vec F S1024x1024 .bf16) (x3 : Vec F S1x1024 .i32) :
    out0_A_6 c i arg1 harg1 arg2 harg2 arg3 harg3 arg4 harg4 arg5 harg5 arg6 harg6 arg7 harg7 arg8 harg8 arg9 harg9 arg10 harg10 arg11 harg11 hc0 hc1 x0 x1 x2 x3 = bMx i (bLT i x0 x1 x2) x3 k0_pay2 := by
  have hW : ∀ z, View.canon (kernelRun0_A c i arg1 harg1 arg2 harg2 arg3 harg3 arg4 harg4 arg5 harg5 arg6 harg6 arg7 harg7 arg8 harg8 arg9 harg9 arg10 harg10 arg11 harg11 hc0 hc1 x0 x1 x2 x3).1 z = bLT i x0 x1 x2 z := fun z =>
    (View.read_writes_junk_apply_eq_canon _ _ _).symm.trans (congrFun (lt_A c i arg1 harg1 arg2 harg2 arg3 harg3 arg4 harg4 arg5 harg5 arg6 harg6 arg7 harg7 arg8 harg8 arg9 harg9 arg10 harg10 arg11 harg11 hc0 hc1 x0 x1 x2 x3) z)
  frame_open at hW
  simp only [View.readAt_eq_ld, Memref.IsWhole.read_unread] at hW
  funext y
  frame_open
  rw [View.read_writes_junk_apply_eq_canon]
  simp only [View.readAt_eq_ld, Memref.IsWhole.read_unread]
  refine canon_keep [_, _, _, _, _, _, _, _] [_] y _ (View.cover_of_tiledL _ ![1, 128] (by rfl) y) ?_
  canon_tiles x h
  case piece0 =>
    refine mx_tile i _ x3 k0_pay2 arg5.view _ hW 7 _ x y (by simpa using h1) x1_lt ?_
    simp (decide := true) only [↓View.readCov_skip, View.readCov_fill]
    rfl
  case piece1 =>
    refine mx_tile i _ x3 k0_pay2 arg5.view _ hW 6 _ x y (by simpa using h1) x1_lt ?_
    simp (decide := true) only [↓View.readCov_skip, View.readCov_fill]
    rfl
  case piece2 =>
    refine mx_tile i _ x3 k0_pay2 arg5.view _ hW 5 _ x y (by simpa using h1) x1_lt ?_
    simp (decide := true) only [↓View.readCov_skip, View.readCov_fill]
    rfl
  case piece3 =>
    refine mx_tile i _ x3 k0_pay2 arg5.view _ hW 4 _ x y (by simpa using h1) x1_lt ?_
    simp (decide := true) only [↓View.readCov_skip, View.readCov_fill]
    rfl
  case piece4 =>
    refine mx_tile i _ x3 k0_pay2 arg5.view _ hW 3 _ x y (by simpa using h1) x1_lt ?_
    simp (decide := true) only [↓View.readCov_skip, View.readCov_fill]
    rfl
  case piece5 =>
    refine mx_tile i _ x3 k0_pay2 arg5.view _ hW 2 _ x y (by simpa using h1) x1_lt ?_
    simp (decide := true) only [↓View.readCov_skip, View.readCov_fill]
    rfl
  case piece6 =>
    refine mx_tile i _ x3 k0_pay2 arg5.view _ hW 1 _ x y (by simpa using h1) x1_lt ?_
    simp (decide := true) only [↓View.readCov_skip, View.readCov_fill]
    rfl
  case piece7 =>
    refine mx_tile i _ x3 k0_pay2 arg5.view _ hW 0 _ x y (by simpa using h1) x1_lt ?_
    simp (decide := true) only [↓View.readCov_skip, View.readCov_fill]
    rfl

theorem sm_A (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : cond0_0 i) (hc1 : ¬cond0_1 i)
    (x0 : Vec F S8016 .f32) (x1 : Vec F S768x1024 .fp8e4m3) (x2 : Vec F S1024x1024 .bf16) (x3 : Vec F S1x1024 .i32) :
    out0_A_7 c i arg1 harg1 arg2 harg2 arg3 harg3 arg4 harg4 arg5 harg5 arg6 harg6 arg7 harg7 arg8 harg8 arg9 harg9 arg10 harg10 arg11 harg11 hc0 hc1 x0 x1 x2 x3 = bSm i (bLT i x0 x1 x2) x3 k0_pay2 k0_pay3 := by
  have hW : ∀ z, View.canon (kernelRun0_A c i arg1 harg1 arg2 harg2 arg3 harg3 arg4 harg4 arg5 harg5 arg6 harg6 arg7 harg7 arg8 harg8 arg9 harg9 arg10 harg10 arg11 harg11 hc0 hc1 x0 x1 x2 x3).1 z = bLT i x0 x1 x2 z := fun z =>
    (View.read_writes_junk_apply_eq_canon _ _ _).symm.trans (congrFun (lt_A c i arg1 harg1 arg2 harg2 arg3 harg3 arg4 harg4 arg5 harg5 arg6 harg6 arg7 harg7 arg8 harg8 arg9 harg9 arg10 harg10 arg11 harg11 hc0 hc1 x0 x1 x2 x3) z)
  frame_open at hW
  simp only [View.readAt_eq_ld, Memref.IsWhole.read_unread] at hW
  funext y
  frame_open
  rw [View.read_writes_junk_apply_eq_canon]
  simp only [View.readAt_eq_ld, Memref.IsWhole.read_unread]
  refine canon_keep [_, _, _, _, _, _, _, _] [_] y _ (View.cover_of_tiledL _ ![1, 128] (by rfl) y) ?_
  canon_tiles x h
  case piece0 =>
    refine sm_tile i _ x3 k0_pay2 k0_pay3 arg5.view _ hW 7 _ x y (by simpa using h1) x1_lt ?_
    simp (decide := true) only [↓View.readCov_skip, View.readCov_fill]
    rfl
  case piece1 =>
    refine sm_tile i _ x3 k0_pay2 k0_pay3 arg5.view _ hW 6 _ x y (by simpa using h1) x1_lt ?_
    simp (decide := true) only [↓View.readCov_skip, View.readCov_fill]
    rfl
  case piece2 =>
    refine sm_tile i _ x3 k0_pay2 k0_pay3 arg5.view _ hW 5 _ x y (by simpa using h1) x1_lt ?_
    simp (decide := true) only [↓View.readCov_skip, View.readCov_fill]
    rfl
  case piece3 =>
    refine sm_tile i _ x3 k0_pay2 k0_pay3 arg5.view _ hW 4 _ x y (by simpa using h1) x1_lt ?_
    simp (decide := true) only [↓View.readCov_skip, View.readCov_fill]
    rfl
  case piece4 =>
    refine sm_tile i _ x3 k0_pay2 k0_pay3 arg5.view _ hW 3 _ x y (by simpa using h1) x1_lt ?_
    simp (decide := true) only [↓View.readCov_skip, View.readCov_fill]
    rfl
  case piece5 =>
    refine sm_tile i _ x3 k0_pay2 k0_pay3 arg5.view _ hW 2 _ x y (by simpa using h1) x1_lt ?_
    simp (decide := true) only [↓View.readCov_skip, View.readCov_fill]
    rfl
  case piece6 =>
    refine sm_tile i _ x3 k0_pay2 k0_pay3 arg5.view _ hW 1 _ x y (by simpa using h1) x1_lt ?_
    simp (decide := true) only [↓View.readCov_skip, View.readCov_fill]
    rfl
  case piece7 =>
    refine sm_tile i _ x3 k0_pay2 k0_pay3 arg5.view _ hW 0 _ x y (by simpa using h1) x1_lt ?_
    simp (decide := true) only [↓View.readCov_skip, View.readCov_fill]
    rfl

theorem ll_A (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : cond0_0 i) (hc1 : ¬cond0_1 i)
    (x0 : Vec F S8016 .f32) (x1 : Vec F S768x1024 .fp8e4m3) (x2 : Vec F S1024x1024 .bf16) (x3 : Vec F S1x1024 .i32) :
    out0_A_8 c i arg1 harg1 arg2 harg2 arg3 harg3 arg4 harg4 arg5 harg5 arg6 harg6 arg7 harg7 arg8 harg8 arg9 harg9 arg10 harg10 arg11 harg11 hc0 hc1 x0 x1 x2 x3 = bLl i (bLT i x0 x1 x2) x3 k0_pay4 := by
  have hW : ∀ z, View.canon (kernelRun0_A c i arg1 harg1 arg2 harg2 arg3 harg3 arg4 harg4 arg5 harg5 arg6 harg6 arg7 harg7 arg8 harg8 arg9 harg9 arg10 harg10 arg11 harg11 hc0 hc1 x0 x1 x2 x3).1 z = bLT i x0 x1 x2 z := fun z =>
    (View.read_writes_junk_apply_eq_canon _ _ _).symm.trans (congrFun (lt_A c i arg1 harg1 arg2 harg2 arg3 harg3 arg4 harg4 arg5 harg5 arg6 harg6 arg7 harg7 arg8 harg8 arg9 harg9 arg10 harg10 arg11 harg11 hc0 hc1 x0 x1 x2 x3) z)
  frame_open at hW
  simp only [View.readAt_eq_ld, Memref.IsWhole.read_unread] at hW
  funext y
  frame_open
  rw [View.read_writes_junk_apply_eq_canon]
  simp only [View.readAt_eq_ld, Memref.IsWhole.read_unread]
  refine canon_keep [_, _, _, _, _, _, _, _] [_] y _ (View.cover_of_tiledL _ ![1, 128] (by rfl) y) ?_
  canon_tiles x h
  case piece0 =>
    refine ll_tile i _ x3 k0_pay4 arg5.view _ hW 7 _ x y (by simpa using h1) x1_lt ?_
    simp (decide := true) only [↓View.readCov_skip, View.readCov_fill]
    rfl
  case piece1 =>
    refine ll_tile i _ x3 k0_pay4 arg5.view _ hW 6 _ x y (by simpa using h1) x1_lt ?_
    simp (decide := true) only [↓View.readCov_skip, View.readCov_fill]
    rfl
  case piece2 =>
    refine ll_tile i _ x3 k0_pay4 arg5.view _ hW 5 _ x y (by simpa using h1) x1_lt ?_
    simp (decide := true) only [↓View.readCov_skip, View.readCov_fill]
    rfl
  case piece3 =>
    refine ll_tile i _ x3 k0_pay4 arg5.view _ hW 4 _ x y (by simpa using h1) x1_lt ?_
    simp (decide := true) only [↓View.readCov_skip, View.readCov_fill]
    rfl
  case piece4 =>
    refine ll_tile i _ x3 k0_pay4 arg5.view _ hW 3 _ x y (by simpa using h1) x1_lt ?_
    simp (decide := true) only [↓View.readCov_skip, View.readCov_fill]
    rfl
  case piece5 =>
    refine ll_tile i _ x3 k0_pay4 arg5.view _ hW 2 _ x y (by simpa using h1) x1_lt ?_
    simp (decide := true) only [↓View.readCov_skip, View.readCov_fill]
    rfl
  case piece6 =>
    refine ll_tile i _ x3 k0_pay4 arg5.view _ hW 1 _ x y (by simpa using h1) x1_lt ?_
    simp (decide := true) only [↓View.readCov_skip, View.readCov_fill]
    rfl
  case piece7 =>
    refine ll_tile i _ x3 k0_pay4 arg5.view _ hW 0 _ x y (by simpa using h1) x1_lt ?_
    simp (decide := true) only [↓View.readCov_skip, View.readCov_fill]
    rfl

end Cert.ForwardIdeal.Blk
-- ==== Proof.FwdB.lean ====
module
public import proofs.«01_k».proof.Proof.Gen.ForwardIdeal.Frame
public import proofs.«01_k».proof.Proof.FwdTile
@[expose] public section
set_option maxRecDepth 16384
set_option maxHeartbeats 4000000
noncomputable section

/-! The block of transposed logits that the forward call's body leaves at a point between the first and the last. -/

namespace Cert.ForwardIdeal.Blk
open Cert.ForwardIdeal Cert.ForwardIdeal.Gen Idealize.ShloMosaic Idealize.ShloMosaic.TcCoe
variable {F : FTy → Type} [FloatOps F]
theorem lt_B (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : ¬cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_B_4 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bLT i x0 x1 x2 := by
  funext y
  frame_open
  rw [View.read_writes_junk_apply_eq_canon]
  simp only [View.readAt_eq_ld, Memref.IsWhole.read_unread]
  canon_tiles x h
  refine (congrFun (congrArg₂ k0_pay61 (canon_whole2 _ _ _ (fun z : S768x1024.Idx => bWq i x0 x1 (z 0) (z 1)) ?_) (ld_whole2 _ _)) x).trans ?_
  · intro z
    canon_tiles w h
    case piece0 => exact wq_tile i x0 x1 5 7 _ _ w z (by rfl) (by simpa using h0) (by simpa using h1) w0_lt w1_lt
    case piece1 => exact wq_tile i x0 x1 5 6 _ _ w z (by rfl) (by simpa using h0) (by simpa using h1) w0_lt w1_lt
    case piece2 => exact wq_tile i x0 x1 5 5 _ _ w z (by rfl) (by simpa using h0) (by simpa using h1) w0_lt w1_lt
    case piece3 => exact wq_tile i x0 x1 5 4 _ _ w z (by rfl) (by simpa using h0) (by simpa using h1) w0_lt w1_lt
    case piece4 => exact wq_tile i x0 x1 5 3 _ _ w z (by rfl) (by simpa using h0) (by simpa using h1) w0_lt w1_lt
    case piece5 => exact wq_tile i x0 x1 5 2 _ _ w z (by rfl) (by simpa using h0) (by simpa using h1) w0_lt w1_lt
    case piece6 => exact wq_tile i x0 x1 5 1 _ _ w z (by rfl) (by simpa using h0) (by simpa using h1) w0_lt w1_lt
    case piece7 => exact wq_tile i x0 x1 5 0 _ _ w z (by rfl) (by simpa using h0) (by simpa using h1) w0_lt w1_lt
    case piece8 => exact wq_tile i x0 x1 4 7 _ _ w z (by rfl) (by simpa using h0) (by simpa using h1) w0_lt w1_lt
    case piece9 => exact wq_tile i x0 x1 4 6 _ _ w z (by rfl) (by simpa using h0) (by simpa using h1) w0_lt w1_lt
    case piece10 => exact wq_tile i x0 x1 4 5 _ _ w z (by rfl) (by simpa using h0) (by simpa using h1) w0_lt w1_lt
    case piece11 => exact wq_tile i x0 x1 4 4 _ _ w z (by rfl) (by simpa using h0) (by simpa using h1) w0_lt w1_lt
    case piece12 => exact wq_tile i x0 x1 4 3 _ _ w z (by rfl) (by simpa using h0) (by simpa using h1) w0_lt w1_lt
    case piece13 => exact wq_tile i x0 x1 4 2 _ _ w z (by rfl) (by simpa using h0) (by simpa using h1) w0_lt w1_lt
    case piece14 => exact wq_tile i x0 x1 4 1 _ _ w z (by rfl) (by simpa using h0) (by simpa using h1) w0_lt w1_lt
    case piece15 => exact wq_tile i x0 x1 4 0 _ _ w z (by rfl) (by simpa using h0) (by simpa using h1) w0_lt w1_lt
    case piece16 => exact wq_tile i x0 x1 3 7 _ _ w z (by rfl) (by simpa using h0) (by simpa using h1) w0_lt w1_lt
    case piece17 => exact wq_tile i x0 x1 3 6 _ _ w z (by rfl) (by simpa using h0) (by simpa using h1) w0_lt w1_lt
    case piece18 => exact wq_tile i x0 x1 3 5 _ _ w z (by rfl) (by simpa using h0) (by simpa using h1) w0_lt w1_lt
    case piece19 => exact wq_tile i x0 x1 3 4 _ _ w z (by rfl) (by simpa using h0) (by simpa using h1) w0_lt w1_lt
    case piece20 => exact wq_tile i x0 x1 3 3 _ _ w z (by rfl) (by simpa using h0) (by simpa using h1) w0_lt w1_lt
    case piece21 => exact wq_tile i x0 x1 3 2 _ _ w z (by rfl) (by simpa using h0) (by simpa using h1) w0_lt w1_lt
    case piece22 => exact wq_tile i x0 x1 3 1 _ _ w z (by rfl) (by simpa using h0) (by simpa using h1) w0_lt w1_lt
    case piece23 => exact wq_tile i x0 x1 3 0 _ _ w z (by rfl) (by simpa using h0) (by simpa using h1) w0_lt w1_lt
    case piece24 => exact wq_tile i x0 x1 2 7 _ _ w z (by rfl) (by simpa using h0) (by simpa using h1) w0_lt w1_lt
    case piece25 => exact wq_tile i x0 x1 2 6 _ _ w z (by rfl) (by simpa using h0) (by simpa using h1) w0_lt w1_lt
    case piece26 => exact wq_tile i x0 x1 2 5 _ _ w z (by rfl) (by simpa using h0) (by simpa using h1) w0_lt w1_lt
    case piece27 => exact wq_tile i x0 x1 2 4 _ _ w z (by rfl) (by simpa using h0) (by simpa using h1) w0_lt w1_lt
    case piece28 => exact wq_tile i x0 x1 2 3 _ _ w z (by rfl) (by simpa using h0) (by simpa using h1) w0_lt w1_lt
    case piece29 => exact wq_tile i x0 x1 2 2 _ _ w z (by rfl) (by simpa using h0) (by simpa using h1) w0_lt w1_lt
    case piece30 => exact wq_tile i x0 x1 2 1 _ _ w z (by rfl) (by simpa using h0) (by simpa using h1) w0_lt w1_lt
    case piece31 => exact wq_tile i x0 x1 2 0 _ _ w z (by rfl) (by simpa using h0) (by simpa using h1) w0_lt w1_lt
    case piece32 => exact wq_tile i x0 x1 1 7 _ _ w z (by rfl) (by simpa using h0) (by simpa using h1) w0_lt w1_lt
    case piece33 => exact wq_tile i x0 x1 1 6 _ _ w z (by rfl) (by simpa using h0) (by simpa using h1) w0_lt w1_lt
    case piece34 => exact wq_tile i x0 x1 1 5 _ _ w z (by rfl) (by simpa using h0) (by simpa using h1) w0_lt w1_lt
    case piece35 => exact wq_tile i x0 x1 1 4 _ _ w z (by rfl) (by simpa using h0) (by simpa using h1) w0_lt w1_lt
    case piece36 => exact wq_tile i x0 x1 1 3 _ _ w z (by rfl) (by simpa using h0) (by simpa using h1) w0_lt w1_lt
    case piece37 => exact wq_tile i x0 x1 1 2 _ _ w z (by rfl) (by simpa using h0) (by simpa using h1) w0_lt w1_lt
    case piece38 => exact wq_tile i x0 x1 1 1 _ _ w z (by rfl) (by simpa using h0) (by simpa using h1) w0_lt w1_lt
    case piece39 => exact wq_tile i x0 x1 1 0 _ _ w z (by rfl) (by simpa using h0) (by simpa using h1) w0_lt w1_lt
    case piece40 => exact wq_tile i x0 x1 0 7 _ _ w z (by rfl) (by simpa using h0) (by simpa using h1) w0_lt w1_lt
    case piece41 => exact wq_tile i x0 x1 0 6 _ _ w z (by rfl) (by simpa using h0) (by simpa using h1) w0_lt w1_lt
    case piece42 => exact wq_tile i x0 x1 0 5 _ _ w z (by rfl) (by simpa using h0) (by simpa using h1) w0_lt w1_lt
    case piece43 => exact wq_tile i x0 x1 0 4 _ _ w z (by rfl) (by simpa using h0) (by simpa using h1) w0_lt w1_lt
    case piece44 => exact wq_tile i x0 x1 0 3 _ _ w z (by rfl) (by simpa using h0) (by simpa using h1) w0_lt w1_lt
    case piece45 => exact wq_tile i x0 x1 0 2 _ _ w z (by rfl) (by simpa using h0) (by simpa using h1) w0_lt w1_lt
    case piece46 => exact wq_tile i x0 x1 0 1 _ _ w z (by rfl) (by simpa using h0) (by simpa using h1) w0_lt w1_lt
    case piece47 => exact wq_tile i x0 x1 0 0 _ _ w z (by rfl) (by simpa using h0) (by simpa using h1) w0_lt w1_lt
  · rw [idx_eq2 x y h0 h1]
    rfl

end Cert.ForwardIdeal.Blk
-- ==== Proof.StatB.lean ====
module
public import proofs.«01_k».proof.Proof.Gen.ForwardIdeal.Frame
public import proofs.«01_k».proof.Proof.FwdB
public import proofs.«01_k».proof.Proof.FwdVec
@[expose] public section
set_option maxRecDepth 16384
set_option maxHeartbeats 4000000
noncomputable section

/-! The running maximum, sum of exponentials and label logit that the forward call's body leaves at a point between the first and the last. -/

namespace Cert.ForwardIdeal.Blk
open Cert.ForwardIdeal Cert.ForwardIdeal.Gen Idealize.ShloMosaic Idealize.ShloMosaic.TcCoe
variable {F : FTy → Type} [FloatOps F]
theorem mx_B (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : ¬cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bMx i (bLT i x0 x1 x2) x3 xo6 := by
  have hW : ∀ z, View.canon (kernelRun0_B c i arg1 harg1 arg2 harg2 arg3 harg3 arg4 harg4 arg5 harg5 arg6 harg6 arg7 harg7 arg8 harg8 arg9 harg9 arg10 harg10 arg11 harg11 hc0 hc1 x0 x1 x2 x3 xo6 xo7 xo8).1 z = bLT i x0 x1 x2 z := fun z =>
    (View.read_writes_junk_apply_eq_canon _ _ _).symm.trans (congrFun (lt_B c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hW
  simp only [View.readAt_eq_ld, Memref.IsWhole.read_unread] at hW
  funext y
  frame_open
  rw [View.read_writes_junk_apply_eq_canon]
  simp only [View.readAt_eq_ld, Memref.IsWhole.read_unread]
  canon_tiles x h
  case piece0 => exact mx_tile i _ x3 xo6 arg5.view _ hW 7 _ x y (by simpa using h1) x1_lt (by rfl)
  case piece1 => exact mx_tile i _ x3 xo6 arg5.view _ hW 6 _ x y (by simpa using h1) x1_lt (by rfl)
  case piece2 => exact mx_tile i _ x3 xo6 arg5.view _ hW 5 _ x y (by simpa using h1) x1_lt (by rfl)
  case piece3 => exact mx_tile i _ x3 xo6 arg5.view _ hW 4 _ x y (by simpa using h1) x1_lt (by rfl)
  case piece4 => exact mx_tile i _ x3 xo6 arg5.view _ hW 3 _ x y (by simpa using h1) x1_lt (by rfl)
  case piece5 => exact mx_tile i _ x3 xo6 arg5.view _ hW 2 _ x y (by simpa using h1) x1_lt (by rfl)
  case piece6 => exact mx_tile i _ x3 xo6 arg5.view _ hW 1 _ x y (by simpa using h1) x1_lt (by rfl)
  case piece7 => exact mx_tile i _ x3 xo6 arg5.view _ hW 0 _ x y (by simpa using h1) x1_lt (by rfl)

theorem sm_B (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : ¬cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_B_7 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bSm i (bLT i x0 x1 x2) x3 xo6 xo7 := by
  have hW : ∀ z, View.canon (kernelRun0_B c i arg1 harg1 arg2 harg2 arg3 harg3 arg4 harg4 arg5 harg5 arg6 harg6 arg7 harg7 arg8 harg8 arg9 harg9 arg10 harg10 arg11 harg11 hc0 hc1 x0 x1 x2 x3 xo6 xo7 xo8).1 z = bLT i x0 x1 x2 z := fun z =>
    (View.read_writes_junk_apply_eq_canon _ _ _).symm.trans (congrFun (lt_B c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hW
  simp only [View.readAt_eq_ld, Memref.IsWhole.read_unread] at hW
  funext y
  frame_open
  rw [View.read_writes_junk_apply_eq_canon]
  simp only [View.readAt_eq_ld, Memref.IsWhole.read_unread]
  canon_tiles x h
  case piece0 => exact sm_tile i _ x3 xo6 xo7 arg5.view _ hW 7 _ x y (by simpa using h1) x1_lt (by rfl)
  case piece1 => exact sm_tile i _ x3 xo6 xo7 arg5.view _ hW 6 _ x y (by simpa using h1) x1_lt (by rfl)
  case piece2 => exact sm_tile i _ x3 xo6 xo7 arg5.view _ hW 5 _ x y (by simpa using h1) x1_lt (by rfl)
  case piece3 => exact sm_tile i _ x3 xo6 xo7 arg5.view _ hW 4 _ x y (by simpa using h1) x1_lt (by rfl)
  case piece4 => exact sm_tile i _ x3 xo6 xo7 arg5.view _ hW 3 _ x y (by simpa using h1) x1_lt (by rfl)
  case piece5 => exact sm_tile i _ x3 xo6 xo7 arg5.view _ hW 2 _ x y (by simpa using h1) x1_lt (by rfl)
  case piece6 => exact sm_tile i _ x3 xo6 xo7 arg5.view _ hW 1 _ x y (by simpa using h1) x1_lt (by rfl)
  case piece7 => exact sm_tile i _ x3 xo6 xo7 arg5.view _ hW 0 _ x y (by simpa using h1) x1_lt (by rfl)

theorem ll_B (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : ¬cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_B_8 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bLl i (bLT i x0 x1 x2) x3 xo8 := by
  have hW : ∀ z, View.canon (kernelRun0_B c i arg1 harg1 arg2 harg2 arg3 harg3 arg4 harg4 arg5 harg5 arg6 harg6 arg7 harg7 arg8 harg8 arg9 harg9 arg10 harg10 arg11 harg11 hc0 hc1 x0 x1 x2 x3 xo6 xo7 xo8).1 z = bLT i x0 x1 x2 z := fun z =>
    (View.read_writes_junk_apply_eq_canon _ _ _).symm.trans (congrFun (lt_B c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hW
  simp only [View.readAt_eq_ld, Memref.IsWhole.read_unread] at hW
  funext y
  frame_open
  rw [View.read_writes_junk_apply_eq_canon]
  simp only [View.readAt_eq_ld, Memref.IsWhole.read_unread]
  canon_tiles x h
  case piece0 => exact ll_tile i _ x3 xo8 arg5.view _ hW 7 _ x y (by simpa using h1) x1_lt (by rfl)
  case piece1 => exact ll_tile i _ x3 xo8 arg5.view _ hW 6 _ x y (by simpa using h1) x1_lt (by rfl)
  case piece2 => exact ll_tile i _ x3 xo8 arg5.view _ hW 5 _ x y (by simpa using h1) x1_lt (by rfl)
  case piece3 => exact ll_tile i _ x3 xo8 arg5.view _ hW 4 _ x y (by simpa using h1) x1_lt (by rfl)
  case piece4 => exact ll_tile i _ x3 xo8 arg5.view _ hW 3 _ x y (by simpa using h1) x1_lt (by rfl)
  case piece5 => exact ll_tile i _ x3 xo8 arg5.view _ hW 2 _ x y (by simpa using h1) x1_lt (by rfl)
  case piece6 => exact ll_tile i _ x3 xo8 arg5.view _ hW 1 _ x y (by simpa using h1) x1_lt (by rfl)
  case piece7 => exact ll_tile i _ x3 xo8 arg5.view _ hW 0 _ x y (by simpa using h1) x1_lt (by rfl)

end Cert.ForwardIdeal.Blk
-- ==== Proof.FwdC.lean ====
module
public import proofs.«01_k».proof.Proof.Gen.ForwardIdeal.Frame
public import proofs.«01_k».proof.Proof.FwdTile
@[expose] public section
set_option maxRecDepth 16384
set_option maxHeartbeats 4000000
noncomputable section

/-! The block of transposed logits that the forward call's body leaves at the last point. -/

namespace Cert.ForwardIdeal.Blk
open Cert.ForwardIdeal Cert.ForwardIdeal.Gen Idealize.ShloMosaic Idealize.ShloMosaic.TcCoe
variable {F : FTy → Type} [FloatOps F]
theorem lt_C (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_C_4 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bLT i x0 x1 x2 := by
  funext y
  frame_open
  rw [View.read_writes_junk_apply_eq_canon]
  simp only [View.readAt_eq_ld, Memref.IsWhole.read_unread]
  canon_tiles x h
  refine (congrFun (congrArg₂ k0_pay61 (canon_whole2 _ _ _ (fun z : S768x1024.Idx => bWq i x0 x1 (z 0) (z 1)) ?_) (ld_whole2 _ _)) x).trans ?_
  · intro z
    canon_tiles w h
    case piece0 => exact wq_tile i x0 x1 5 7 _ _ w z (by rfl) (by simpa using h0) (by simpa using h1) w0_lt w1_lt
    case piece1 => exact wq_tile i x0 x1 5 6 _ _ w z (by rfl) (by simpa using h0) (by simpa using h1) w0_lt w1_lt
    case piece2 => exact wq_tile i x0 x1 5 5 _ _ w z (by rfl) (by simpa using h0) (by simpa using h1) w0_lt w1_lt
    case piece3 => exact wq_tile i x0 x1 5 4 _ _ w z (by rfl) (by simpa using h0) (by simpa using h1) w0_lt w1_lt
    case piece4 => exact wq_tile i x0 x1 5 3 _ _ w z (by rfl) (by simpa using h0) (by simpa using h1) w0_lt w1_lt
    case piece5 => exact wq_tile i x0 x1 5 2 _ _ w z (by rfl) (by simpa using h0) (by simpa using h1) w0_lt w1_lt
    case piece6 => exact wq_tile i x0 x1 5 1 _ _ w z (by rfl) (by simpa using h0) (by simpa using h1) w0_lt w1_lt
    case piece7 => exact wq_tile i x0 x1 5 0 _ _ w z (by rfl) (by simpa using h0) (by simpa using h1) w0_lt w1_lt
    case piece8 => exact wq_tile i x0 x1 4 7 _ _ w z (by rfl) (by simpa using h0) (by simpa using h1) w0_lt w1_lt
    case piece9 => exact wq_tile i x0 x1 4 6 _ _ w z (by rfl) (by simpa using h0) (by simpa using h1) w0_lt w1_lt
    case piece10 => exact wq_tile i x0 x1 4 5 _ _ w z (by rfl) (by simpa using h0) (by simpa using h1) w0_lt w1_lt
    case piece11 => exact wq_tile i x0 x1 4 4 _ _ w z (by rfl) (by simpa using h0) (by simpa using h1) w0_lt w1_lt
    case piece12 => exact wq_tile i x0 x1 4 3 _ _ w z (by rfl) (by simpa using h0) (by simpa using h1) w0_lt w1_lt
    case piece13 => exact wq_tile i x0 x1 4 2 _ _ w z (by rfl) (by simpa using h0) (by simpa using h1) w0_lt w1_lt
    case piece14 => exact wq_tile i x0 x1 4 1 _ _ w z (by rfl) (by simpa using h0) (by simpa using h1) w0_lt w1_lt
    case piece15 => exact wq_tile i x0 x1 4 0 _ _ w z (by rfl) (by simpa using h0) (by simpa using h1) w0_lt w1_lt
    case piece16 => exact wq_tile i x0 x1 3 7 _ _ w z (by rfl) (by simpa using h0) (by simpa using h1) w0_lt w1_lt
    case piece17 => exact wq_tile i x0 x1 3 6 _ _ w z (by rfl) (by simpa using h0) (by simpa using h1) w0_lt w1_lt
    case piece18 => exact wq_tile i x0 x1 3 5 _ _ w z (by rfl) (by simpa using h0) (by simpa using h1) w0_lt w1_lt
    case piece19 => exact wq_tile i x0 x1 3 4 _ _ w z (by rfl) (by simpa using h0) (by simpa using h1) w0_lt w1_lt
    case piece20 => exact wq_tile i x0 x1 3 3 _ _ w z (by rfl) (by simpa using h0) (by simpa using h1) w0_lt w1_lt
    case piece21 => exact wq_tile i x0 x1 3 2 _ _ w z (by rfl) (by simpa using h0) (by simpa using h1) w0_lt w1_lt
    case piece22 => exact wq_tile i x0 x1 3 1 _ _ w z (by rfl) (by simpa using h0) (by simpa using h1) w0_lt w1_lt
    case piece23 => exact wq_tile i x0 x1 3 0 _ _ w z (by rfl) (by simpa using h0) (by simpa using h1) w0_lt w1_lt
    case piece24 => exact wq_tile i x0 x1 2 7 _ _ w z (by rfl) (by simpa using h0) (by simpa using h1) w0_lt w1_lt
    case piece25 => exact wq_tile i x0 x1 2 6 _ _ w z (by rfl) (by simpa using h0) (by simpa using h1) w0_lt w1_lt
    case piece26 => exact wq_tile i x0 x1 2 5 _ _ w z (by rfl) (by simpa using h0) (by simpa using h1) w0_lt w1_lt
    case piece27 => exact wq_tile i x0 x1 2 4 _ _ w z (by rfl) (by simpa using h0) (by simpa using h1) w0_lt w1_lt
    case piece28 => exact wq_tile i x0 x1 2 3 _ _ w z (by rfl) (by simpa using h0) (by simpa using h1) w0_lt w1_lt
    case piece29 => exact wq_tile i x0 x1 2 2 _ _ w z (by rfl) (by simpa using h0) (by simpa using h1) w0_lt w1_lt
    case piece30 => exact wq_tile i x0 x1 2 1 _ _ w z (by rfl) (by simpa using h0) (by simpa using h1) w0_lt w1_lt
    case piece31 => exact wq_tile i x0 x1 2 0 _ _ w z (by rfl) (by simpa using h0) (by simpa using h1) w0_lt w1_lt
    case piece32 => exact wq_tile i x0 x1 1 7 _ _ w z (by rfl) (by simpa using h0) (by simpa using h1) w0_lt w1_lt
    case piece33 => exact wq_tile i x0 x1 1 6 _ _ w z (by rfl) (by simpa using h0) (by simpa using h1) w0_lt w1_lt
    case piece34 => exact wq_tile i x0 x1 1 5 _ _ w z (by rfl) (by simpa using h0) (by simpa using h1) w0_lt w1_lt
    case piece35 => exact wq_tile i x0 x1 1 4 _ _ w z (by rfl) (by simpa using h0) (by simpa using h1) w0_lt w1_lt
    case piece36 => exact wq_tile i x0 x1 1 3 _ _ w z (by rfl) (by simpa using h0) (by simpa using h1) w0_lt w1_lt
    case piece37 => exact wq_tile i x0 x1 1 2 _ _ w z (by rfl) (by simpa using h0) (by simpa using h1) w0_lt w1_lt
    case piece38 => exact wq_tile i x0 x1 1 1 _ _ w z (by rfl) (by simpa using h0) (by simpa using h1) w0_lt w1_lt
    case piece39 => exact wq_tile i x0 x1 1 0 _ _ w z (by rfl) (by simpa using h0) (by simpa using h1) w0_lt w1_lt
    case piece40 => exact wq_tile i x0 x1 0 7 _ _ w z (by rfl) (by simpa using h0) (by simpa using h1) w0_lt w1_lt
    case piece41 => exact wq_tile i x0 x1 0 6 _ _ w z (by rfl) (by simpa using h0) (by simpa using h1) w0_lt w1_lt
    case piece42 => exact wq_tile i x0 x1 0 5 _ _ w z (by rfl) (by simpa using h0) (by simpa using h1) w0_lt w1_lt
    case piece43 => exact wq_tile i x0 x1 0 4 _ _ w z (by rfl) (by simpa using h0) (by simpa using h1) w0_lt w1_lt
    case piece44 => exact wq_tile i x0 x1 0 3 _ _ w z (by rfl) (by simpa using h0) (by simpa using h1) w0_lt w1_lt
    case piece45 => exact wq_tile i x0 x1 0 2 _ _ w z (by rfl) (by simpa using h0) (by simpa using h1) w0_lt w1_lt
    case piece46 => exact wq_tile i x0 x1 0 1 _ _ w z (by rfl) (by simpa using h0) (by simpa using h1) w0_lt w1_lt
    case piece47 => exact wq_tile i x0 x1 0 0 _ _ w z (by rfl) (by simpa using h0) (by simpa using h1) w0_lt w1_lt
  · rw [idx_eq2 x y h0 h1]
    rfl

end Cert.ForwardIdeal.Blk
-- ==== Proof.StatC.lean ====
module
public import proofs.«01_k».proof.Proof.Gen.ForwardIdeal.Frame
public import proofs.«01_k».proof.Proof.FwdC
public import proofs.«01_k».proof.Proof.FwdVec
@[expose] public section
set_option maxRecDepth 16384
set_option maxHeartbeats 4000000
noncomputable section

/-! The running maximum, sum of exponentials, label logit and loss that the forward call's body leaves at the last point. -/

namespace Cert.ForwardIdeal.Blk
open Cert.ForwardIdeal Cert.ForwardIdeal.Gen Idealize.ShloMosaic Idealize.ShloMosaic.TcCoe
variable {F : FTy → Type} [FloatOps F]
theorem mx_C (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bMx i (bLT i x0 x1 x2) x3 xo6 := by
  have hW : ∀ z, View.canon (kernelRun0_C c i arg1 harg1 arg2 harg2 arg3 harg3 arg4 harg4 arg5 harg5 arg6 harg6 arg7 harg7 arg8 harg8 arg9 harg9 arg10 harg10 arg11 harg11 hc0 hc1 x0 x1 x2 x3 xo6 xo7 xo8).1 z = bLT i x0 x1 x2 z := fun z =>
    (View.read_writes_junk_apply_eq_canon _ _ _).symm.trans (congrFun (lt_C c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hW
  simp only [View.readAt_eq_ld, Memref.IsWhole.read_unread] at hW
  funext y
  frame_open
  rw [View.read_writes_junk_apply_eq_canon]
  simp only [View.readAt_eq_ld, Memref.IsWhole.read_unread]
  canon_tiles x h
  case piece0 => exact mx_tile i _ x3 xo6 arg5.view _ hW 7 _ x y (by simpa using h1) x1_lt (by rfl)
  case piece1 => exact mx_tile i _ x3 xo6 arg5.view _ hW 6 _ x y (by simpa using h1) x1_lt (by rfl)
  case piece2 => exact mx_tile i _ x3 xo6 arg5.view _ hW 5 _ x y (by simpa using h1) x1_lt (by rfl)
  case piece3 => exact mx_tile i _ x3 xo6 arg5.view _ hW 4 _ x y (by simpa using h1) x1_lt (by rfl)
  case piece4 => exact mx_tile i _ x3 xo6 arg5.view _ hW 3 _ x y (by simpa using h1) x1_lt (by rfl)
  case piece5 => exact mx_tile i _ x3 xo6 arg5.view _ hW 2 _ x y (by simpa using h1) x1_lt (by rfl)
  case piece6 => exact mx_tile i _ x3 xo6 arg5.view _ hW 1 _ x y (by simpa using h1) x1_lt (by rfl)
  case piece7 => exact mx_tile i _ x3 xo6 arg5.view _ hW 0 _ x y (by simpa using h1) x1_lt (by rfl)

theorem sm_C (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bSm i (bLT i x0 x1 x2) x3 xo6 xo7 := by
  have hW : ∀ z, View.canon (kernelRun0_C c i arg1 harg1 arg2 harg2 arg3 harg3 arg4 harg4 arg5 harg5 arg6 harg6 arg7 harg7 arg8 harg8 arg9 harg9 arg10 harg10 arg11 harg11 hc0 hc1 x0 x1 x2 x3 xo6 xo7 xo8).1 z = bLT i x0 x1 x2 z := fun z =>
    (View.read_writes_junk_apply_eq_canon _ _ _).symm.trans (congrFun (lt_C c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hW
  simp only [View.readAt_eq_ld, Memref.IsWhole.read_unread] at hW
  funext y
  frame_open
  rw [View.read_writes_junk_apply_eq_canon]
  simp only [View.readAt_eq_ld, Memref.IsWhole.read_unread]
  canon_tiles x h
  case piece0 => exact sm_tile i _ x3 xo6 xo7 arg5.view _ hW 7 _ x y (by simpa using h1) x1_lt (by rfl)
  case piece1 => exact sm_tile i _ x3 xo6 xo7 arg5.view _ hW 6 _ x y (by simpa using h1) x1_lt (by rfl)
  case piece2 => exact sm_tile i _ x3 xo6 xo7 arg5.view _ hW 5 _ x y (by simpa using h1) x1_lt (by rfl)
  case piece3 => exact sm_tile i _ x3 xo6 xo7 arg5.view _ hW 4 _ x y (by simpa using h1) x1_lt (by rfl)
  case piece4 => exact sm_tile i _ x3 xo6 xo7 arg5.view _ hW 3 _ x y (by simpa using h1) x1_lt (by rfl)
  case piece5 => exact sm_tile i _ x3 xo6 xo7 arg5.view _ hW 2 _ x y (by simpa using h1) x1_lt (by rfl)
  case piece6 => exact sm_tile i _ x3 xo6 xo7 arg5.view _ hW 1 _ x y (by simpa using h1) x1_lt (by rfl)
  case piece7 => exact sm_tile i _ x3 xo6 xo7 arg5.view _ hW 0 _ x y (by simpa using h1) x1_lt (by rfl)

theorem ll_C (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 xo6 xo7 xo8 = bLl i (bLT i x0 x1 x2) x3 xo8 := by
  have hW : ∀ z, View.canon (kernelRun0_C c i arg1 harg1 arg2 harg2 arg3 harg3 arg4 harg4 arg5 harg5 arg6 harg6 arg7 harg7 arg8 harg8 arg9 harg9 arg10 harg10 arg11 harg11 hc0 hc1 x0 x1 x2 x3 xo6 xo7 xo8).1 z = bLT i x0 x1 x2 z := fun z =>
    (View.read_writes_junk_apply_eq_canon _ _ _).symm.trans (congrFun (lt_C c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hW
  simp only [View.readAt_eq_ld, Memref.IsWhole.read_unread] at hW
  funext y
  frame_open
  rw [View.read_writes_junk_apply_eq_canon]
  simp only [View.readAt_eq_ld, Memref.IsWhole.read_unread]
  canon_tiles x h
  case piece0 => exact ll_tile i _ x3 xo8 arg5.view _ hW 7 _ x y (by simpa using h1) x1_lt (by rfl)
  case piece1 => exact ll_tile i _ x3 xo8 arg5.view _ hW 6 _ x y (by simpa using h1) x1_lt (by rfl)
  case piece2 => exact ll_tile i _ x3 xo8 arg5.view _ hW 5 _ x y (by simpa using h1) x1_lt (by rfl)
  case piece3 => exact ll_tile i _ x3 xo8 arg5.view _ hW 4 _ x y (by simpa using h1) x1_lt (by rfl)
  case piece4 => exact ll_tile i _ x3 xo8 arg5.view _ hW 3 _ x y (by simpa using h1) x1_lt (by rfl)
  case piece5 => exact ll_tile i _ x3 xo8 arg5.view _ hW 2 _ x y (by simpa using h1) x1_lt (by rfl)
  case piece6 => exact ll_tile i _ x3 xo8 arg5.view _ hW 1 _ x y (by simpa using h1) x1_lt (by rfl)
  case piece7 => exact ll_tile i _ x3 xo8 arg5.view _ hW 0 _ x y (by simpa using h1) x1_lt (by rfl)

theorem loss_C (c : Dev nD) (i : grid0.Coords) (arg1 : Memref sig .tc .smem S8016 .f32) (harg1 : arg1.IsWhole) (arg2 : Memref sig .tc .vmem S768x1024 .fp8e4m3) (harg2 : arg2.IsWhole) (arg3 : Memref sig .tc .vmem S1024x1024 .bf16) (harg3 : arg3.IsWhole) (arg4 : Memref sig .tc .vmem S1x1024 .i32) (harg4 : arg4.IsWhole) (arg5 : Memref sig .tc .vmem S768x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S768x1024 .bf16) (harg11 : arg11.IsWhole) (hc0 : ¬cond0_0 i) (hc1 : cond0_1 i)
    (x0 : Vec F S8016 .f32) (x1 : Vec F S768x1024 .fp8e4m3) (x2 : Vec F S1024x1024 .bf16) (x3 : Vec F S1x1024 .i32) (xo6 : Vec F S1x1024 .f32) (xo7 : Vec F S1x1024 .f32) (xo8 : Vec F S1x1024 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 xo6 xo7 xo8 = k0_pay1 (bMx i (bLT i x0 x1 x2) x3 xo6) (bSm i (bLT i x0 x1 x2) x3 xo6 xo7) (bLl i (bLT i x0 x1 x2) x3 xo8) := by
  have hmx : ∀ z, View.canon (kernelRun0_C c i arg1 harg1 arg2 harg2 arg3 harg3 arg4 harg4 arg5 harg5 arg6 harg6 arg7 harg7 arg8 harg8 arg9 harg9 arg10 harg10 arg11 harg11 hc0 hc1 x0 x1 x2 x3 xo6 xo7 xo8).2.2.1 z = bMx i (bLT i x0 x1 x2) x3 xo6 z := fun z =>
    (View.read_writes_junk_apply_eq_canon _ _ _).symm.trans (congrFun (mx_C c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hmx
  simp only [View.readAt_eq_ld, Memref.IsWhole.read_unread] at hmx
  have hsm : ∀ z, View.canon (kernelRun0_C c i arg1 harg1 arg2 harg2 arg3 harg3 arg4 harg4 arg5 harg5 arg6 harg6 arg7 harg7 arg8 harg8 arg9 harg9 arg10 harg10 arg11 harg11 hc0 hc1 x0 x1 x2 x3 xo6 xo7 xo8).2.2.2.1 z = bSm i (bLT i x0 x1 x2) x3 xo6 xo7 z := fun z =>
    (View.read_writes_junk_apply_eq_canon _ _ _).symm.trans (congrFun (sm_C c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hsm
  simp only [View.readAt_eq_ld, Memref.IsWhole.read_unread] at hsm
  have hll : ∀ z, View.canon (kernelRun0_C c i arg1 harg1 arg2 harg2 arg3 harg3 arg4 harg4 arg5 harg5 arg6 harg6 arg7 harg7 arg8 harg8 arg9 harg9 arg10 harg10 arg11 harg11 hc0 hc1 x0 x1 x2 x3 xo6 xo7 xo8).2.2.2.2.1 z = bLl i (bLT i x0 x1 x2) x3 xo8 z := fun z =>
    (View.read_writes_junk_apply_eq_canon _ _ _).symm.trans (congrFun (ll_C c i arg1 harg1 arg2 harg2 arg3 harg3 arg4 harg4 arg5 harg5 arg6 harg6 arg7 harg7 arg8 harg8 arg9 harg9 arg10 harg10 arg11 harg11 hc0 hc1 x0 x1 x2 x3 xo6 xo7 xo8) z)
  frame_open at hll
  simp only [View.readAt_eq_ld, Memref.IsWhole.read_unread] at hll
  funext y
  frame_open
  rw [View.read_writes_junk_apply_eq_canon]
  simp only [View.readAt_eq_ld, Memref.IsWhole.read_unread]
  canon_tiles x h
  case piece0 =>
    rw [idx_eq2 x y (by simpa using h0) (by simpa using h1)]
    exact congrFun (pay1_congr (canon_whole2 _ _ _ _ hmx) (canon_whole2 _ _ _ _ hsm) (canon_whole2 _ _ _ _ hll)) y

end Cert.ForwardIdeal.Blk
-- ==== Proof.Spec.lean ====
module
public import Idealize.ShloMosaic.Lib.Pipeline.ValueKit
@[expose] public section
set_option maxRecDepth 16384
noncomputable section

/-! The reference's mathematics for one token: its row of logits, its label, the chunks of 768 vocabulary rows. -/

namespace Cert.Spec
open Idealize.ShloMosaic

theorem clt (n : Fin 167) (r : Fin 768) : n.val * 768 + r.val < 128256 := by have := n.isLt; have := r.isLt; omega
theorem dlt (v : Fin 128256) : v.val / 768 < 167 := by have := v.isLt; omega

abbrev ninf : EReal := Ideal.ofBits FTy.f32 0xFF800000#32
abbrev cy : EReal := Ideal.ofBits FTy.f32 0x37924925#32
abbrev hi : EReal := Ideal.ofBits FTy.f32 0x47600000#32
abbrev lo : EReal := Ideal.ofBits FTy.f32 0xC7600000#32
abbrev tiny : EReal := Ideal.ofBits FTy.f32 0x00800000#32
abbrev two : EReal := Ideal.ofBits FTy.f32 0x40000000#32

def rMx (l : Fin 128256 → EReal) : EReal := Finset.fold max ninf l Finset.univ
def rSum (l : Fin 128256 → EReal) : EReal := ∑ x, Ideal.exp (l x - rMx l)
def rP (l : Fin 128256 → EReal) (v : Fin 128256) : EReal := Ideal.div (Ideal.exp (l v - rMx l)) (rSum l)
def rG (l : Fin 128256 → EReal) (b : BitVec 32) (v : Fin 128256) : EReal :=
  Scalar.select (IntOp.cmpi CmpIPredicate.eq (BitVec.ofNat 32 v.val) b) (rP l v - 1) (rP l v)
def rA (g : Fin 128256 → EReal) (n : Fin 167) : EReal :=
  Finset.fold max ninf (fun r : Fin 768 => max (g ⟨n.val * 768 + r.val, clt n r⟩) (-(g ⟨n.val * 768 + r.val, clt n r⟩))) Finset.univ
def rY (l : Fin 128256 → EReal) (b : BitVec 32) (n : Fin 167) : EReal := rA (rG l b) n * cy
def rE (y : EReal) : EReal := if y < tiny then 0 else Ideal.liftRound Int.floor (Ideal.div (Ideal.log y) (Ideal.log two)) + 1
def rC (g y : EReal) : EReal := min hi (max lo (g * Ideal.exp2 (0 - rE y)))
def rCode (l : Fin 128256 → EReal) (b : BitVec 32) (v : Fin 128256) : EReal := rC (rG l b v) (rY l b ⟨v.val / 768, dlt v⟩)
def rGq (l : Fin 128256 → EReal) (b : BitVec 32) (v : Fin 128256) : EReal :=
  rCode l b v * Ideal.exp2 (rE (rY l b ⟨v.val / 768, dlt v⟩))

end Cert.Spec
-- ==== Proof.MathE.lean ====
module
public import proofs.«01_k».proof.Proof.Spec
@[expose] public section
set_option maxRecDepth 16384
noncomputable section

/-! The power-of-two scale: the kernel finds the exponent by a binary search over the exponent field, the reference takes the floor
of a logarithm. On a real number in [0, 2^126) the two agree. -/

namespace Cert.Spec
open Idealize.ShloMosaic

section
variable {F : FTy → Type} [FloatOps F]

/-- One step of the search for the exponent field. -/
def sStep (b : BitVec 32) (y : F .f32) (e : BitVec 32) : BitVec 32 :=
  Scalar.select (FloatOps.cmpf .olt y (FloatOps.ofBits .f32 (IntOp.shli .vector (IntOp.addi e b) 23#32))) e (IntOp.addi e b)

def sEx (y : F .f32) : BitVec 32 :=
  sStep 1#32 y (sStep 2#32 y (sStep 4#32 y (sStep 8#32 y (sStep 16#32 y (sStep 32#32 y (sStep 64#32 y
    (sStep 128#32 y 0#32)))))))

def sE (x : BitVec 32) : BitVec 32 := Scalar.select (IntOp.cmpi .eq x 0#32) 0#32 (IntOp.subi x 126#32)

def sScale (y : F .f32) : F .f32 := FloatOps.ofBits .f32 (IntOp.shli .vector (IntOp.addi (sE (sEx y)) 127#32) 23#32)

def sInv (y : F .f32) : F .f32 := FloatOps.ofBits .f32 (IntOp.shli .vector (IntOp.subi 127#32 (sE (sEx y))) 23#32)

end

/-- The number a word with exponent field `n` and nothing else denotes. -/
def pw (n : Nat) : ℝ := if n = 0 then 0 else (2 : ℝ) ^ ((n : ℤ) - 127)

theorem shl_fields : ∀ n : Fin 255,
    ((BitVec.ofNat 32 n.val) <<< (23#32)).extractLsb' 31 1 = 0#1
    ∧ (((BitVec.ofNat 32 n.val) <<< (23#32)).extractLsb' 23 8).toNat = n.val
    ∧ (((BitVec.ofNat 32 n.val) <<< (23#32)).extractLsb' 0 23).toNat = 0 := by decide +kernel

theorem field_num (n : Nat) :
    (if (0#1 == 1#1) = true then (-1 : ℝ) else 1) * ((2 ^ 23 + 0 : ℕ) : ℝ) * (2 : ℝ) ^ ((n : ℤ) - (2 ^ (8 - 1) - 1) - ((23 : ℕ) : ℤ))
      = (2 : ℝ) ^ ((n : ℤ) - 127) := by
  rw [show ((n : ℤ) - (2 ^ (8 - 1) - 1) - ((23 : ℕ) : ℤ)) = ((n : ℤ) - 127) - ((23 : ℕ) : ℤ) by norm_num]
  rw [zpow_sub₀ (by norm_num), zpow_natCast, if_neg (by decide)]
  have : (2 : ℝ) ^ 23 ≠ 0 := by positivity
  rw [Nat.add_zero, Nat.cast_pow, Nat.cast_ofNat, one_mul]
  exact mul_div_cancel₀ _ this

theorem ofBits_pw (n : Nat) (hn : n < 255) :
    Ideal.ofBits FTy.f32 (IntOp.shli .vector (BitVec.ofNat 32 n) 23#32) = ((pw n : ℝ) : EReal) := by
  obtain ⟨h1, h2, h3⟩ := shl_fields ⟨n, hn⟩
  have e : IntOp.shli .vector (BitVec.ofNat 32 n) 23#32 = (BitVec.ofNat 32 n) <<< (23#32) := if_pos (by decide)
  rw [e]
  show Ideal.ieee 8 23 _ = _
  unfold Ideal.ieee pw
  simp only [Nat.reduceAdd]
  rw [h1, h2, h3]
  dsimp only
  rw [if_neg (by omega)]
  by_cases h0 : n = 0
  · subst h0
    simp
  · rw [if_neg h0, if_neg h0]
    refine congrArg (fun r : ℝ => (r : EReal)) ?_
    exact field_num n

theorem pw_mono {a b : Nat} (h : a ≤ b) : pw a ≤ pw b := by
  unfold pw
  split_ifs with h1 h2
  · exact le_refl _
  · positivity
  · omega
  · exact zpow_le_zpow_right₀ (by norm_num) (by omega)

theorem step_eq (b n : Nat) (y : ℝ) (h : n + b < 255) :
    sStep (F := Ideal) (BitVec.ofNat 32 b) (y : EReal) (BitVec.ofNat 32 n)
      = BitVec.ofNat 32 (if y < pw (n + b) then n else n + b) := by
  unfold sStep
  have ea : IntOp.addi (BitVec.ofNat 32 n) (BitVec.ofNat 32 b) = BitVec.ofNat 32 (n + b) := (BitVec.ofNat_add n b).symm
  rw [ea]
  show Scalar.select (Ideal.cmp .olt (y : EReal) (Ideal.ofBits FTy.f32 _)) _ _ = _
  rw [ofBits_pw _ h]
  by_cases hy : y < pw (n + b)
  · rw [if_pos hy]
    simp [Scalar.select, Ideal.cmp, hy]
  · rw [if_neg hy]
    simp [Scalar.select, Ideal.cmp, hy]

theorem ex_spec (y : ℝ) (h0 : 0 ≤ y) (h1 : y < pw 253) :
    ∃ n, n ≤ 252 ∧ sEx (F := Ideal) (y : EReal) = BitVec.ofNat 32 n ∧ pw n ≤ y ∧ y < pw (n + 1) := by
  have lt : ∀ n, pw n ≤ y → n < 253 := fun n hn => by
    by_contra hc
    have := pw_mono (show 253 ≤ n by omega)
    linarith
  have one : ∀ b n (e : BitVec 32), e = BitVec.ofNat 32 n → pw n ≤ y → y < pw (n + 2 * b) → n + 2 * b ≤ 256 → 1 ≤ b →
      ∃ n', sStep (F := Ideal) (BitVec.ofNat 32 b) (y : EReal) e = BitVec.ofNat 32 n' ∧ pw n' ≤ y ∧ y < pw (n' + b)
        ∧ n' + b ≤ 256 := by
    intro b n e he hl hu hb hb1
    subst he
    have := lt n hl
    rw [step_eq b n y (by omega)]
    by_cases hy : y < pw (n + b)
    · exact ⟨n, by rw [if_pos hy], hl, hy, by omega⟩
    · exact ⟨n + b, by rw [if_neg hy], not_lt.mp hy, by rw [show n + b + b = n + 2 * b by ring]; exact hu, by omega⟩
  have hp0 : pw 0 ≤ y := by unfold pw; simpa using h0
  have hp1 : y < pw (0 + 2 * 128) := by
    have := pw_mono (show 253 ≤ 0 + 2 * 128 by omega)
    linarith
  obtain ⟨n0, e0, l0, u0, k0⟩ := one 128 0 (0#32) rfl hp0 hp1 (by omega) (by omega)
  obtain ⟨n1, e1, l1, u1, k1⟩ := one 64 n0 _ e0 l0 u0 (by omega) (by omega)
  obtain ⟨n2, e2, l2, u2, k2⟩ := one 32 n1 _ e1 l1 u1 (by omega) (by omega)
  obtain ⟨n3, e3, l3, u3, k3⟩ := one 16 n2 _ e2 l2 u2 (by omega) (by omega)
  obtain ⟨n4, e4, l4, u4, k4⟩ := one 8 n3 _ e3 l3 u3 (by omega) (by omega)
  obtain ⟨n5, e5, l5, u5, k5⟩ := one 4 n4 _ e4 l4 u4 (by omega) (by omega)
  obtain ⟨n6, e6, l6, u6, k6⟩ := one 2 n5 _ e5 l5 u5 (by omega) (by omega)
  obtain ⟨n7, e7, l7, u7, k7⟩ := one 1 n6 _ e6 l6 u6 (by omega) (by omega)
  exact ⟨n7, by have := lt n7 l7; omega, e7, l7, u7⟩

theorem tiny_eq : tiny = (((2 : ℝ) ^ (-126 : ℤ) : ℝ) : EReal) := by
  have e : (0x00800000#32) = IntOp.shli .vector (BitVec.ofNat 32 1) 23#32 := by decide
  unfold tiny
  rw [e, ofBits_pw 1 (by decide)]
  refine congrArg (fun r : ℝ => (r : EReal)) ?_
  unfold pw
  norm_num
theorem two_eq : two = ((2 : ℝ) : EReal) := by
  have e : (0x40000000#32) = IntOp.shli .vector (BitVec.ofNat 32 128) 23#32 := by decide
  unfold two
  rw [e, ofBits_pw 128 (by decide)]
  refine congrArg (fun r : ℝ => (r : EReal)) ?_
  unfold pw
  norm_num

theorem exp2_int (k : ℤ) : Ideal.exp2 (((k : ℝ) : ℝ) : EReal) = (((2 : ℝ) ^ k : ℝ) : EReal) := by
  show ((Real.rpow 2 (k : ℝ) : ℝ) : EReal) = _
  congr 1
  exact Real.rpow_intCast 2 k

/-- The reference's exponent on a number whose exponent field is `n`. -/
theorem rE_eq (y : ℝ) (n : Nat) (hl : pw n ≤ y) (hu : y < pw (n + 1)) :
    rE (y : EReal) = (((if n = 0 then 0 else (n : ℤ) - 126 : ℤ) : ℝ) : EReal) := by
  unfold rE
  rw [tiny_eq, two_eq]
  by_cases h0 : n = 0
  · subst h0
    have : y < (2 : ℝ) ^ (-126 : ℤ) := by
      have : pw (0 + 1) = (2 : ℝ) ^ (-126 : ℤ) := by unfold pw; norm_num
      rw [← this]; exact hu
    rw [if_pos (by exact_mod_cast this)]
    simp
  · have e1 : pw n = (2 : ℝ) ^ ((n : ℤ) - 127) := by unfold pw; rw [if_neg h0]
    have e2 : pw (n + 1) = (2 : ℝ) ^ ((n : ℤ) - 126) := by
      unfold pw; rw [if_neg (by omega)]; congr 1; push_cast; ring
    rw [e1] at hl; rw [e2] at hu
    have hy0 : 0 < y := lt_of_lt_of_le (by positivity) hl
    have hge : ¬ y < (2 : ℝ) ^ (-126 : ℤ) := by
      have : (2 : ℝ) ^ (-126 : ℤ) ≤ (2 : ℝ) ^ ((n : ℤ) - 127) := zpow_le_zpow_right₀ (by norm_num) (by omega)
      linarith
    have hl2 : (0 : ℝ) < Real.log 2 := Real.log_pos (by norm_num)
    rw [if_neg (by exact_mod_cast hge)]
    have el : Ideal.log (y : EReal) = ((Real.log y : ℝ) : EReal) := if_neg (not_le.mpr hy0)
    have el2 : Ideal.log ((2 : ℝ) : EReal) = ((Real.log 2 : ℝ) : EReal) := if_neg (by norm_num)
    rw [el, el2]
    have ed : Ideal.div ((Real.log y : ℝ) : EReal) ((Real.log 2 : ℝ) : EReal) = ((Real.log y / Real.log 2 : ℝ) : EReal) := by
      unfold Ideal.div
      rw [if_neg (by exact_mod_cast hl2.ne'), ← EReal.coe_inv, ← EReal.coe_mul, div_eq_mul_inv]
    rw [ed]
    have ef : ⌊Real.log y / Real.log 2⌋ = (n : ℤ) - 127 := by
      rw [Int.floor_eq_iff]
      constructor
      · rw [le_div_iff₀ hl2]
        have := Real.log_le_log (by positivity) hl
        rwa [Real.log_zpow] at this
      · rw [div_lt_iff₀ hl2]
        have := Real.log_lt_log hy0 hu
        rw [Real.log_zpow] at this
        push_cast at this ⊢
        linarith
    show (((⌊Real.log y / Real.log 2⌋ : ℤ) : ℝ) : EReal) + 1 = _
    rw [ef, if_neg h0, ← EReal.coe_one, ← EReal.coe_add]
    congr 1
    push_cast
    ring

theorem sE_eq (n : Nat) (hn : n ≤ 252) :
    IntOp.addi (sE (BitVec.ofNat 32 n)) 127#32 = BitVec.ofNat 32 (if n = 0 then 127 else n + 1)
    ∧ IntOp.subi 127#32 (sE (BitVec.ofNat 32 n)) = BitVec.ofNat 32 (if n = 0 then 127 else 253 - n) := by
  have : ∀ n : Fin 253, IntOp.addi (sE (BitVec.ofNat 32 n.val)) 127#32 = BitVec.ofNat 32 (if n.val = 0 then 127 else n.val + 1)
    ∧ IntOp.subi 127#32 (sE (BitVec.ofNat 32 n.val)) = BitVec.ofNat 32 (if n.val = 0 then 127 else 253 - n.val) := by decide +kernel
  exact this ⟨n, by omega⟩

theorem scale_eq_wide (y : ℝ) (h0 : 0 ≤ y) (h1 : y < pw 253) :
    sScale (F := Ideal) (y : EReal) = Ideal.exp2 (rE (y : EReal))
    ∧ sInv (F := Ideal) (y : EReal) = Ideal.exp2 (0 - rE (y : EReal)) := by
  obtain ⟨n, hn, he, hl, hu⟩ := ex_spec y h0 h1
  obtain ⟨e1, e2⟩ := sE_eq n hn
  rw [rE_eq y n hl hu]
  unfold sScale sInv
  rw [he, e1, e2]
  have neg : (0 : EReal) - (((if n = 0 then 0 else (n : ℤ) - 126 : ℤ) : ℝ) : EReal) = (((-(if n = 0 then 0 else (n : ℤ) - 126) : ℤ) : ℝ) : EReal) := by
    rw [zero_sub, ← EReal.coe_neg]
    congr 1
    push_cast
    rfl
  rw [neg, exp2_int, exp2_int]
  constructor
  · refine (ofBits_pw _ (by split_ifs <;> omega)).trans ?_
    congr 1
    unfold pw
    by_cases h : n = 0
    · simp [h]
    · rw [if_neg h, if_neg h, if_neg (by omega)]
      congr 1
      push_cast
      ring
  · refine (ofBits_pw _ (by split_ifs <;> omega)).trans ?_
    congr 1
    unfold pw
    by_cases h : n = 0
    · simp [h]
    · rw [if_neg h, if_neg h, if_neg (by omega)]
      congr 1
      have : ((253 - n : ℕ) : ℤ) = 253 - n := by omega
      rw [this]
      ring

theorem scale_eq (y : ℝ) (h0 : 0 ≤ y) (h1 : y < 1) :
    sScale (F := Ideal) (y : EReal) = Ideal.exp2 (rE (y : EReal))
    ∧ sInv (F := Ideal) (y : EReal) = Ideal.exp2 (0 - rE (y : EReal)) :=
  scale_eq_wide y h0 (lt_of_lt_of_le h1 (le_trans (by unfold pw; norm_num : (1 : ℝ) ≤ pw 127) (pw_mono (by omega))))

end Cert.Spec
-- ==== Proof.Chain.lean ====
module
public import proofs.«01_k».proof.Proof.Gen.KernelIdeal.Skeleton
public import proofs.«01_k».proof.Proof.MathE
public import Idealize.ShloMosaic.Lib.Pipeline.ValueKit
public import Idealize.ShloMosaic.Lib.Pipeline.ReadBack
@[expose] public section
set_option maxRecDepth 16384
noncomputable section

/-! The gradient of one 128-token column tile of a block, as vectors of the tile (`v…`) and as the value of one element (`s…`). -/

namespace Cert.KernelIdeal.Blk
open Cert.KernelIdeal Cert.KernelIdeal.Gen Cert.Spec Idealize.ShloMosaic Idealize.ShloMosaic.TcCoe
variable {F : FTy → Type} [FloatOps F]

/-- One step of the search for the exponent field. -/
def vStep (b : BitVec 32) (y : FVec F S1x128 .f32) (e : IVec S1x128 32) : IVec S1x128 32 :=
  select (cmpf .olt y (bitcastToFloat .f32 (shli (addi e (broadcast S1x128 b)) (broadcast S1x128 23#32)))) e
    (addi e (broadcast S1x128 b))

def vEx (y : FVec F S1x128 .f32) : IVec S1x128 32 :=
  vStep 1#32 y (vStep 2#32 y (vStep 4#32 y (vStep 8#32 y (vStep 16#32 y (vStep 32#32 y (vStep 64#32 y
    (vStep 128#32 y (broadcast S1x128 0#32))))))))

def vE (x : IVec S1x128 32) : IVec S1x128 32 :=
  select (cmpi .eq x (broadcast S1x128 0#32)) (broadcast S1x128 0#32) (subi x (broadcast S1x128 126#32))

def vIsum (s : FVec F S1x128 .f32) : FVec F S1x128 .f32 :=
  divf (broadcast S1x128 (Scalar.ofBits .f32 0x3F800000#32)) s

def vLab (i : BitVec 32) (lab : IVec S1x128 32) : IVec S1x128 32 :=
  subi lab (broadcast S1x128 (Scalar.muli i 768#32))

def vY (i : BitVec 32) (lab : IVec S1x128 32) (mx s ll : FVec F S1x128 .f32) (cm : FVec F S1x1x128 .f32) :
    FVec F S1x128 .f32 :=
  mulf (maximumf (mulf (exp (subf (shapeCast S1x128 cm shapeCasts_S1x1x128_S1x128) mx)) (vIsum s))
    (select (andi (cmpi .sge (vLab i lab) (broadcast S1x128 0#32)) (cmpi .slt (vLab i lab) (broadcast S1x128 768#32)))
      (absf (subf (mulf (exp (subf ll mx)) (vIsum s)) (broadcast S1x128 (Scalar.ofBits .f32 0x3F800000#32))))
      (broadcast S1x128 (Scalar.ofBits .f32 0x00000000#32))))
    (broadcast S1x128 (Scalar.ofBits .f32 0x37924925#32))

def vScale (y : FVec F S1x128 .f32) : FVec F S1x128 .f32 :=
  bitcastToFloat .f32 (shli (addi (vE (vEx y)) (broadcast S1x128 127#32)) (broadcast S1x128 23#32))

def vInv (y : FVec F S1x128 .f32) : FVec F S1x128 .f32 :=
  bitcastToFloat .f32 (shli (subi (broadcast S1x128 127#32) (vE (vEx y))) (broadcast S1x128 23#32))

def vP (mx s : FVec F S1x128 .f32) (lt : FVec F S128x128 .f32) : FVec F S128x128 .f32 :=
  mulf (exp (subf lt (broadcastTo S128x128 mx broadcasts_S1x128_S128x128)))
    (broadcastTo S128x128 (vIsum s) broadcasts_S1x128_S128x128)

def vCb (r i : BitVec 32) (lab : IVec S1x128 32) (mx s ll : FVec F S1x128 .f32) (cm : FVec F S1x1x128 .f32)
    (lt : FVec F S128x128 .f32) : FVec F S128x128 .bf16 :=
  extf .bf16 (truncf .fp8e5m2 (minimumf (broadcast S128x128 (Scalar.ofBits .f32 0x47600000#32))
    (maximumf (broadcast S128x128 (Scalar.ofBits .f32 0xC7600000#32))
      (mulf (select (cmpi .eq (addi (iota .tc S128x128 32 [0] iota_S128x128_d0_w32) (broadcast S128x128 r))
          (broadcastTo S128x128 (vLab i lab) broadcasts_S1x128_S128x128))
        (subf (vP mx s lt) (broadcast S128x128 (Scalar.ofBits .f32 0x3F800000#32)))
        (vP mx s lt))
        (broadcastTo S128x128 (vInv (vY i lab mx s ll cm)) broadcasts_S1x128_S128x128))))
    bitsLt_fp8e5m2_f32) bitsLt_fp8e5m2_bf16

def vGb (r i : BitVec 32) (lab : IVec S1x128 32) (mx s ll : FVec F S1x128 .f32) (cm : FVec F S1x1x128 .f32)
    (lt : FVec F S128x128 .f32) : FVec F S128x128 .bf16 :=
  mulf (vCb r i lab mx s ll cm lt)
    (broadcastTo S128x128 (truncf .bf16 (vScale (vY i lab mx s ll cm)) bitsLt_bf16_f32) broadcasts_S1x128_S128x128)

/-! ## One element -/

def sIsum (s : F .f32) : F .f32 := FloatOps.divf (Scalar.ofBits .f32 0x3F800000#32) s

def sLab (i lab : BitVec 32) : BitVec 32 := IntOp.subi lab (Scalar.muli i 768#32)

def sY (i lab : BitVec 32) (mx s ll cm : F .f32) : F .f32 :=
  FloatOps.mulf (FloatOps.maximumf (FloatOps.mulf (FloatOps.exp (FloatOps.subf cm mx)) (sIsum s))
    (Scalar.select (IntOp.andi (IntOp.cmpi .sge (sLab i lab) 0#32) (IntOp.cmpi .slt (sLab i lab) 768#32))
      (FloatOps.absf (FloatOps.subf (FloatOps.mulf (FloatOps.exp (FloatOps.subf ll mx)) (sIsum s)) (Scalar.ofBits .f32 0x3F800000#32)))
      (Scalar.ofBits .f32 0x00000000#32)))
    (Scalar.ofBits .f32 0x37924925#32)

def sP (mx s lt : F .f32) : F .f32 := FloatOps.mulf (FloatOps.exp (FloatOps.subf lt mx)) (sIsum s)

/-- The gradient at one token and one vocabulary row; `row` is the row inside the block. -/
def sG (row i lab : BitVec 32) (mx s lt : F .f32) : F .f32 :=
  Scalar.select (IntOp.cmpi .eq row (sLab i lab)) (FloatOps.subf (sP mx s lt) (Scalar.ofBits .f32 0x3F800000#32)) (sP mx s lt)

def sCb (row i lab : BitVec 32) (mx s ll cm lt : F .f32) : F .bf16 :=
  FloatOps.extf .bf16 bitsLt_fp8e5m2_bf16 (FloatOps.truncf .fp8e5m2 bitsLt_fp8e5m2_f32 (FloatOps.minimumf (Scalar.ofBits .f32 0x47600000#32)
    (FloatOps.maximumf (Scalar.ofBits .f32 0xC7600000#32)
      (FloatOps.mulf (sG row i lab mx s lt) (sInv (sY i lab mx s ll cm))))))

def sGb (row i lab : BitVec 32) (mx s ll cm lt : F .f32) : F .bf16 :=
  FloatOps.mulf (sCb row i lab mx s ll cm lt) (FloatOps.truncf .bf16 bitsLt_bf16_f32 (sScale (sY i lab mx s ll cm)))

theorem vEx_apply (y : FVec F S1x128 .f32) (x : S1x128.Idx) : vEx y x = sEx (y x) := rfl

theorem vY_apply (i : BitVec 32) (lab : IVec S1x128 32) (mx s ll : FVec F S1x128 .f32) (cm : FVec F S1x1x128 .f32)
    (x : S1x128.Idx) (z : S1x1x128.Idx) (hz : (z 2).val = (x 1).val) :
    vY i lab mx s ll cm x = sY i (lab x) (mx x) (s x) (ll x) (cm z) := by
  have h : shapeCast S1x128 cm shapeCasts_S1x1x128_S1x128 x = cm z := by
    pointwise
    refine congrArg cm ?_
    funext a
    fin_cases a <;> apply Fin.ext <;> simp <;> omega
  unfold vY sY
  show FloatOps.mulf (FloatOps.maximumf (FloatOps.mulf (FloatOps.exp (FloatOps.subf (shapeCast S1x128 cm shapeCasts_S1x1x128_S1x128 x) _)) _) _) _ = _
  rw [h]
  rfl

theorem vScale_apply (y : FVec F S1x128 .f32) (x : S1x128.Idx) : vScale y x = sScale (y x) := rfl
theorem vInv_apply (y : FVec F S1x128 .f32) (x : S1x128.Idx) : vInv y x = sInv (y x) := rfl

theorem bc_apply {α : Type} (v : S1x128.Idx → α) (x : S128x128.Idx) :
    broadcastTo S128x128 v broadcasts_S1x128_S128x128 x = v (ix2 0 (x 1)) := by
  pointwise

theorem vP_apply (mx s : FVec F S1x128 .f32) (lt : FVec F S128x128 .f32) (x : S128x128.Idx) :
    vP mx s lt x = sP (mx (ix2 0 (x 1))) (s (ix2 0 (x 1))) (lt x) := by
  unfold vP sP
  show FloatOps.mulf (FloatOps.exp (FloatOps.subf _ (broadcastTo S128x128 mx broadcasts_S1x128_S128x128 x)))
          (broadcastTo S128x128 (vIsum s) broadcasts_S1x128_S128x128 x) = _
  rw [bc_apply, bc_apply]
  rfl

theorem vCb_apply (r i : BitVec 32) (lab : IVec S1x128 32) (mx s ll : FVec F S1x128 .f32) (cm : FVec F S1x1x128 .f32)
    (lt : FVec F S128x128 .f32) (x : S128x128.Idx) :
    vCb r i lab mx s ll cm lt x = sCb (IntOp.addi (BitVec.ofNat 32 (x 0)) r) i (lab (ix2 0 (x 1))) (mx (ix2 0 (x 1))) (s (ix2 0 (x 1))) (ll (ix2 0 (x 1)))
      (cm (ix3 0 0 (x 1))) (lt x) := by
  have hi : iota .tc S128x128 32 [0] iota_S128x128_d0_w32 x = BitVec.ofNat 32 (x 0) := by
    pointwise
  unfold vCb sCb
  have hy := vY_apply i lab mx s ll cm (ix2 0 (x 1)) (ix3 0 0 (x 1)) rfl
  rw [← hy, ← hi, ← vInv_apply, ← bc_apply (vInv (vY i lab mx s ll cm))]
  unfold sG
  rw [← vP_apply]
  show FloatOps.extf .bf16 _ (FloatOps.truncf .fp8e5m2 _ (FloatOps.minimumf _ (FloatOps.maximumf _ (FloatOps.mulf
    (Scalar.select (IntOp.cmpi _ _ (broadcastTo S128x128 (vLab i lab) broadcasts_S1x128_S128x128 x)) _ _) _)))) = _
  rw [bc_apply (vLab i lab)]
  rfl

theorem vGb_apply (r i : BitVec 32) (lab : IVec S1x128 32) (mx s ll : FVec F S1x128 .f32) (cm : FVec F S1x1x128 .f32)
    (lt : FVec F S128x128 .f32) (x : S128x128.Idx) :
    vGb r i lab mx s ll cm lt x = sGb (IntOp.addi (BitVec.ofNat 32 (x 0)) r) i (lab (ix2 0 (x 1))) (mx (ix2 0 (x 1))) (s (ix2 0 (x 1))) (ll (ix2 0 (x 1)))
      (cm (ix3 0 0 (x 1))) (lt x) := by
  unfold vGb sGb
  rw [← vCb_apply, ← vY_apply i lab mx s ll cm (ix2 0 (x 1)) (ix3 0 0 (x 1)) rfl]
  show FloatOps.mulf _ (broadcastTo S128x128 _ broadcasts_S1x128_S128x128 x) = _
  rw [bc_apply]
  rfl

/-! ## A tile of a block -/

theorem inbRow (C : Nat) (hC : C + 128 ≤ 1024) : ∀ a : Fin 2, (![0, C] : Fin 2 → Nat) a + (![1, 128] : Fin 2 → Nat) a ≤ S1x1024.size a := by
  intro a; fin_cases a
  · exact Nat.le_refl 1
  · exact hC

theorem inbTok (C : Nat) (hC : C + 128 ≤ 1024) :
    ∀ a : Fin 3, (![0, 0, C] : Fin 3 → Nat) a + (![1, 1, 128] : Fin 3 → Nat) a ≤ S1x1x1024.size a := by
  intro a; fin_cases a
  · exact Nat.le_refl 1
  · exact Nat.le_refl 1
  · exact hC

theorem inbTile (R C : Nat) (hR : R + 128 ≤ 768) (hC : C + 128 ≤ 1024) :
    ∀ a : Fin 2, (![R, C] : Fin 2 → Nat) a + (![128, 128] : Fin 2 → Nat) a ≤ S768x1024.size a := by
  intro a; fin_cases a
  · exact hR
  · exact hC

abbrev ldRow {e : EltTy} (X : Vec F S1x1024 e) (C : Nat) (hC : C + 128 ≤ 1024) : Vec F S1x128 e :=
  View.ld X (Rect.unit (s := S1x1024) ![0, C] ![1, 128] (inbRow C hC))

abbrev ldTok {e : EltTy} (X : Vec F S1x1x1024 e) (C : Nat) (hC : C + 128 ≤ 1024) : Vec F S1x1x128 e :=
  View.ld X (Rect.unit (s := S1x1x1024) ![0, 0, C] ![1, 1, 128] (inbTok C hC))

abbrev ldTile {e : EltTy} (X : Vec F S768x1024 e) (R C : Nat) (hR : R + 128 ≤ 768) (hC : C + 128 ≤ 1024) : Vec F S128x128 e :=
  View.ld X (Rect.unit (s := S768x1024) ![R, C] ![128, 128] (inbTile R C hR hC))

theorem ldRow_apply {e : EltTy} (X : Vec F S1x1024 e) (C : Nat) (hC : C + 128 ≤ 1024) (l : Fin 128) (t : Fin 1024)
    (ht : t.val = C + l.val) : ldRow X C hC (ix2 0 l) = X (ix2 0 t) := by
  refine View.ld_unit_apply_of X _ _ _ _ _ fun a => ?_
  fin_cases a
  · rfl
  · exact ht

theorem ldTok_apply {e : EltTy} (X : Vec F S1x1x1024 e) (C : Nat) (hC : C + 128 ≤ 1024) (l : Fin 128) (t : Fin 1024)
    (ht : t.val = C + l.val) : ldTok X C hC (ix3 0 0 l) = X (ix3 0 0 t) := by
  refine View.ld_unit_apply_of X _ _ _ _ _ fun a => ?_
  fin_cases a
  · rfl
  · rfl
  · exact ht

theorem ldTile_apply {e : EltTy} (X : Vec F S768x1024 e) (R C : Nat) (hR : R + 128 ≤ 768) (hC : C + 128 ≤ 1024)
    (x : S128x128.Idx) (v : Fin 768) (t : Fin 1024) (hv : v.val = R + (x 0).val) (ht : t.val = C + (x 1).val) :
    ldTile X R C hR hC x = X (ix2 v t) := by
  refine View.ld_unit_apply_of X _ _ _ _ _ fun a => ?_
  fin_cases a
  · exact hv
  · exact ht

/-! ## A block: the functions of the block's inputs that the kernel's buffers hold -/

section Block
variable (i : BitVec 32) (x1 : Vec F S768x1024 .f32) (x4 : Vec F S1x1024 .i32) (x5 x6 x7 : Vec F S1x1024 .f32)
  (x8 : Vec F S1x1x1024 .f32)

def bCb (v : Fin 768) (t : Fin 1024) : F .bf16 :=
  sCb (BitVec.ofNat 32 v.val) i (x4 (ix2 0 t)) (x5 (ix2 0 t)) (x6 (ix2 0 t)) (x7 (ix2 0 t)) (x8 (ix3 0 0 t)) (x1 (ix2 v t))

def bGb (v : Fin 768) (t : Fin 1024) : F .bf16 :=
  sGb (BitVec.ofNat 32 v.val) i (x4 (ix2 0 t)) (x5 (ix2 0 t)) (x6 (ix2 0 t)) (x7 (ix2 0 t)) (x8 (ix3 0 0 t)) (x1 (ix2 v t))

def bScale (t : Fin 1024) : F .f32 :=
  sScale (sY i (x4 (ix2 0 t)) (x5 (ix2 0 t)) (x6 (ix2 0 t)) (x7 (ix2 0 t)) (x8 (ix3 0 0 t)))

variable (R C : Nat) (hR : R + 128 ≤ 768) (hC : C + 128 ≤ 1024)

theorem row_add (a : Nat) : IntOp.addi (BitVec.ofNat 32 a) (BitVec.ofNat 32 R) = BitVec.ofNat 32 (R + a) := by
  rw [Nat.add_comm]; exact (BitVec.ofNat_add a R).symm

theorem vCb_tile (x : S128x128.Idx) (v : Fin 768) (t : Fin 1024) (hv : v.val = R + (x 0).val) (ht : t.val = C + (x 1).val) :
    vCb (BitVec.ofNat 32 R) i (ldRow x4 C hC) (ldRow x5 C hC) (ldRow x6 C hC) (ldRow x7 C hC) (ldTok x8 C hC)
      (ldTile x1 R C hR hC) x = bCb i x1 x4 x5 x6 x7 x8 v t := by
  rw [vCb_apply, row_add, ldTile_apply x1 R C hR hC x v t hv ht]
  unfold bCb
  rw [hv, ldRow_apply x4 C hC _ t ht, ldRow_apply x5 C hC _ t ht, ldRow_apply x6 C hC _ t ht, ldRow_apply x7 C hC _ t ht,
    ldTok_apply x8 C hC _ t ht]

theorem vGb_tile (x : S128x128.Idx) (v : Fin 768) (t : Fin 1024) (hv : v.val = R + (x 0).val) (ht : t.val = C + (x 1).val) :
    vGb (BitVec.ofNat 32 R) i (ldRow x4 C hC) (ldRow x5 C hC) (ldRow x6 C hC) (ldRow x7 C hC) (ldTok x8 C hC)
      (ldTile x1 R C hR hC) x = bGb i x1 x4 x5 x6 x7 x8 v t := by
  rw [vGb_apply, row_add, ldTile_apply x1 R C hR hC x v t hv ht]
  unfold bGb
  rw [hv, ldRow_apply x4 C hC _ t ht, ldRow_apply x5 C hC _ t ht, ldRow_apply x6 C hC _ t ht, ldRow_apply x7 C hC _ t ht,
    ldTok_apply x8 C hC _ t ht]

theorem same_apply {α : Type} (f : S128x128.Idx → α) (x : S128x128.Idx) :
    shapeCast S128x128 f shapeCasts_S128x128_S128x128 x = f x := by
  rw [shapeCast_self]

theorem tr_apply {α : Type} (f : S128x128.Idx → α) (x : S128x128.Idx) :
    transpose S128x128 [1, 0] f transposes_S128x128_p1_0_S128x128 x = f (ix2 (x 1) (x 0)) := by
  pointwise

/-- A tile of the transposed gradient. -/
theorem gt_tile (pay : FVec F S128x128 .bf16) (x : S128x128.Idx) (y : S768x1024.Idx)
    (hp : pay = shapeCast S128x128 (vGb (BitVec.ofNat 32 R) i (ldRow x4 C hC) (ldRow x5 C hC) (ldRow x6 C hC) (ldRow x7 C hC)
      (ldTok x8 C hC) (ldTile x1 R C hR hC)) shapeCasts_S128x128_S128x128)
    (h0 : (y 0).val = R + (x 0).val) (h1 : (y 1).val = C + (x 1).val) :
    pay x = bGb i x1 x4 x5 x6 x7 x8 (y 0) (y 1) := by
  rw [hp, same_apply]
  exact vGb_tile i x1 x4 x5 x6 x7 x8 R C hR hC x (y 0) (y 1) h0 h1

/-- A tile of the gradient. -/
theorem g_tile (pay : FVec F S128x128 .bf16) (x : S128x128.Idx) (y : S1024x768.Idx)
    (hp : pay = shapeCast S128x128 (transpose S128x128 [1, 0] (vGb (BitVec.ofNat 32 R) i (ldRow x4 C hC) (ldRow x5 C hC)
      (ldRow x6 C hC) (ldRow x7 C hC) (ldTok x8 C hC) (ldTile x1 R C hR hC)) transposes_S128x128_p1_0_S128x128)
      shapeCasts_S128x128_S128x128)
    (h0 : (y 0).val = C + (x 0).val) (h1 : (y 1).val = R + (x 1).val) :
    pay x = bGb i x1 x4 x5 x6 x7 x8 (y 1) (y 0) := by
  rw [hp, same_apply, tr_apply]
  exact vGb_tile i x1 x4 x5 x6 x7 x8 R C hR hC (ix2 (x 1) (x 0)) (y 1) (y 0) h1 h0

/-- A tile of the codes. -/
theorem code_tile (pay : FVec F S128x128 .fp8e5m2) (x : S128x128.Idx) (y : S1024x768.Idx)
    (hp : pay = truncf .fp8e5m2 (transpose S128x128 [1, 0] (vCb (BitVec.ofNat 32 R) i (ldRow x4 C hC) (ldRow x5 C hC)
      (ldRow x6 C hC) (ldRow x7 C hC) (ldTok x8 C hC) (ldTile x1 R C hR hC)) transposes_S128x128_p1_0_S128x128)
      bitsLt_fp8e5m2_bf16)
    (h0 : (y 0).val = C + (x 0).val) (h1 : (y 1).val = R + (x 1).val) :
    pay x = FloatOps.truncf .fp8e5m2 bitsLt_fp8e5m2_bf16 (bCb i x1 x4 x5 x6 x7 x8 (y 1) (y 0)) := by
  rw [hp, ← vCb_tile i x1 x4 x5 x6 x7 x8 R C hR hC (ix2 (x 1) (x 0)) (y 1) (y 0) h1 h0]
  show FloatOps.truncf _ _ (transpose S128x128 [1, 0] _ transposes_S128x128_p1_0_S128x128 x) = _
  rw [tr_apply]

/-- A tile of the scales. -/
theorem scale_tile (pay : FVec F S1x1x128 .f32) (x : S1x1x128.Idx) (y : S1x1x1024.Idx)
    (hp : pay = shapeCast S1x1x128 (vScale (vY i (ldRow x4 C hC) (ldRow x5 C hC) (ldRow x6 C hC) (ldRow x7 C hC)
      (ldTok x8 C hC))) shapeCasts_S1x128_S1x1x128)
    (h2 : (y 2).val = C + (x 2).val) :
    pay x = bScale i x4 x5 x6 x7 x8 (y 2) := by
  have h : ∀ f : FVec F S1x128 .f32, shapeCast S1x1x128 f shapeCasts_S1x128_S1x1x128 x = f (ix2 0 (x 2)) := by
    intro f; pointwise
  rw [hp, h, vScale_apply, vY_apply i _ _ _ _ _ (ix2 0 (x 2)) (ix3 0 0 (x 2)) rfl]
  unfold bScale
  rw [ldRow_apply x4 C hC _ (y 2) h2, ldRow_apply x5 C hC _ (y 2) h2, ldRow_apply x6 C hC _ (y 2) h2,
    ldRow_apply x7 C hC _ (y 2) h2, ldTok_apply x8 C hC _ (y 2) h2]

end Block

/-! ## The widened weights -/

theorem off1_eq (i : grid0.Coords) (r : Fin 6) (c : Fin 8) :
    k0_off1 i (BitVec.ofNat 32 r.val) (BitVec.ofNat 32 c.val) 0 = ((i 0).val * 6 + r.val) * 8 + c.val := by
  have r_r : r.val < 6 := r.isLt
  have r_c : c.val < 8 := c.isLt
  have r_i : (i 0).val < 167 := (i 0).isLt
  have h1 : Affine.IsInt (BitVec.ofNat 32 r.val) ((r.val : Int)) := Affine.ofNat _ (by omega)
  have h2 : Affine.IsInt (BitVec.ofNat 32 c.val) ((c.val : Int)) := Affine.ofNat _ (by omega)
  have h0 : Affine.IsInt (BitVec.ofNat 32 (i 0).val) (((i 0).val : Int)) := Affine.ofNat _ (by omega)
  have h6 : Affine.IsInt 6#32 (6) := Affine.ofNat _ (by omega)
  have h3 : Affine.IsInt _ (6 * ((i 0).val : Int)) := Affine.muli h0 h6 (by omega)
  have h4 : Affine.IsInt _ (6 * ((i 0).val : Int) + (r.val : Int)) := Affine.addi h3 h1 (by omega)
  have h8 : Affine.IsInt 8#32 (8) := Affine.ofNat _ (by omega)
  have h5 : Affine.IsInt _ (48 * ((i 0).val : Int) + 8 * (r.val : Int)) := Affine.muli h4 h8 (by omega)
  have h7 : Affine.IsInt _ (48 * ((i 0).val : Int) + 8 * (r.val : Int) + (c.val : Int)) := Affine.addi h5 h2 (by omega)
  exact Affine.nat_eq h7 _ (by push_cast; ring)

/-- The weight at row `v` and column `d` of the block, dequantised with the scale of its 128 x 128 tile. -/
def bWq (i : grid0.Coords) (x0 : Vec F S8016 .f32) (x2 : Vec F S768x1024 .fp8e4m3) (v : Fin 768) (d : Fin 1024) : F .bf16 :=
  FloatOps.mulf (FloatOps.extf .bf16 bitsLt_fp8e4m3_bf16 (x2 (ix2 v d)))
    (FloatOps.truncf .bf16 bitsLt_bf16_f32 (x0 (ix1 ⟨((i 0).val * 6 + v.val / 128) * 8 + d.val / 128, by
      have h : (i 0).val < 167 := (i 0).isLt
      omega⟩)))

theorem wq_tile (i : grid0.Coords) (x0 : Vec F S8016 .f32) (x2 : Vec F S768x1024 .fp8e4m3) (r : Fin 6) (c : Fin 8)
    (hn : 0 < (Rect.unit (s := S8016) (k0_off1 i (BitVec.ofNat 32 r.val) (BitVec.ofNat 32 c.val)) ![1] (k0_off1_inb i r c)).shape.numel)
    (pay : FVec F S128x128 .bf16) (x : S128x128.Idx) (y : S768x1024.Idx)
    (hp : pay = shapeCast S128x128 (mulf (extf .bf16 (ldTile x2 (128 * r.val) (128 * c.val) (by omega) (by omega)) bitsLt_fp8e4m3_bf16)
      (truncf .bf16 (broadcast S128x128 (View.ld x0 (Rect.unit (s := S8016) (k0_off1 i (BitVec.ofNat 32 r.val) (BitVec.ofNat 32 c.val)) ![1] (k0_off1_inb i r c))
        (Shape.Idx.first hn))) bitsLt_bf16_f32)) shapeCasts_S128x128_S128x128)
    (h0 : (y 0).val = 128 * r.val + (x 0).val) (h1 : (y 1).val = 128 * c.val + (x 1).val) (x0_lt : (x 0).val < 128) (x1_lt : (x 1).val < 128) :
    pay x = bWq i x0 x2 (y 0) (y 1) := by
  rw [hp, same_apply]
  show FloatOps.mulf (FloatOps.extf _ _ (ldTile x2 (128 * r.val) (128 * c.val) _ _ x)) (FloatOps.truncf _ _ (View.ld x0 _ _)) = _
  rw [ldTile_apply x2 _ _ _ _ x (y 0) (y 1) h0 h1]
  unfold bWq
  congr 2
  refine View.ld_unit_apply_of x0 _ _ _ _ _ fun a => ?_
  fin_cases a
  show ((i 0).val * 6 + (y 0).val / 128) * 8 + (y 1).val / 128 = k0_off1 i _ _ 0 + 0
  rw [off1_eq, h0, h1]
  omega

/-! ## The two products -/

def bDW (i : BitVec 32) (x1 : Vec F S768x1024 .f32) (x3 : Vec F S1024x1024 .bf16) (x4 : Vec F S1x1024 .i32)
    (x5 x6 x7 : Vec F S1x1024 .f32) (x8 : Vec F S1x1x1024 .f32) : FVec F S768x1024 .f32 :=
  matmul dot_S768x1024_S1024x1024_S768x1024_1_0_0_1_n_n none
    (fun y : S768x1024.Idx => bGb i x1 x4 x5 x6 x7 x8 (y 0) (y 1)) x3 (constant S768x1024 .f32 0x00000000#32)

def bDX (i : grid0.Coords) (x0 : Vec F S8016 .f32) (x1 : Vec F S768x1024 .f32) (x2 : Vec F S768x1024 .fp8e4m3) (x4 : Vec F S1x1024 .i32)
    (x5 x6 x7 : Vec F S1x1024 .f32) (x8 : Vec F S1x1x1024 .f32) : FVec F S1024x1024 .f32 :=
  matmul dot_S1024x768_S768x1024_S1024x1024_1_0_0_1_n_n none
    (fun y : S1024x768.Idx => bGb (BitVec.ofNat 32 (i 0).val) x1 x4 x5 x6 x7 x8 (y 1) (y 0)) (fun y : S768x1024.Idx => bWq i x0 x2 (y 0) (y 1))
    (constant S1024x1024 .f32 0x00000000#32)

theorem canon_whole2 {e : EltTy} {n0 n1 : Nat} (v : View sig .tc .vmem ⟨2, ![n0, n1]⟩ e) (L : List (View.Piece (Elt F) ⟨2, ![n0, n1]⟩ e))
    (inb) (G : Vec F ⟨2, ![n0, n1]⟩ e) (hL : ∀ z, View.canon L z = G z) :
    v.readCov L (Rect.unit (s := ⟨2, ![n0, n1]⟩) ![0, 0] ![n0, n1] inb).toLoadRect = G := by
  rw [View.readCov_eq_canon']
  funext j
  rw [hL]
  refine congrArg G (funext fun a => Fin.ext ?_)
  fin_cases a
  · show 0 + 1 * (j 0).val = (j 0).val
    omega
  · show 0 + 1 * (j 1).val = (j 1).val
    omega

theorem ld_whole2 {e : EltTy} {n0 n1 : Nat} (X : Vec F ⟨2, ![n0, n1]⟩ e) (inb) :
    View.ld X (Rect.unit (s := ⟨2, ![n0, n1]⟩) ![0, 0] ![n0, n1] inb) = X := by
  funext j
  refine View.ld_unit_apply_of X _ _ _ _ _ fun a => ?_
  fin_cases a <;> exact (Nat.zero_add _).symm

theorem idx_eq2 {n0 n1 : Nat} (x y : (⟨2, ![n0, n1]⟩ : Shape).Idx) (h0 : (y 0).val = (x 0).val) (h1 : (y 1).val = (x 1).val) : x = y := by
  funext a; fin_cases a
  · exact Fin.ext h0.symm
  · exact Fin.ext h1.symm

/-- Under a last store of the whole buffer, its payload. -/
theorem canon_store2 {e : EltTy} {n0 n1 : Nat} (inb) (w : Vec F ⟨2, ![n0, n1]⟩ e) (L : List (View.Piece (Elt F) ⟨2, ![n0, n1]⟩ e))
    (y : (⟨2, ![n0, n1]⟩ : Shape).Idx) :
    View.canon ((⟨Rect.unit (s := ⟨2, ![n0, n1]⟩) ![0, 0] ![n0, n1] inb, w⟩ : View.Piece (Elt F) ⟨2, ![n0, n1]⟩ e) :: L) y = w y := by
  have h : (Rect.unit (s := ⟨2, ![n0, n1]⟩) ![0, 0] ![n0, n1] inb).emb y = y := by
    funext a
    apply Fin.ext
    fin_cases a
    · show 0 + 1 * (y 0).val = (y 0).val
      omega
    · show 0 + 1 * (y 1).val = (y 1).val
      omega
  have h2 := View.canon_cons_emb (Val := Elt F) (Rect.unit (s := ⟨2, ![n0, n1]⟩) ![0, 0] ![n0, n1] inb) w L y
  rw [h] at h2
  exact h2

end Cert.KernelIdeal.Blk
-- ==== Proof.MathG.lean ====
module
public import proofs.«01_k».proof.Proof.MathE
public import proofs.«01_k».proof.Proof.Chain
@[expose] public section
set_option maxRecDepth 16384
noncomputable section

/-! One token: the kernel's gradient, largest entry, scale and codes are the reference's, given the statistics of the logits. -/

namespace Cert.Spec
open Idealize.ShloMosaic Cert.KernelIdeal.Blk

abbrev neg : EReal := Ideal.ofBits FTy.f32 0xFF61B1E6#32

theorem sel_eq {α : Type} (a b : BitVec 32) (u w : α) : Scalar.select (IntOp.cmpi .eq a b) u w = if a = b then u else w := by
  by_cases h : a = b
  · simp [Scalar.select, IntOp.cmpi, h]
  · have e : (a == b) = false := beq_eq_false_iff_ne.mpr h
    rw [if_neg h]
    show (if BitVec.ofBool (a == b) = 1 then u else w) = w
    rw [e]
    exact if_neg (by decide)

theorem row_iff (n : Fin 167) (r : Fin 768) (b : BitVec 32) :
    BitVec.ofNat 32 r.val = sLab (BitVec.ofNat 32 n.val) b ↔ BitVec.ofNat 32 (n.val * 768 + r.val) = b := by
  have e : BitVec.ofNat 32 (n.val * 768 + r.val) = BitVec.ofNat 32 n.val * 768#32 + BitVec.ofNat 32 r.val := by
    rw [BitVec.ofNat_add, BitVec.ofNat_mul]
  rw [e]
  show _ = b - BitVec.ofNat 32 n.val * 768#32 ↔ _
  constructor
  · intro h; rw [h, BitVec.add_comm]; exact BitVec.sub_add_cancel _ _
  · intro h; rw [← h, BitVec.add_comm]; exact (BitVec.add_sub_cancel _ _).symm

theorem range_iff (k : BitVec 32) : IntOp.andi (IntOp.cmpi .sge k 0#32) (IntOp.cmpi .slt k 768#32) = 1#1 ↔ k.toNat < 768 := by
  have h1 : IntOp.andi (IntOp.cmpi .sge k 0#32) (IntOp.cmpi .slt k 768#32)
      = BitVec.ofBool (BitVec.sle 0#32 k) &&& BitVec.ofBool (BitVec.slt k 768#32) := rfl
  rw [h1]
  have h2 : ∀ p q : Bool, (BitVec.ofBool p &&& BitVec.ofBool q = 1#1 ↔ p = true ∧ q = true) := by decide
  rw [h2]
  clear h1 h2
  have := k.isLt
  have e0 : (0#32).toNat = 0 := rfl
  have e1 : (768#32).toNat = 768 := rfl
  simp only [BitVec.sle, BitVec.slt, decide_eq_true_eq, BitVec.toInt_eq_toNat_cond, e0, e1]
  split_ifs <;> omega

theorem inside_iff (n : Fin 167) (b : BitVec 32) :
    IntOp.andi (IntOp.cmpi .sge (sLab (BitVec.ofNat 32 n.val) b) 0#32) (IntOp.cmpi .slt (sLab (BitVec.ofNat 32 n.val) b) 768#32) = 1#1
      ↔ ∃ r : Fin 768, BitVec.ofNat 32 (n.val * 768 + r.val) = b := by
  rw [range_iff]
  constructor
  · intro h
    refine ⟨⟨_, h⟩, (row_iff n ⟨_, h⟩ b).mp ?_⟩
    show BitVec.ofNat 32 (BitVec.toNat _) = _
    rw [BitVec.ofNat_toNat, BitVec.setWidth_eq]
  · rintro ⟨r, hr⟩
    rw [← (row_iff n r b).mpr hr]
    have := r.isLt
    rw [BitVec.toNat_ofNat, Nat.mod_eq_of_lt (by omega)]
    exact this

theorem ofBits32 (b : BitVec 32) : Ideal.ofBits FTy.f32 b = Ideal.ieee 8 23 b := rfl

theorem ninf_eq : ninf = ⊥ := by
  unfold ninf
  rw [ofBits32]
  unfold Ideal.ieee
  have h1 : (0xFF800000#32).extractLsb' 31 1 = 1#1 := by decide
  have h2 : ((0xFF800000#32).extractLsb' 23 8).toNat = 255 := by decide
  have h3 : ((0xFF800000#32).extractLsb' 0 23).toNat = 0 := by decide
  simp only [Nat.reduceAdd]
  rw [h1, h2, h3]
  simp

theorem one_bits : Ideal.ofBits FTy.f32 0x3F800000#32 = (1 : EReal) := by
  have e : (0x3F800000#32) = IntOp.shli .vector (BitVec.ofNat 32 127) 23#32 := by decide
  rw [e, ofBits_pw 127 (by decide)]
  unfold pw
  norm_num

theorem zero_bits : Ideal.ofBits FTy.f32 0x00000000#32 = (0 : EReal) := by
  have e : (0x00000000#32) = IntOp.shli .vector (BitVec.ofNat 32 0) 23#32 := by decide
  rw [e, ofBits_pw 0 (by decide)]
  unfold pw
  norm_num

theorem ieee_real (b : BitVec 32) (h : (b.extractLsb' 23 8).toNat ≠ 255) : ∃ r : ℝ, Ideal.ofBits FTy.f32 b = (r : EReal) := by
  rw [ofBits32]
  unfold Ideal.ieee
  simp only [Nat.reduceAdd]
  rw [if_neg (show ¬ _ = 2 ^ 8 - 1 from h)]
  split_ifs <;> exact ⟨_, rfl⟩

theorem neg_real : ∃ r : ℝ, neg = (r : EReal) := ieee_real _ (by decide)

theorem cy_real : ∃ c : ℝ, cy = (c : EReal) ∧ 0 ≤ c ∧ c < 1 := by
  unfold cy
  rw [ofBits32]
  unfold Ideal.ieee
  have h1 : (0x37924925#32).extractLsb' 31 1 = 0#1 := by decide
  have h2 : ((0x37924925#32).extractLsb' 23 8).toNat = 111 := by decide
  have h3 : ((0x37924925#32).extractLsb' 0 23).toNat = 1198373 := by decide
  simp only [Nat.reduceAdd]
  rw [h1, h2, h3]
  refine ⟨1 * (2 ^ 23 + 1198373 : ℕ) * (2 : ℝ) ^ (-39 : ℤ), ?_, ?_, ?_⟩
  · rw [if_neg (by decide), if_neg (by decide)]
    refine congrArg (fun r : ℝ => (r : EReal)) ?_
    rw [if_neg (by decide)]
    rfl
  · positivity
  · rw [zpow_neg, ← div_eq_mul_inv, div_lt_one (by positivity)]
    norm_num

/-- What the statistics of one token's logits are. -/
structure Tok (l : Fin 128256 → EReal) (b : BitVec 32) (mx s ll : EReal) (cm : Fin 167 → EReal) : Prop where
  hlo : ∀ v, neg ≤ l v
  hhi : ∀ v, l v ≤ -neg
  hmx : mx = rMx l
  hs : s = ∑ v, Ideal.exp (l v - mx)
  hll : ll = ∑ v : Fin 128256, Scalar.select (IntOp.cmpi .eq (BitVec.ofNat 32 v.val) b) (l v) 0
  hcm : ∀ n, cm n = Finset.fold max ninf (fun r : Fin 768 => Scalar.select (IntOp.cmpi .eq (BitVec.ofNat 32 (n.val * 768 + r.val)) b)
    neg (l ⟨n.val * 768 + r.val, clt n r⟩)) Finset.univ

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The chance of a vocabulary row, as a real number. -/
structure Prob (l : Fin 128256 → EReal) (mx s : EReal) (x : Fin 128256 → ℝ) (M S : ℝ) : Prop where
  hl : ∀ v, l v = (x v : EReal)
  hM : mx = (M : EReal)
  hMr : rMx l = (M : EReal)
  hS : s = (S : EReal)
  hSr : rSum l = (S : EReal)
  pos : 0 < S
  le : ∀ v, Real.exp (x v - M) ≤ S

theorem tok_prob {l b mx s ll cm} (h : Tok l b mx s ll cm) : ∃ x M S, Prob l mx s x M S := by
  obtain ⟨nr, hnr⟩ := neg_real
  have hx : ∀ v, ∃ r : ℝ, l v = (r : EReal) := by
    intro v
    have h1 := h.hlo v
    have h2 := h.hhi v
    rw [hnr] at h1 h2
    rw [← EReal.coe_neg] at h2
    refine ⟨(l v).toReal, (EReal.coe_toReal ?_ ?_).symm⟩
    · intro e; rw [e] at h2; exact absurd h2 (not_le.mpr (EReal.coe_lt_top _))
    · intro e; rw [e] at h1; exact absurd h1 (not_le.mpr (EReal.bot_lt_coe _))
  choose x hx using hx
  have hup : ∀ v, l v ≤ rMx l := fun v => (Finset.le_fold_max _).mpr (Or.inr ⟨v, Finset.mem_univ _, le_refl _⟩)
  have hM : ∃ M : ℝ, rMx l = (M : EReal) := by
    refine ⟨(rMx l).toReal, (EReal.coe_toReal ?_ ?_).symm⟩
    · intro e
      have : rMx l ≤ -neg := (Finset.fold_max_le _).mpr ⟨by rw [ninf_eq]; exact bot_le, fun v _ => h.hhi v⟩
      rw [e, hnr, ← EReal.coe_neg] at this
      exact absurd this (not_le.mpr (EReal.coe_lt_top _))
    · intro e
      have := hup 0
      rw [e, hx 0] at this
      exact absurd this (not_le.mpr (EReal.bot_lt_coe _))
  obtain ⟨M, hM⟩ := hM
  have he : ∀ v, Ideal.exp (l v - (M : EReal)) = ((Real.exp (x v - M) : ℝ) : EReal) := fun v => by
    rw [hx v, ← EReal.coe_sub]; rfl
  have hS : ∑ v, Ideal.exp (l v - (M : EReal)) = ((∑ v, Real.exp (x v - M) : ℝ) : EReal) := by
    rw [coe_sum]; exact Finset.sum_congr rfl fun v _ => he v
  refine ⟨x, M, ∑ v, Real.exp (x v - M), hx, h.hmx.trans hM, hM, ?_, ?_, ?_, ?_⟩
  · rw [h.hs, h.hmx, hM, hS]
  · unfold rSum; rw [hM, hS]
  · exact Finset.sum_pos (fun v _ => Real.exp_pos _) ⟨0, Finset.mem_univ _⟩
  · intro v
    exact Finset.single_le_sum (f := fun v => Real.exp (x v - M)) (fun v _ => (Real.exp_pos _).le) (Finset.mem_univ v)

section
variable {l : Fin 128256 → EReal} {mx s : EReal} {x : Fin 128256 → ℝ} {M S : ℝ} (h : Prob l mx s x M S)
include h

theorem isum_eq : sIsum (F := Ideal) s = ((S⁻¹ : ℝ) : EReal) := by
  show Ideal.div (Ideal.ofBits FTy.f32 0x3F800000#32) s = _
  rw [one_bits, h.hS]
  unfold Ideal.div
  rw [if_neg (by exact_mod_cast h.pos.ne'), one_mul, EReal.coe_inv]

theorem sP_eq (z : ℝ) : sP (F := Ideal) mx s (z : EReal) = ((Real.exp (z - M) * S⁻¹ : ℝ) : EReal) := by
  show Ideal.exp ((z : EReal) - mx) * sIsum (F := Ideal) s = _
  rw [isum_eq h, h.hM, ← EReal.coe_sub, EReal.coe_mul]
  rfl

theorem rP_eq (v : Fin 128256) : rP l v = ((Real.exp (x v - M) * S⁻¹ : ℝ) : EReal) := by
  unfold rP Ideal.div
  rw [h.hSr, h.hMr, h.hl v, if_neg (by exact_mod_cast h.pos.ne'), ← EReal.coe_sub, EReal.coe_mul, EReal.coe_inv]
  rfl

theorem p_pos (z : ℝ) : 0 < Real.exp (z - M) * S⁻¹ := mul_pos (Real.exp_pos _) (inv_pos.mpr h.pos)

theorem p_le (v : Fin 128256) : Real.exp (x v - M) * S⁻¹ ≤ 1 := by
  rw [← div_eq_mul_inv, div_le_one h.pos]
  exact h.le v

theorem p_mono {a b : ℝ} (hab : a ≤ b) : Real.exp (a - M) * S⁻¹ ≤ Real.exp (b - M) * S⁻¹ :=
  mul_le_mul_of_nonneg_right (Real.exp_le_exp.mpr (by linarith)) (inv_pos.mpr h.pos).le

theorem rG_eq (b : BitVec 32) (v : Fin 128256) :
    rG l b v = (((if BitVec.ofNat 32 v.val = b then Real.exp (x v - M) * S⁻¹ - 1 else Real.exp (x v - M) * S⁻¹) : ℝ) : EReal) := by
  unfold rG
  rw [sel_eq, rP_eq h]
  split_ifs
  · rw [EReal.coe_sub, EReal.coe_one]
  · rfl

theorem sG_eq (b : BitVec 32) (n : Fin 167) (r : Fin 768) :
    sG (F := Ideal) (BitVec.ofNat 32 r.val) (BitVec.ofNat 32 n.val) b mx s (l ⟨n.val * 768 + r.val, clt n r⟩)
      = rG l b ⟨n.val * 768 + r.val, clt n r⟩ := by
  unfold sG rG
  rw [sel_eq, sel_eq, h.hl, sP_eq h, rP_eq h]
  show (if _ then _ - Ideal.ofBits FTy.f32 0x3F800000#32 else _) = _
  rw [one_bits]
  by_cases e : BitVec.ofNat 32 (n.val * 768 + r.val) = b
  · rw [if_pos ((row_iff n r b).mpr e), if_pos e]
  · rw [if_neg (fun e' => e ((row_iff n r b).mp e')), if_neg e]

end

theorem abs_coe (r : ℝ) : max (r : EReal) (-(r : EReal)) = ((|r| : ℝ) : EReal) := by
  rw [← EReal.coe_neg, abs_eq_max_neg]
  exact (EReal.coe_strictMono.monotone.map_max).symm

theorem ofNat_inj {a b : Nat} (ha : a < 128256) (hb : b < 128256) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

theorem exists_other (n : Fin 167) (b : BitVec 32) : ∃ r : Fin 768, ¬ BitVec.ofNat 32 (n.val * 768 + r.val) = b := by
  by_contra hc
  push Not at hc
  have := ofNat_inj (clt n 0) (clt n 1) ((hc 0).trans (hc 1).symm)
  simp at this

/-- The largest logit of a chunk away from the label. -/
theorem cm_spec {l b mx s ll cm} (h : Tok l b mx s ll cm) (x : Fin 128256 → ℝ) (hx : ∀ v, l v = (x v : EReal)) (n : Fin 167) :
    ∃ r0 : Fin 768, ¬ BitVec.ofNat 32 (n.val * 768 + r0.val) = b ∧ cm n = (x ⟨n.val * 768 + r0.val, clt n r0⟩ : EReal)
      ∧ ∀ r : Fin 768, ¬ BitVec.ofNat 32 (n.val * 768 + r.val) = b →
          x ⟨n.val * 768 + r.val, clt n r⟩ ≤ x ⟨n.val * 768 + r0.val, clt n r0⟩ := by
  obtain ⟨q, hq⟩ := exists_other n b
  obtain ⟨r0, hm, hmax⟩ := Finset.exists_max_image
    (Finset.univ.filter fun r : Fin 768 => ¬ BitVec.ofNat 32 (n.val * 768 + r.val) = b)
    (fun r => x ⟨n.val * 768 + r.val, clt n r⟩) ⟨q, Finset.mem_filter.mpr ⟨Finset.mem_univ _, hq⟩⟩
  have h0 := (Finset.mem_filter.mp hm).2
  have hall : ∀ r : Fin 768, ¬ BitVec.ofNat 32 (n.val * 768 + r.val) = b →
      x ⟨n.val * 768 + r.val, clt n r⟩ ≤ x ⟨n.val * 768 + r0.val, clt n r0⟩ :=
    fun r hr => hmax r (Finset.mem_filter.mpr ⟨Finset.mem_univ _, hr⟩)
  refine ⟨r0, h0, ?_, hall⟩
  rw [h.hcm n]
  apply le_antisymm
  · refine (Finset.fold_max_le _).mpr ⟨by rw [ninf_eq]; exact bot_le, fun r _ => ?_⟩
    rw [sel_eq]
    split_ifs with e
    · rw [← hx]; exact h.hlo _
    · rw [hx]; exact_mod_cast hall r e
  · refine (Finset.le_fold_max _).mpr (Or.inr ⟨r0, Finset.mem_univ _, ?_⟩)
    rw [sel_eq, if_neg h0, hx]

/-- The label's logit, when the label names a row of the chunk. -/
theorem ll_spec {l b mx s ll cm} (h : Tok l b mx s ll cm) (n : Fin 167) (r : Fin 768)
    (hr : BitVec.ofNat 32 (n.val * 768 + r.val) = b) : ll = l ⟨n.val * 768 + r.val, clt n r⟩ := by
  rw [h.hll, Finset.sum_eq_single (⟨n.val * 768 + r.val, clt n r⟩ : Fin 128256)]
  · rw [sel_eq, if_pos hr]
  · intro v _ hv
    rw [sel_eq, if_neg]
    intro e
    exact hv (Fin.ext (ofNat_inj v.isLt (clt n r) (e.trans hr.symm)))
  · intro hc; exact absurd (Finset.mem_univ _) hc

theorem sel_inside (n : Fin 167) (b : BitVec 32) (u w : EReal) :
    Scalar.select (IntOp.andi (IntOp.cmpi .sge (sLab (BitVec.ofNat 32 n.val) b) 0#32) (IntOp.cmpi .slt (sLab (BitVec.ofNat 32 n.val) b) 768#32)) u w
      = if (∃ r : Fin 768, BitVec.ofNat 32 (n.val * 768 + r.val) = b) then u else w := by
  by_cases e : ∃ r : Fin 768, BitVec.ofNat 32 (n.val * 768 + r.val) = b
  · rw [if_pos e]; exact if_pos ((inside_iff n b).mpr e)
  · rw [if_neg e]; exact if_neg (fun h => e ((inside_iff n b).mp h))

/-- The largest entry of a chunk of the gradient, times the constant: both ways of finding it agree, and it is in [0, 1). -/
theorem y_eq {l b mx s ll cm} (h : Tok l b mx s ll cm) (n : Fin 167) :
    sY (F := Ideal) (BitVec.ofNat 32 n.val) b mx s ll (cm n) = rY l b n
      ∧ ∃ y : ℝ, rY l b n = (y : EReal) ∧ 0 ≤ y ∧ y < 1 := by
  obtain ⟨x, M, S, hp⟩ := tok_prob h
  obtain ⟨r0, h0, hcm, hmax⟩ := cm_spec h x hp.hl n
  obtain ⟨c, hc, hc0, hc1⟩ := cy_real
  let P : Fin 768 → ℝ := fun r => Real.exp (x ⟨n.val * 768 + r.val, clt n r⟩ - M) * S⁻¹
  have P0 : ∀ r, 0 < P r := fun r => p_pos hp _
  have P1 : ∀ r, P r ≤ 1 := fun r => p_le hp _
  have hg : ∀ r : Fin 768, max (rG l b ⟨n.val * 768 + r.val, clt n r⟩) (-(rG l b ⟨n.val * 768 + r.val, clt n r⟩))
      = ((if BitVec.ofNat 32 (n.val * 768 + r.val) = b then |P r - 1| else P r : ℝ) : EReal) := by
    intro r
    rw [rG_eq hp, abs_coe]
    show ((|if BitVec.ofNat 32 (n.val * 768 + r.val) = b then P r - 1 else P r| : ℝ) : EReal) = _
    split_ifs
    · rfl
    · rw [abs_of_pos (P0 r)]
  have hlabel : ∀ r : Fin 768, BitVec.ofNat 32 (n.val * 768 + r.val) = b → max (sP (F := Ideal) mx s ll - 1) (-(sP (F := Ideal) mx s ll - 1)) = ((|P r - 1| : ℝ) : EReal) := by
    intro r hr
    rw [ll_spec h n r hr, hp.hl, sP_eq hp, ← EReal.coe_one, ← EReal.coe_sub, abs_coe]
  have key : max (sP (F := Ideal) mx s (cm n)) (if (∃ r : Fin 768, BitVec.ofNat 32 (n.val * 768 + r.val) = b)
      then max (sP (F := Ideal) mx s ll - 1) (-(sP (F := Ideal) mx s ll - 1)) else 0) = rA (rG l b) n := by
    have hcmp : sP (F := Ideal) mx s (cm n) = ((P r0 : ℝ) : EReal) := by rw [hcm, sP_eq hp]
    rw [hcmp]
    unfold rA
    simp only [hg]
    apply le_antisymm
    · refine max_le ?_ ?_
      · exact (Finset.le_fold_max _).mpr (Or.inr ⟨r0, Finset.mem_univ _, by rw [if_neg h0]⟩)
      · split_ifs with e
        · obtain ⟨r, hr⟩ := e
          rw [hlabel r hr]
          exact (Finset.le_fold_max _).mpr (Or.inr ⟨r, Finset.mem_univ _, by rw [if_pos hr]⟩)
        · refine (Finset.le_fold_max _).mpr (Or.inr ⟨r0, Finset.mem_univ _, ?_⟩)
          rw [if_neg h0]
          exact_mod_cast (P0 r0).le
    · refine (Finset.fold_max_le _).mpr ⟨by rw [ninf_eq]; exact bot_le, fun r _ => ?_⟩
      split_ifs with e e'
      · refine le_max_of_le_right ?_
        rw [hlabel r e]
      · exact absurd ⟨r, e⟩ e'
      · refine le_max_of_le_left ?_
        exact_mod_cast p_mono hp (hmax r e)
      · refine le_max_of_le_left ?_
        exact_mod_cast p_mono hp (hmax r e)
  constructor
  · unfold rY
    rw [← key]
    show max (sP (F := Ideal) mx s (cm n)) (Scalar.select _ (max (sP (F := Ideal) mx s ll - Ideal.ofBits FTy.f32 0x3F800000#32)
      (-(sP (F := Ideal) mx s ll - Ideal.ofBits FTy.f32 0x3F800000#32))) (Ideal.ofBits FTy.f32 0x00000000#32)) * cy = _
    rw [one_bits, zero_bits, sel_inside]
  · have hA : ∃ a : ℝ, rA (rG l b) n = (a : EReal) ∧ 0 ≤ a ∧ a ≤ 1 := by
      have hle : rA (rG l b) n ≤ ((1 : ℝ) : EReal) := by
        unfold rA
        simp only [hg]
        refine (Finset.fold_max_le _).mpr ⟨by rw [ninf_eq]; exact bot_le, fun r _ => ?_⟩
        have := P0 r
        have := P1 r
        split_ifs
        · have : |P r - 1| ≤ 1 := by rw [abs_le]; constructor <;> linarith
          exact_mod_cast this
        · exact_mod_cast P1 r
      have hge : ((0 : ℝ) : EReal) ≤ rA (rG l b) n := by
        rw [← key, hcm, sP_eq hp]
        refine le_max_of_le_left ?_
        exact_mod_cast (P0 r0).le
      refine ⟨(rA (rG l b) n).toReal, (EReal.coe_toReal ?_ ?_).symm, ?_, ?_⟩
      · intro e; rw [e] at hle; exact absurd hle (not_le.mpr (EReal.coe_lt_top _))
      · intro e; rw [e] at hge; exact absurd hge (not_le.mpr (EReal.bot_lt_coe _))
      · exact EReal.toReal_nonneg (by exact_mod_cast hge)
      · have hb : rA (rG l b) n ≠ ⊥ := by
          intro e; rw [e] at hge; exact absurd hge (not_le.mpr (EReal.bot_lt_coe _))
        have ht : rA (rG l b) n ≠ ⊤ := by
          intro e; rw [e] at hle; exact absurd hle (not_le.mpr (EReal.coe_lt_top _))
        rw [← EReal.coe_toReal ht hb] at hle
        exact_mod_cast hle
    obtain ⟨a, ha, ha0, ha1⟩ := hA
    refine ⟨a * c, ?_, mul_nonneg ha0 hc0, ?_⟩
    · unfold rY
      rw [ha, hc, EReal.coe_mul]
    · nlinarith

section
variable {l : Fin 128256 → EReal} {b : BitVec 32} {mx s ll : EReal} {cm : Fin 167 → EReal} (h : Tok l b mx s ll cm)
include h

theorem scale_tok (n : Fin 167) : sScale (F := Ideal) (sY (F := Ideal) (BitVec.ofNat 32 n.val) b mx s ll (cm n)) = Ideal.exp2 (rE (rY l b n)) := by
  obtain ⟨e, y, hy, h0, h1⟩ := y_eq h n
  rw [e, hy]
  exact (scale_eq y h0 h1).1

theorem inv_tok (n : Fin 167) : sInv (F := Ideal) (sY (F := Ideal) (BitVec.ofNat 32 n.val) b mx s ll (cm n)) = Ideal.exp2 (0 - rE (rY l b n)) := by
  obtain ⟨e, y, hy, h0, h1⟩ := y_eq h n
  rw [e, hy]
  exact (scale_eq y h0 h1).2

theorem cdiv (n : Fin 167) (r : Fin 768) (v : Fin 128256) (hv : v.val = n.val * 768 + r.val) : (⟨v.val / 768, dlt v⟩ : Fin 167) = n := by
  have := r.isLt
  exact Fin.ext (by show v.val / 768 = n.val; omega)

theorem code_tok (n : Fin 167) (r : Fin 768) (v : Fin 128256) (hv : v.val = n.val * 768 + r.val) :
    sCb (F := Ideal) (BitVec.ofNat 32 r.val) (BitVec.ofNat 32 n.val) b mx s ll (cm n) (l v) = rCode l b v := by
  have ev : v = ⟨n.val * 768 + r.val, clt n r⟩ := Fin.ext hv
  obtain ⟨x, M, S, hp⟩ := tok_prob h
  unfold rCode rC
  rw [cdiv h n r v hv, ← inv_tok h n, ev, ← sG_eq hp b n r]
  rfl

theorem gq_tok (n : Fin 167) (r : Fin 768) (v : Fin 128256) (hv : v.val = n.val * 768 + r.val) :
    sGb (F := Ideal) (BitVec.ofNat 32 r.val) (BitVec.ofNat 32 n.val) b mx s ll (cm n) (l v) = rGq l b v := by
  unfold rGq
  rw [← code_tok h n r v hv, cdiv h n r v hv, ← scale_tok h n]
  rfl

end

end Cert.Spec
-- ==== Proof.FMath.lean ====
module
public import proofs.«01_k».proof.Proof.MathG
@[expose] public section
set_option maxRecDepth 16384
noncomputable section

/-! One token: the forward call's running maximum, sum of exponentials and label logit give the loss of the logits, whatever extended reals they are. -/

namespace Cert.Spec
open Idealize.ShloMosaic

/-- The exponential of the distance below the maximum `m`; 0 at minus infinity. -/
theorem exp_top (z : EReal) : Ideal.exp (z - ⊤) = 0 := by
  rw [EReal.sub_top]; rfl

theorem exp_bot (m : EReal) : Ideal.exp (⊥ - m) = 0 := by
  rw [EReal.bot_sub]; rfl

/-- The exponential of `z - m` is a real number when `z` does not pass the real `m`. -/
theorem exp_real {z : EReal} {m : ℝ} (h : z ≤ m) : ∃ r : ℝ, 0 ≤ r ∧ (z ≠ ⊥ → 0 < r) ∧
    ∀ p : ℝ, Ideal.exp (z - (p : EReal)) = ((r * Real.exp (m - p) : ℝ) : EReal) := by
  induction z with
  | bot => exact ⟨0, le_refl _, fun e => absurd rfl e, fun p => by rw [exp_bot, zero_mul]; rfl⟩
  | top => exact absurd h (not_le.mpr (EReal.coe_lt_top _))
  | coe z =>
    refine ⟨Real.exp (z - m), (Real.exp_pos _).le, fun _ => Real.exp_pos _, fun p => ?_⟩
    rw [← EReal.coe_sub, ← Real.exp_add]
    show ((Real.exp (z - p) : ℝ) : EReal) = _
    congr 2
    ring

/-- Moving a sum of exponentials from the maximum `m` to a larger one. -/
theorem rescale {ι : Type} (s : Finset ι) (x : ι → EReal) (m m' : EReal) (hm : ⊥ < m) (hmm : m ≤ m') (hx : ∀ v ∈ s, x v ≤ m) :
    (∑ v ∈ s, Ideal.exp (x v - m)) * Ideal.exp (m - m') = ∑ v ∈ s, Ideal.exp (x v - m') := by
  induction m' with
  | bot => exact absurd (lt_of_lt_of_le hm hmm) (lt_irrefl _)
  | top =>
    rw [exp_top, mul_zero]
    exact (Finset.sum_eq_zero fun v _ => exp_top _).symm
  | coe p =>
    induction m with
    | bot => exact absurd hm (lt_irrefl _)
    | top => exact absurd hmm (not_le.mpr (EReal.coe_lt_top _))
    | coe m =>
      have h : ∀ v, ∃ r : ℝ, v ∈ s → ∀ p : ℝ, Ideal.exp (x v - (p : EReal)) = ((r * Real.exp (m - p) : ℝ) : EReal) := by
        intro v
        by_cases hv : v ∈ s
        · obtain ⟨r, _, _, hr⟩ := exp_real (hx v hv)
          exact ⟨r, fun _ => hr⟩
        · exact ⟨0, fun e => absurd e hv⟩
      choose r hr using h
      rw [Finset.sum_congr rfl fun v hv => hr v hv m, Finset.sum_congr rfl fun v hv => hr v hv p, ← coe_sum, ← coe_sum, ← EReal.coe_sub]
      show _ * ((Real.exp (m - p) : ℝ) : EReal) = _
      rw [← EReal.coe_mul, Finset.sum_mul]
      refine congrArg (fun z : ℝ => (z : EReal)) (Finset.sum_congr rfl fun v _ => ?_)
      rw [sub_self, Real.exp_zero, mul_one]

/-- What the running statistics of one token are after `n` chunks of 768 logits. -/
structure Run (x : Nat → EReal) (b : BitVec 32) (n : Nat) (m s ll : EReal) : Prop where
  hm : ∀ y, m ≤ y ↔ neg ≤ y ∧ ∀ v < 768 * n, x v ≤ y
  hs : s = ∑ v ∈ Finset.range (768 * n), Ideal.exp (x v - m)
  hl : ll = ∑ v ∈ Finset.range (768 * n), if BitVec.ofNat 32 v = b then x v else 0

theorem run_zero (x : Nat → EReal) (b : BitVec 32) : Run x b 0 neg 0 0 := by
  refine ⟨fun y => ⟨fun h => ⟨h, fun v hv => ?_⟩, fun h => h.1⟩, ?_, ?_⟩
  · exact absurd hv (by omega)
  · simp
  · simp

theorem neg_bot : (⊥ : EReal) < neg := by
  obtain ⟨r, hr⟩ := neg_real
  rw [hr]; exact EReal.bot_lt_coe _

theorem run_step {x : Nat → EReal} {b : BitVec 32} {n : Nat} {m s ll m' : EReal} (h : Run x b n m s ll)
    (hm' : ∀ y, m' ≤ y ↔ m ≤ y ∧ neg ≤ y ∧ ∀ r < 768, x (768 * n + r) ≤ y) :
    Run x b (n + 1) m' (s * Ideal.exp (m - m') + ∑ r ∈ Finset.range 768, Ideal.exp (x (768 * n + r) - m'))
      (ll + ∑ r ∈ Finset.range 768, if BitVec.ofNat 32 (768 * n + r) = b then x (768 * n + r) else 0) := by
  have e : 768 * (n + 1) = 768 * n + 768 := by ring
  refine ⟨fun y => ?_, ?_, ?_⟩
  · rw [hm', h.hm]
    constructor
    · rintro ⟨⟨_, h1⟩, h2, h3⟩
      refine ⟨h2, fun v hv => ?_⟩
      by_cases hlt : v < 768 * n
      · exact h1 v hlt
      · have := h3 (v - 768 * n) (by omega)
        rwa [show 768 * n + (v - 768 * n) = v by omega] at this
    · rintro ⟨h1, h2⟩
      exact ⟨⟨h1, fun v hv => h2 v (by omega)⟩, h1, fun r hr => h2 _ (by omega)⟩
  · have h0 := (hm' m').mp (le_refl _)
    have h1 := (h.hm m).mp (le_refl _)
    rw [e, Finset.sum_range_add, h.hs,
      rescale _ x m m' (lt_of_lt_of_le neg_bot h1.1) h0.1 fun v hv => h1.2 v (Finset.mem_range.mp hv)]
  · rw [e, Finset.sum_range_add, h.hl]

/-- The largest value from `-3e38` up plus the logarithm of the sum is the same from the largest value itself. -/
theorem lse_eq {ι : Type} (s : Finset ι) (x : ι → EReal) (m M : EReal) (hm : ∀ y, m ≤ y ↔ neg ≤ y ∧ ∀ v ∈ s, x v ≤ y)
    (hM : ∀ y, M ≤ y ↔ ∀ v ∈ s, x v ≤ y) :
    m + Ideal.log (∑ v ∈ s, Ideal.exp (x v - m)) = M + Ideal.log (∑ v ∈ s, Ideal.exp (x v - M)) := by
  have hxM := (hM M).mp (le_refl _)
  by_cases hn : neg ≤ M
  · have : m = M := le_antisymm ((hm M).mpr ⟨hn, hxM⟩) ((hM m).mpr ((hm m).mp (le_refl _)).2)
    rw [this]
  · have hlt := not_le.mp hn
    have e : m = neg := le_antisymm ((hm neg).mpr ⟨le_refl _, fun v hv => (hxM v hv).trans hlt.le⟩) ((hm m).mp (le_refl _)).1
    obtain ⟨N, hN⟩ := neg_real
    rw [e]
    rw [hN] at hlt ⊢
    induction M with
    | bot =>
      have z : ∀ p : EReal, ∑ v ∈ s, Ideal.exp (x v - p) = 0 := fun p =>
        Finset.sum_eq_zero fun v hv => by rw [le_bot_iff.mp (hxM v hv), exp_bot]
      rw [z, z]
      have l0 : Ideal.log 0 = ⊥ := by
        show (if (0 : ℝ) ≤ 0 then (⊥ : EReal) else _) = ⊥
        exact if_pos (le_refl _)
      rw [l0, EReal.add_bot, EReal.add_bot]
    | top => exact absurd hlt (not_lt.mpr le_top)
    | coe M =>
      have h : ∀ v, ∃ r : ℝ, v ∈ s → 0 ≤ r ∧ (x v ≠ ⊥ → 0 < r) ∧ ∀ p : ℝ, Ideal.exp (x v - (p : EReal)) = ((r * Real.exp (M - p) : ℝ) : EReal) := by
        intro v
        by_cases hv : v ∈ s
        · obtain ⟨r, hr⟩ := exp_real (hxM v hv)
          exact ⟨r, fun _ => hr⟩
        · exact ⟨0, fun e => absurd e hv⟩
      choose r hr using h
      have hpos : 0 < ∑ v ∈ s, r v := by
        refine Finset.sum_pos' (fun v hv => (hr v hv).1) ?_
        by_contra hc
        push Not at hc
        have : (M : EReal) ≤ ⊥ := (hM ⊥).mpr fun v hv => by
          by_contra hb
          exact absurd ((hr v hv).2.1 fun e => hb (by rw [e])) (not_lt.mpr (hc v hv))
        exact absurd this (not_le.mpr (EReal.bot_lt_coe _))
      have hsum : ∀ p : ℝ, ∑ v ∈ s, Ideal.exp (x v - (p : EReal)) = (((∑ v ∈ s, r v) * Real.exp (M - p) : ℝ) : EReal) := fun p => by
        rw [Finset.sum_congr rfl fun v hv => (hr v hv).2.2 p, ← coe_sum, Finset.sum_mul]
      have hlog : ∀ p : ℝ, (p : EReal) + Ideal.log (∑ v ∈ s, Ideal.exp (x v - (p : EReal))) = ((Real.log (∑ v ∈ s, r v) + M : ℝ) : EReal) := fun p => by
        have hq : 0 < (∑ v ∈ s, r v) * Real.exp (M - p) := mul_pos hpos (Real.exp_pos _)
        rw [hsum]
        have : Ideal.log (((∑ v ∈ s, r v) * Real.exp (M - p) : ℝ) : EReal) = ((Real.log ((∑ v ∈ s, r v) * Real.exp (M - p)) : ℝ) : EReal) :=
          if_neg (not_le.mpr hq)
        rw [this, Real.log_mul hpos.ne' (Real.exp_pos _).ne', Real.log_exp, ← EReal.coe_add]
        congr 1
        ring
      rw [hlog, hlog]

/-- The logits of a token by the number of the vocabulary row. -/
def byRow (l : Fin 128256 → EReal) (v : Nat) : EReal := if h : v < 128256 then l ⟨v, h⟩ else 0

theorem byRow_eq (l : Fin 128256 → EReal) (v : Fin 128256) : byRow l v.val = l v := dif_pos v.isLt

/-- The loss of one token. -/
def rLoss (l : Fin 128256 → EReal) (b : BitVec 32) : EReal :=
  rMx l + Ideal.log (rSum l) - ∑ v : Fin 128256, Scalar.select (IntOp.cmpi .eq (BitVec.ofNat 32 v.val) b) (l v) 0

theorem loss_eq {l : Fin 128256 → EReal} {b : BitVec 32} {m s ll : EReal} (h : Run (byRow l) b 167 m s ll) :
    m + Ideal.log s - ll = rLoss l b := by
  have e1 : s = ∑ v : Fin 128256, Ideal.exp (l v - m) := by
    rw [h.hs, show 768 * 167 = 128256 by norm_num, Finset.sum_range]
    exact Finset.sum_congr rfl fun v _ => by rw [byRow_eq]
  have e2 : ll = ∑ v : Fin 128256, Scalar.select (IntOp.cmpi .eq (BitVec.ofNat 32 v.val) b) (l v) 0 := by
    rw [h.hl, show 768 * 167 = 128256 by norm_num, Finset.sum_range]
    exact Finset.sum_congr rfl fun v _ => by rw [byRow_eq, sel_eq]
  rw [e1, e2]
  unfold rLoss rSum
  refine congrArg (fun z => z - _) (lse_eq Finset.univ l m (rMx l) (fun y => ?_) (fun y => ?_))
  · rw [h.hm]
    refine and_congr_right fun _ => ⟨fun h v _ => ?_, fun h v hv => ?_⟩
    · rw [← byRow_eq l v]; exact h _ (by have := v.isLt; omega)
    · have := h ⟨v, by omega⟩ (Finset.mem_univ _)
      rwa [← byRow_eq l] at this
  · unfold rMx
    rw [Finset.fold_max_le, ninf_eq]
    exact ⟨fun h => h.2, fun h => ⟨bot_le, h⟩⟩

end Cert.Spec
-- ==== Proof.FwdStat.lean ====
module
public import proofs.«01_k».proof.Proof.FwdVec
public import proofs.«01_k».proof.Proof.FMath
public import Idealize.ShloMosaic.Lib.Pipeline.ValueKit
@[expose] public section
set_option maxRecDepth 16384
noncomputable section

/-! One step of the forward call on one token: the running maximum, sum of exponentials and label logit after a chunk of 768 logits. -/

namespace Cert.ForwardIdeal.Blk
open Cert.ForwardIdeal Cert.ForwardIdeal.Gen Idealize.ShloMosaic Idealize.ShloMosaic.TcCoe

/-! ## One token -/

open Cert.Spec Cert.KernelIdeal.Blk

theorem redMax_at (g : FVec Ideal S8x128 .f32) (l : Fin 128) :
    shapeCast S1x128 (multiReduction .maximumf [0] S128 g 0xFF800000#32 reduces_S8x128_S128 (.inl rfl) rfl) shapeCasts_S128_S1x128 (ix2 0 l)
      = Finset.fold max ninf (fun q : Fin 8 => g (ix2 q l)) Finset.univ := by
  pointwise

theorem redAdd_at (g : FVec Ideal S8x128 .f32) (l : Fin 128) :
    shapeCast S1x128 (multiReduction .add [0] S128 g 0x00000000#32 reduces_S8x128_S128 (.inl rfl) rfl) shapeCasts_S128_S1x128 (ix2 0 l)
      = ∑ q : Fin 8, g (ix2 q l) := by
  pointwise

theorem bc8_at {α : Type} (v : S1x128.Idx → α) (q : Fin 8) (l : Fin 128) :
    broadcastTo S8x128 (shapeCast S1x128 v shapeCasts_S1x128_S1x128) broadcasts_S1x128_S8x128 (ix2 q l) = v (ix2 0 l) := by
  pointwise

theorem same8 {α : Type} (v : S8x128.Idx → α) : shapeCast S8x128 v shapeCasts_S8x128_S8x128 = v := shapeCast_self _ _

theorem same1 {α : Type} (v : S1x128.Idx → α) : shapeCast S1x128 v shapeCasts_S1x128_S1x128 = v := shapeCast_self _ _

theorem row8_at (q : Fin 8) (l : Fin 128) : iota .tc S8x128 32 [0] iota_S8x128_d0_w32 (ix2 q l) = BitVec.ofNat 32 q.val := by
  pointwise

theorem blocks8 (f : Nat → EReal) (n : Nat) :
    ∑ q : Fin 8, ∑ k ∈ Finset.range n, f (8 * k + q.val) = ∑ r ∈ Finset.range (8 * n), f r := by
  rw [Finset.sum_comm]
  induction n with
  | zero => simp
  | succ n ih => rw [Finset.sum_range_succ, ih, show 8 * (n + 1) = 8 * n + 8 by ring, Finset.sum_range_add, Finset.sum_range (fun q => f (8 * n + q))]

section
variable (n : Fin 167) (lab : IVec S1x128 32) (l : Fin 128) (x : Nat → EReal) (X : Fin 96 → FVec Ideal S8x128 .f32)

theorem hit_at (k : Fin 96) (q : Fin 8) {α : Type} (u w : α) :
    Scalar.select (vHit (vLabB (BitVec.ofNat 32 n.val) lab) k.val (ix2 q l)) u w
      = if BitVec.ofNat 32 (768 * n.val + (8 * k.val + q.val)) = lab (ix2 0 l) then u else w := by
  have hk := k.isLt
  have hq := q.isLt
  have e : vHit (vLabB (BitVec.ofNat 32 n.val) lab) k.val (ix2 q l)
      = IntOp.cmpi .eq (BitVec.ofNat 32 (8 * k.val + q.val)) (sLab (BitVec.ofNat 32 n.val) (lab (ix2 0 l))) := by
    unfold vHit
    show IntOp.cmpi .eq (iota .tc S8x128 32 [0] iota_S8x128_d0_w32 (ix2 q l) + BitVec.ofNat 32 (8 * k.val)) (vLabB _ lab (ix2 q l)) = _
    unfold vLabB
    rw [row8_at, bc8_at, ← BitVec.ofNat_add, Nat.add_comm]
    rfl
  rw [e, sel_eq]
  refine if_congr ?_ rfl rfl
  rw [Nat.mul_comm 768]
  exact row_iff n ⟨8 * k.val + q.val, by omega⟩ _

variable (hX : ∀ (k : Fin 96) (q : Fin 8), X k (ix2 q l) = x (768 * n.val + (8 * k.val + q.val)))
include hX

theorem vM8_le (y : EReal) (q : Fin 8) (j : Nat) (h : j ≤ 96) :
    vM8 (vLabB (BitVec.ofNat 32 n.val) lab) X j h (ix2 q l) ≤ y
      ↔ neg ≤ y ∧ ∀ k < j, (if BitVec.ofNat 32 (768 * n.val + (8 * k + q.val)) = lab (ix2 0 l) then neg else x (768 * n.val + (8 * k + q.val))) ≤ y := by
  induction j with
  | zero => exact ⟨fun h => ⟨h, fun k hk => absurd hk (Nat.not_lt_zero _)⟩, fun h => h.1⟩
  | succ j ih =>
    unfold vM8
    rw [same8]
    show max (vM8 _ X j _ (ix2 q l)) (Scalar.select (vHit _ (⟨j, h⟩ : Fin 96).val (ix2 q l)) neg (X ⟨j, h⟩ (ix2 q l))) ≤ y ↔ _
    rw [max_le_iff, ih, hit_at, hX]
    constructor
    · rintro ⟨⟨h1, h2⟩, h3⟩
      refine ⟨h1, fun k hk => ?_⟩
      rcases Nat.lt_succ_iff_lt_or_eq.mp hk with h4 | h4
      · exact h2 k h4
      · rw [h4]; exact h3
    · rintro ⟨h1, h2⟩
      exact ⟨⟨h1, fun k hk => h2 k (by omega)⟩, h2 j (by omega)⟩

theorem vL8_at (q : Fin 8) (j : Nat) (h : j ≤ 96) :
    vL8 (vLabB (BitVec.ofNat 32 n.val) lab) X j h (ix2 q l)
      = ∑ k ∈ Finset.range j, if BitVec.ofNat 32 (768 * n.val + (8 * k + q.val)) = lab (ix2 0 l) then x (768 * n.val + (8 * k + q.val)) else 0 := by
  induction j with
  | zero => exact zero_bits
  | succ j ih =>
    unfold vL8
    rw [same8, Finset.sum_range_succ]
    show vL8 _ X j _ (ix2 q l) + Scalar.select (vHit _ (⟨j, h⟩ : Fin 96).val (ix2 q l)) (X ⟨j, h⟩ (ix2 q l)) (Ideal.ofBits FTy.f32 0x00000000#32) = _
    rw [ih, hit_at, hX, zero_bits]

theorem vS8_at (mb : FVec Ideal S8x128 .f32) (m : EReal) (hm : ∀ q : Fin 8, mb (ix2 q l) = m) (q : Fin 8) (j : Nat) (h : j ≤ 96) :
    vS8 mb X j h (ix2 q l) = ∑ k ∈ Finset.range j, Ideal.exp (x (768 * n.val + (8 * k + q.val)) - m) := by
  induction j with
  | zero => exact zero_bits
  | succ j ih =>
    unfold vS8
    rw [same8, Finset.sum_range_succ]
    show vS8 _ X j _ (ix2 q l) + Ideal.exp (X ⟨j, h⟩ (ix2 q l) - mb (ix2 q l)) = _
    rw [ih, hX, hm]

theorem vCm_le (y : EReal) :
    vCm (BitVec.ofNat 32 n.val) lab X (ix2 0 l) ≤ y
      ↔ neg ≤ y ∧ ∀ r < 768, (if BitVec.ofNat 32 (768 * n.val + r) = lab (ix2 0 l) then neg else x (768 * n.val + r)) ≤ y := by
  unfold vCm
  rw [redMax_at, Finset.fold_max_le, ninf_eq]
  constructor
  · rintro ⟨_, h⟩
    refine ⟨((vM8_le n lab l x X hX y 0 96 _).mp (h 0 (Finset.mem_univ _))).1, fun r hr => ?_⟩
    have := ((vM8_le n lab l x X hX y ⟨r % 8, Nat.mod_lt _ (by decide)⟩ 96 _).mp (h _ (Finset.mem_univ _))).2 (r / 8) (by omega)
    rwa [show 8 * (r / 8) + r % 8 = r by omega] at this
  · rintro ⟨h1, h2⟩
    refine ⟨bot_le, fun q _ => (vM8_le n lab l x X hX y q 96 _).mpr ⟨h1, fun k hk => h2 _ ?_⟩⟩
    have := q.isLt
    omega

theorem vLs_at :
    vLs (BitVec.ofNat 32 n.val) lab X (ix2 0 l)
      = ∑ r ∈ Finset.range 768, if BitVec.ofNat 32 (768 * n.val + r) = lab (ix2 0 l) then x (768 * n.val + r) else 0 := by
  unfold vLs
  rw [redAdd_at]
  exact (Finset.sum_congr rfl fun q _ => vL8_at n lab l x X hX q 96 _).trans
    (blocks8 (fun r => if BitVec.ofNat 32 (768 * n.val + r) = lab (ix2 0 l) then x (768 * n.val + r) else 0) 96)

theorem vMx_le (mo : FVec Ideal S1x128 .f32) (y : EReal) :
    vMx (BitVec.ofNat 32 n.val) lab X mo (ix2 0 l) ≤ y ↔ mo (ix2 0 l) ≤ y ∧ neg ≤ y ∧ ∀ r < 768, x (768 * n.val + r) ≤ y := by
  unfold vMx
  rw [same1]
  show max (mo (ix2 0 l)) (max (vCm _ lab X (ix2 0 l)) (if IntOp.andi (IntOp.cmpi .sge (sLab (BitVec.ofNat 32 n.val) (lab (ix2 0 l))) 0#32)
      (IntOp.cmpi .slt (sLab (BitVec.ofNat 32 n.val) (lab (ix2 0 l))) 768#32) = 1#1 then vLs _ lab X (ix2 0 l) else neg)) ≤ y ↔ _
  rw [max_le_iff, max_le_iff, vCm_le n lab l x X hX, vLs_at n lab l x X hX]
  refine and_congr_right fun _ => ?_
  have hn := n.isLt
  by_cases hin : ∃ r : Fin 768, BitVec.ofNat 32 (n.val * 768 + r.val) = lab (ix2 0 l)
  · rw [if_pos ((inside_iff n _).mpr hin)]
    obtain ⟨r0, h0⟩ := hin
    rw [Nat.mul_comm] at h0
    have hr0 := r0.isLt
    have hone : ∀ r < 768, BitVec.ofNat 32 (768 * n.val + r) = lab (ix2 0 l) → r = r0.val := fun r hr h => by
      have := ofNat_inj (a := 768 * n.val + r) (b := 768 * n.val + r0.val) (by omega) (by omega) (h.trans h0.symm)
      omega
    rw [Finset.sum_eq_single r0.val (fun r hr hne => if_neg fun h => hne (hone r (Finset.mem_range.mp hr) h))
      (fun h => absurd (Finset.mem_range.mpr hr0) h), if_pos h0]
    constructor
    · rintro ⟨⟨h1, h2⟩, h3⟩
      refine ⟨h1, fun r hr => ?_⟩
      by_cases h : BitVec.ofNat 32 (768 * n.val + r) = lab (ix2 0 l)
      · rw [hone r hr h]; exact h3
      · have := h2 r hr
        rwa [if_neg h] at this
    · rintro ⟨h1, h2⟩
      refine ⟨⟨h1, fun r hr => ?_⟩, h2 _ hr0⟩
      split_ifs
      · exact h1
      · exact h2 r hr
  · rw [if_neg (fun h => hin ((inside_iff n _).mp h))]
    have hno : ∀ r < 768, ¬ BitVec.ofNat 32 (768 * n.val + r) = lab (ix2 0 l) := fun r hr h => hin ⟨⟨r, hr⟩, by rw [Nat.mul_comm]; exact h⟩
    constructor
    · rintro ⟨⟨h1, h2⟩, _⟩
      refine ⟨h1, fun r hr => ?_⟩
      have := h2 r hr
      rwa [if_neg (hno r hr)] at this
    · rintro ⟨h1, h2⟩
      refine ⟨⟨h1, fun r hr => ?_⟩, h1⟩
      rw [if_neg (hno r hr)]
      exact h2 r hr

/-- A chunk takes a token's statistics one step further. -/
theorem step_tok (mo so lo : FVec Ideal S1x128 .f32) (h : Run x (lab (ix2 0 l)) n.val (mo (ix2 0 l)) (so (ix2 0 l)) (lo (ix2 0 l))) :
    Run x (lab (ix2 0 l)) (n.val + 1) (vMx (BitVec.ofNat 32 n.val) lab X mo (ix2 0 l)) (vSm (BitVec.ofNat 32 n.val) lab X mo so (ix2 0 l))
      (vLl (BitVec.ofNat 32 n.val) lab X lo (ix2 0 l)) := by
  have hs : vSm (BitVec.ofNat 32 n.val) lab X mo so (ix2 0 l)
      = so (ix2 0 l) * Ideal.exp (mo (ix2 0 l) - vMx (BitVec.ofNat 32 n.val) lab X mo (ix2 0 l))
        + ∑ r ∈ Finset.range 768, Ideal.exp (x (768 * n.val + r) - vMx (BitVec.ofNat 32 n.val) lab X mo (ix2 0 l)) := by
    unfold vSm
    rw [same1, same1]
    show so (ix2 0 l) * Ideal.exp (mo (ix2 0 l) - vMx _ lab X mo (ix2 0 l)) + shapeCast S1x128 _ shapeCasts_S128_S1x128 (ix2 0 l) = _
    rw [redAdd_at]
    refine congrArg (fun z => _ + z) ((Finset.sum_congr rfl fun q _ => vS8_at n l x X hX _ _ (fun q => bc8_at _ q l) q 96 _).trans ?_)
    exact blocks8 (fun r => Ideal.exp (x (768 * n.val + r) - vMx (BitVec.ofNat 32 n.val) lab X mo (ix2 0 l))) 96
  have hl : vLl (BitVec.ofNat 32 n.val) lab X lo (ix2 0 l)
      = lo (ix2 0 l) + ∑ r ∈ Finset.range 768, if BitVec.ofNat 32 (768 * n.val + r) = lab (ix2 0 l) then x (768 * n.val + r) else 0 := by
    unfold vLl
    rw [same1]
    show lo (ix2 0 l) + vLs _ lab X (ix2 0 l) = _
    rw [vLs_at n lab l x X hX]
  rw [hs, hl]
  exact run_step h (vMx_le n lab l x X hX mo)

end

end Cert.ForwardIdeal.Blk
-- ==== Proof.FwdArr.lean ====
module
public import proofs.«01_k».proof.Proof.Gen.ForwardIdeal.Value
public import proofs.«01_k».proof.Proof.FwdA
public import proofs.«01_k».proof.Proof.FwdB
public import proofs.«01_k».proof.Proof.FwdC
@[expose] public section
set_option maxRecDepth 16384
noncomputable section

/-! The array of transposed logits after the forward call, from the argument arrays. -/

namespace Cert.ForwardIdeal.Blk
open Cert.ForwardIdeal Cert.ForwardIdeal.Gen Cert.ForwardIdeal.Value Idealize.ShloMosaic Idealize.ShloMosaic.TcCoe
variable (m : (ℓ : Loc nD τ sig) → Buf (Elt Ideal) ℓ) (c : Dev nD)

abbrev B0 (t : Fin cfg0.N) : Vec Ideal S8016 .f32 := iblk m c 0 t
abbrev B1 (t : Fin cfg0.N) : Vec Ideal S768x1024 .fp8e4m3 := iblk m c 1 t
abbrev B2 (t : Fin cfg0.N) : Vec Ideal S1024x1024 .bf16 := iblk m c 2 t

abbrev ws : Vec Ideal S1002x8 .f32 := m ((c : Thread nD τ).loc main_arg0)
abbrev wc : Vec Ideal S128256x1024 .fp8e4m3 := m ((c : Thread nD τ).loc main_arg1)
abbrev hqt : Vec Ideal S1024x1024 .bf16 := m ((c : Thread nD τ).loc main_arg2)

theorem coords0 (t : Fin cfg0.N) : (grid0.coords t 0).val = t.val := by
  have ht : t.val < 167 := Nat.lt_of_lt_of_eq t.isLt N_0
  have e0 : (grid0.coords t 0).val = t.val / 1 % 167 := Pipeline.Grid.coords_val t 0 (by decide) rfl
  omega

theorem ct (t : Fin cfg0.N) : t.val < 167 := Nat.lt_of_lt_of_eq t.isLt N_0
theorem rlt {n : Nat} (h : n < 167) (r : Fin 768) : 768 * n + r.val < 128256 := by have := r.isLt; omega

theorem widx0 : ∀ t : Fin cfg0.N, win0_0.index t = ![0] := (by decide +kernel : ∀ t : Fin grid0.N, _)
theorem widx1 : ∀ t : Fin cfg0.N, win0_1.index t = ![(grid0.coords t 0).val, 0] := (by decide +kernel : ∀ t : Fin grid0.N, _)
theorem widx2 : ∀ t : Fin cfg0.N, win0_2.index t = ![0, 0] := (by decide +kernel : ∀ t : Fin grid0.N, _)
theorem widx4 : ∀ t : Fin cfg0.N, win0_4.index t = ![(grid0.coords t 0).val, 0] := (by decide +kernel : ∀ t : Fin grid0.N, _)
theorem fl4 : ∀ t : Fin cfg0.N, (cfg0.win 4).flush t = true := (by decide +kernel : ∀ t : Fin grid0.N, _)

theorem B0_at (t : Fin cfg0.N) (a : Fin 1002) (b : Fin 8) (h : a.val * 8 + b.val < 8016) :
    B0 m c t (ix1 ⟨a.val * 8 + b.val, h⟩) = ws m c (ix2 a b) := by
  blk_simp [iblk, widx0 t]
  entry_read
  pointwise
  blk_ext [widx0 t]

theorem B1_at (t : Fin cfg0.N) (r : Fin 768) (k : Fin 1024) :
    B1 m c t (ix2 r k) = wc m c (ix2 ⟨768 * t.val + r.val, rlt (ct t) r⟩ k) := by
  have e := coords0 t
  blk_ext! [iblk, V_main_arg1, widx1 t]

theorem B2_at (t : Fin cfg0.N) : B2 m c t = hqt m c := by
  funext y
  blk_ext! [iblk, V_main_arg2, widx2 t]

/-- At every point: the block of transposed logits, whatever the point before left. -/
theorem lt_out (t : Fin cfg0.N) : (outsAt0 m c t.val t.isLt).1 = bLT (F := Ideal) (grid0.coords t) (B0 m c t) (B1 m c t) (B2 m c t) := by
  have ht := ct t
  by_cases h0 : t.val % 167 = 0
  · refine (congrArg Prod.fst (outsAt0_A m c t h0 (by omega))).trans ?_
    dsimp only
    apply lt_A
  · by_cases h1 : t.val % 167 = 166
    · refine (congrArg Prod.fst (outsAt0_C m c t h0 h1)).trans ?_
      dsimp only
      apply lt_C
    · refine (congrArg Prod.fst (outsAt0_B m c t h0 h1)).trans ?_
      dsimp only
      apply lt_B

theorem bLT_at (i : grid0.Coords) (x0 : Vec Ideal S8016 .f32) (x1 : Vec Ideal S768x1024 .fp8e4m3) (x2 : Vec Ideal S1024x1024 .bf16)
    (r : Fin 768) (k : Fin 1024) : bLT i x0 x1 x2 (ix2 r k) = ∑ d : Fin 1024, bWq i x0 x1 r d * x2 (ix2 d k) := by
  pointwise [bLT]

theorem bWq_eq (t : Fin cfg0.N) (r : Fin 768) (d : Fin 1024) (v : Fin 128256) (hv : v.val = 768 * t.val + r.val) :
    bWq (F := Ideal) (grid0.coords t) (B0 m c t) (B1 m c t) r d
      = wc m c (ix2 v d) * ws m c (ix2 ⟨v.val / 128, by have := v.isLt; omega⟩ ⟨d.val / 128, by have := d.isLt; omega⟩) := by
  have hd := d.isLt
  have hr := r.isLt
  have hvl := v.isLt
  unfold bWq
  rw [B1_at]
  have e2 : ∀ h, B0 m c t (ix1 ⟨((grid0.coords t 0).val * 6 + r.val / 128) * 8 + d.val / 128, h⟩)
      = ws m c (ix2 ⟨v.val / 128, by omega⟩ ⟨d.val / 128, by omega⟩) := by
    intro h
    rw [← B0_at m c t ⟨v.val / 128, by omega⟩ ⟨d.val / 128, by omega⟩ (by show v.val / 128 * 8 + d.val / 128 < 8016; omega)]
    refine congrArg (fun n => B0 m c t (ix1 n)) (Fin.ext ?_)
    show ((grid0.coords t 0).val * 6 + r.val / 128) * 8 + d.val / 128 = v.val / 128 * 8 + d.val / 128
    rw [coords0]
    omega
  rw [e2]
  have ev : (⟨768 * t.val + r.val, rlt (ct t) r⟩ : Fin 128256) = v := Fin.ext hv.symm
  rw [ev]
  rfl

theorem emb4 (t : Fin cfg0.N) (r : Fin 768) (k : Fin 1024) :
    ((cfg0.win 4).blk t).view.emb (ix2 r k : S768x1024.Idx) = (ix2 ⟨768 * t.val + r.val, rlt (ct t) r⟩ k : S128256x1024.Idx) := by
  have e := coords0 t
  have e0 : win0_4.index t (0 : Fin 2) = (grid0.coords t 0).val := congrFun (widx4 t) 0
  have e1 : win0_4.index t (1 : Fin 2) = 0 := congrFun (widx4 t) 1
  funext a; apply Fin.ext
  match a with
  | ⟨0, _⟩ => show win0_4.index t (0 : Fin 2) * 768 + 1 * r.val = 768 * t.val + r.val; omega
  | ⟨1, _⟩ => show win0_4.index t (1 : Fin 2) * 1024 + 1 * k.val = k.val; omega

theorem arr_blk (t : Fin cfg0.N) (r : Fin 768) (k : Fin 1024) :
    (dats m 0 c).arrAt 4 cfg0.N (ix2 ⟨768 * t.val + r.val, rlt (ct t) r⟩ k : S128256x1024.Idx)
      = ∑ d : Fin 1024, bWq (F := Ideal) (grid0.coords t) (B0 m c t) (B1 m c t) r d * hqt m c (ix2 d k) := by
  have h := congrFun (blocks4 m c t (fl4 t)) (ix2 r k : S768x1024.Idx)
  rw [flushed4] at h
  rw [← emb4]
  refine h.trans ?_
  refine (congrFun (lt_out m c t) (ix2 r k : S768x1024.Idx)).trans ?_
  rw [bLT_at, B2_at]

theorem arr_at (v : Fin 128256) (k : Fin 1024) :
    (dats m 0 c).arrAt 4 cfg0.N (ix2 v k : S128256x1024.Idx)
      = (∑ d : Fin 1024, wc m c (ix2 v d) * ws m c (ix2 ⟨v.val / 128, by have := v.isLt; omega⟩ ⟨d.val / 128, by have := d.isLt; omega⟩) * hqt m c (ix2 d k) : EReal) := by
  have hl := v.isLt
  have hn : v.val / 768 < cfg0.N := Nat.lt_of_lt_of_eq (by omega : v.val / 768 < 167) N_0.symm
  have h := arr_blk m c ⟨v.val / 768, hn⟩ ⟨v.val % 768, Nat.mod_lt _ (by decide)⟩ k
  have e : (⟨768 * (⟨v.val / 768, hn⟩ : Fin cfg0.N).val + (⟨v.val % 768, Nat.mod_lt _ (by decide)⟩ : Fin 768).val, rlt (ct _) _⟩ : Fin 128256) = v :=
    Fin.ext (by show 768 * (v.val / 768) + v.val % 768 = v.val; omega)
  rw [e] at h
  refine h.trans ?_
  show (∑ d : Fin 1024, _ : EReal) = ∑ d : Fin 1024, (_ : EReal)
  refine Finset.sum_congr rfl fun d _ => ?_
  rw [bWq_eq m c _ _ d v (by show v.val = 768 * (v.val / 768) + v.val % 768; omega)]

end Cert.ForwardIdeal.Blk
-- ==== Proof.FwdLoss.lean ====
module
public import proofs.«01_k».proof.Proof.StatA
public import proofs.«01_k».proof.Proof.StatB
public import proofs.«01_k».proof.Proof.StatC
public import proofs.«01_k».proof.Proof.FwdStat
public import proofs.«01_k».proof.Proof.FwdArr
@[expose] public section
set_option maxRecDepth 16384
noncomputable section

/-! The array of losses after the forward call, from the argument arrays. -/

namespace Cert.ForwardIdeal.Blk
open Cert.ForwardIdeal Cert.ForwardIdeal.Gen Cert.ForwardIdeal.Value Cert.Spec Idealize.ShloMosaic Idealize.ShloMosaic.TcCoe

/-! ## One token of a block -/

theorem ldTok_at {e : EltTy} (X : Vec Ideal S1x1024 e) (k : Fin 1024) :
    ldTok X (colOf (ix2 0 k)) (ix2 0 (laneOf (ix2 0 k))) = X (ix2 0 k) := by
  refine View.ld_unit_apply_of X _ _ _ _ _ fun a => ?_
  match a with
  | ⟨0, _⟩ => rfl
  | ⟨1, _⟩ =>
    show k.val = 128 * (k.val / 128) + k.val % 128
    omega

theorem strip_lt (j : Fin 96) (q : Fin 8) : 8 * j.val + q.val < 768 := by
  have := j.isLt
  have := q.isLt
  omega

theorem ldStrip_at (W : Vec Ideal S768x1024 .f32) (k : Fin 1024) (j : Fin 96) (q : Fin 8) :
    ldStrip W (colOf (ix2 0 k)) j (ix2 q (laneOf (ix2 0 k))) = W (ix2 ⟨8 * j.val + q.val, strip_lt j q⟩ k) := by
  refine View.ld_unit_apply_of W _ _ _ _ _ fun a => ?_
  match a with
  | ⟨0, _⟩ => rfl
  | ⟨1, _⟩ =>
    show k.val = 128 * (k.val / 128) + k.val % 128
    omega

theorem block_step (n : Fin 167) (i : grid0.Coords) (hi : (i 0).val = n.val) (W : Vec Ideal S768x1024 .f32) (lab : Vec Ideal S1x1024 .i32)
    (mo so lo : Vec Ideal S1x1024 .f32) (k : Fin 1024) (x : Nat → EReal) (hW : ∀ r : Fin 768, W (ix2 r k) = x (768 * n.val + r.val))
    (h : Run x (lab (ix2 0 k)) n.val (mo (ix2 0 k)) (so (ix2 0 k)) (lo (ix2 0 k))) :
    Run x (lab (ix2 0 k)) (n.val + 1) (bMx i W lab mo (ix2 0 k)) (bSm i W lab mo so (ix2 0 k)) (bLl i W lab lo (ix2 0 k)) := by
  have s := step_tok n (ldTok lab (colOf (ix2 0 k))) (laneOf (ix2 0 k)) x (ldStrip W (colOf (ix2 0 k)))
    (fun j q => (ldStrip_at W k j q).trans (hW ⟨8 * j.val + q.val, strip_lt j q⟩))
    (ldTok mo (colOf (ix2 0 k))) (ldTok so (colOf (ix2 0 k))) (ldTok lo (colOf (ix2 0 k)))
    (by rw [ldTok_at lab, ldTok_at mo, ldTok_at so, ldTok_at lo]; exact h)
  rw [ldTok_at lab] at s
  unfold bMx bSm bLl
  rw [hi]
  exact s

/-! ## The statistics at a grid point, from those of the point before -/

section
variable (m : (ℓ : Loc nD τ sig) → Buf (Elt Ideal) ℓ) (c : Dev nD)

abbrev lab : Vec Ideal S1x1024 .i32 := m ((c : Thread nD τ).loc main_arg3)
abbrev B3 (t : Fin cfg0.N) : Vec Ideal S1x1024 .i32 := iblk m c 3 t
abbrev LT (t : Fin cfg0.N) : Vec Ideal S768x1024 .f32 := bLT (grid0.coords t) (B0 m c t) (B1 m c t) (B2 m c t)

theorem widx3 : ∀ t : Fin cfg0.N, win0_3.index t = ![0, 0] := (by decide +kernel : ∀ t : Fin grid0.N, _)
theorem widx9 : ∀ t : Fin cfg0.N, win0_9.index t = ![0, 0] := (by decide +kernel : ∀ t : Fin grid0.N, _)

theorem B3_at (t : Fin cfg0.N) : B3 m c t = lab m c := by
  funext y
  blk_ext! [iblk, V_main_arg3, widx3 t]

theorem st_A (t : Fin cfg0.N) (h0 : t.val % 167 = 0) (h1 : ¬t.val % 167 = 166) :
    (outsAt0 m c t.val t.isLt).2.2.1 = bMx (grid0.coords t) (LT m c t) (B3 m c t) (k0_pay2 (F := Ideal))
    ∧ (outsAt0 m c t.val t.isLt).2.2.2.1 = bSm (grid0.coords t) (LT m c t) (B3 m c t) (k0_pay2 (F := Ideal)) (k0_pay3 (F := Ideal))
    ∧ (outsAt0 m c t.val t.isLt).2.2.2.2.1 = bLl (grid0.coords t) (LT m c t) (B3 m c t) (k0_pay4 (F := Ideal)) := by
  rw [outsAt0_A m c t h0 h1]
  dsimp only
  refine ⟨?_, ?_, ?_⟩
  · apply mx_A
  · apply sm_A
  · apply ll_A

theorem st_B (t : Fin cfg0.N) (h0 : ¬t.val % 167 = 0) (h1 : ¬t.val % 167 = 166) (p)
    (hp : outsAt0 m c (t.val - 1) (Nat.lt_of_le_of_lt (Nat.sub_le _ _) t.isLt) = p) :
    (outsAt0 m c t.val t.isLt).2.2.1 = bMx (grid0.coords t) (LT m c t) (B3 m c t) p.2.2.1
    ∧ (outsAt0 m c t.val t.isLt).2.2.2.1 = bSm (grid0.coords t) (LT m c t) (B3 m c t) p.2.2.1 p.2.2.2.1
    ∧ (outsAt0 m c t.val t.isLt).2.2.2.2.1 = bLl (grid0.coords t) (LT m c t) (B3 m c t) p.2.2.2.2.1 := by
  rw [outsAt0_B m c t h0 h1, hp]
  dsimp only
  refine ⟨?_, ?_, ?_⟩
  · apply mx_B
  · apply sm_B
  · apply ll_B

theorem st_C (t : Fin cfg0.N) (h0 : ¬t.val % 167 = 0) (h1 : t.val % 167 = 166) (p)
    (hp : outsAt0 m c (t.val - 1) (Nat.lt_of_le_of_lt (Nat.sub_le _ _) t.isLt) = p) :
    (outsAt0 m c t.val t.isLt).2.2.1 = bMx (grid0.coords t) (LT m c t) (B3 m c t) p.2.2.1
    ∧ (outsAt0 m c t.val t.isLt).2.2.2.1 = bSm (grid0.coords t) (LT m c t) (B3 m c t) p.2.2.1 p.2.2.2.1
    ∧ (outsAt0 m c t.val t.isLt).2.2.2.2.1 = bLl (grid0.coords t) (LT m c t) (B3 m c t) p.2.2.2.2.1
    ∧ (outsAt0 m c t.val t.isLt).2.2.2.2.2 = k0_pay1 (bMx (grid0.coords t) (LT m c t) (B3 m c t) p.2.2.1)
        (bSm (grid0.coords t) (LT m c t) (B3 m c t) p.2.2.1 p.2.2.2.1) (bLl (grid0.coords t) (LT m c t) (B3 m c t) p.2.2.2.2.1) := by
  rw [outsAt0_C m c t h0 h1, hp]
  dsimp only
  refine ⟨?_, ?_, ?_, ?_⟩
  · apply mx_C
  · apply sm_C
  · apply ll_C
  · apply loss_C

/-! ## All the points -/

/-- The logits of a token. -/
def lg (k : Fin 1024) (v : Fin 128256) : EReal :=
  ∑ d : Fin 1024, wc m c (ix2 v d) * ws m c (ix2 ⟨v.val / 128, by have := v.isLt; omega⟩ ⟨d.val / 128, by have := d.isLt; omega⟩) * hqt m c (ix2 d k)

theorem LT_row (t : Fin cfg0.N) (n : Fin 167) (hn : t.val = n.val) (k : Fin 1024) (r : Fin 768) : LT m c t (ix2 r k) = byRow (lg m c k) (768 * n.val + r.val) := by
  refine Eq.trans ?_ (byRow_eq (lg m c k) ⟨768 * n.val + r.val, rlt n.isLt r⟩).symm
  refine (bLT_at _ _ _ _ r k).trans ?_
  rw [B2_at]
  unfold lg
  refine Finset.sum_congr rfl fun d _ => ?_
  rw [bWq_eq m c t r d ⟨768 * n.val + r.val, rlt n.isLt r⟩ (by show 768 * n.val + r.val = 768 * t.val + r.val; rw [hn])]

theorem run_at (k : Fin 1024) (n : Nat) (hn : n < cfg0.N) :
    Run (byRow (lg m c k)) (lab m c (ix2 0 k)) (n + 1) ((outsAt0 m c n hn).2.2.1 (ix2 0 k)) ((outsAt0 m c n hn).2.2.2.1 (ix2 0 k))
      ((outsAt0 m c n hn).2.2.2.2.1 (ix2 0 k)) := by
  induction n with
  | zero =>
    obtain ⟨e1, e2, e3⟩ := st_A m c ⟨0, hn⟩ (by rfl) (by show ¬0 % 167 = 166; decide)
    have s := block_step ⟨0, by decide⟩ (grid0.coords ⟨0, hn⟩) (coords0 ⟨0, hn⟩) (LT m c ⟨0, hn⟩) (B3 m c ⟨0, hn⟩) (k0_pay2 (F := Ideal)) (k0_pay3 (F := Ideal)) (k0_pay4 (F := Ideal)) k
      (byRow (lg m c k)) (LT_row m c ⟨0, hn⟩ ⟨0, by decide⟩ rfl k)
      (by
        have z : (k0_pay3 : FVec Ideal S1x1024 .f32) (ix2 0 k) = 0 := zero_bits
        have z' : (k0_pay4 : FVec Ideal S1x1024 .f32) (ix2 0 k) = 0 := zero_bits
        rw [z, z']
        exact run_zero _ _)
    rw [B3_at] at s e1 e2 e3
    rw [← e1, ← e2, ← e3] at s
    exact s
  | succ n ih =>
    have hN : n + 1 < 167 := Nat.lt_of_lt_of_eq hn N_0
    have h := ih (Nat.lt_of_succ_lt hn)
    have h0 : ¬(n + 1) % 167 = 0 := by omega
    have key : (outsAt0 m c (n + 1) hn).2.2.1 = bMx (grid0.coords ⟨n + 1, hn⟩) (LT m c ⟨n + 1, hn⟩) (B3 m c ⟨n + 1, hn⟩) (outsAt0 m c n (Nat.lt_of_succ_lt hn)).2.2.1
        ∧ (outsAt0 m c (n + 1) hn).2.2.2.1 = bSm (grid0.coords ⟨n + 1, hn⟩) (LT m c ⟨n + 1, hn⟩) (B3 m c ⟨n + 1, hn⟩) (outsAt0 m c n (Nat.lt_of_succ_lt hn)).2.2.1 (outsAt0 m c n (Nat.lt_of_succ_lt hn)).2.2.2.1
        ∧ (outsAt0 m c (n + 1) hn).2.2.2.2.1 = bLl (grid0.coords ⟨n + 1, hn⟩) (LT m c ⟨n + 1, hn⟩) (B3 m c ⟨n + 1, hn⟩) (outsAt0 m c n (Nat.lt_of_succ_lt hn)).2.2.2.2.1 := by
      by_cases h1 : (n + 1) % 167 = 166
      · obtain ⟨e1, e2, e3, _⟩ := st_C m c ⟨n + 1, hn⟩ h0 h1 _ rfl
        exact ⟨e1, e2, e3⟩
      · exact st_B m c ⟨n + 1, hn⟩ h0 h1 _ rfl
    obtain ⟨e1, e2, e3⟩ := key
    generalize outsAt0 m c n (Nat.lt_of_succ_lt hn) = p at h e1 e2 e3
    have s := block_step ⟨n + 1, hN⟩ (grid0.coords ⟨n + 1, hn⟩) (coords0 ⟨n + 1, hn⟩) (LT m c ⟨n + 1, hn⟩) (lab m c) p.2.2.1 p.2.2.2.1 p.2.2.2.2.1 k
      (byRow (lg m c k)) (LT_row m c ⟨n + 1, hn⟩ ⟨n + 1, hN⟩ rfl k) h
    rw [B3_at] at e1 e2 e3
    rw [← e1, ← e2, ← e3] at s
    exact s

theorem pay1_at (a b e : Vec Ideal S1x1024 .f32) (y : S1x1024.Idx) : k0_pay1 a b e y = a y + Ideal.log (b y) - e y := by
  unfold k0_pay1
  rw [shapeCast_self, shapeCast_self, shapeCast_self]
  rfl

theorem loss_out (t : Fin cfg0.N) (ht : t.val % 167 = 166) (k : Fin 1024) :
    (outsAt0 m c t.val t.isLt).2.2.2.2.2 (ix2 0 k) = rLoss (lg m c k) (lab m c (ix2 0 k)) := by
  have hl := ct t
  obtain ⟨e1, e2, e3, e4⟩ := st_C m c t (by omega) ht _ rfl
  have h := run_at m c k t.val t.isLt
  rw [show t.val + 1 = 167 by omega] at h
  rw [← e1, ← e2, ← e3] at e4
  rw [e4, pay1_at]
  exact loss_eq h

/-! ## The array of losses -/

theorem emb9 (t : Fin cfg0.N) (j : S1x1024.Idx) : ((cfg0.win 9).blk t).view.emb j = j := by
  have e0 : win0_9.index t (0 : Fin 2) = 0 := congrFun (widx9 t) 0
  have e1 : win0_9.index t (1 : Fin 2) = 0 := congrFun (widx9 t) 1
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

def losses : Vec Ideal S1x1024 .f32 := fun y => rLoss (lg m c (y 1)) (lab m c (ix2 0 (y 1)))

theorem covered9 (i : S1x1024.Idx) : ∃ t : Fin cfg0.N, (cfg0.win 9).flush t = true ∧ i ∈ ((cfg0.win 9).blk t).view.set :=
  ⟨⟨166, by decide⟩, (flush0_9 _).mpr rfl, by have h := ((cfg0.win 9).blk (⟨166, by decide⟩ : Fin cfg0.N)).view.emb_mem_set i; rwa [emb9] at h⟩

theorem flushed9_eq (t : Fin cfg0.N) (hf : (cfg0.win 9).flush t = true) :
    (dats m 0 c).flushed 9 t = ((cfg0.win 9).blk t).view.read (Elt Ideal) (losses m c) := by
  rw [flushed9]
  funext j
  show (outsAt0 m c t.val t.isLt).2.2.2.2.2 j = losses m c (((cfg0.win 9).blk t).view.emb j)
  rw [emb9]
  have hj : j = ix2 0 (j 1) := idx_eq2 _ _ (by have h : (j 0).val < 1 := (j 0).isLt; show 0 = (j 0).val; omega) rfl
  rw [hj]
  exact loss_out m c t ((flush0_9 t).mp hf) (j 1)

theorem loss_arr : (dats m 0 c).arrAt 9 cfg0.N = losses m c :=
  (dats m 0 c).arrAt_eq_of_cover 9 (losses m c) (fun t hf => flushed9_eq m c t hf) covered9

end

end Cert.ForwardIdeal.Blk
-- ==== Proof.FwdRef.lean ====
module
public import proofs.«01_k».proof.Proof.Gen.ForwardReferenceIdeal.Value
public import proofs.«01_k».proof.Proof.FMath
public import Idealize.ShloMosaic.Lib.Pipeline.ValueKit
@[expose] public section
set_option maxRecDepth 16384
noncomputable section

/-! The forward reference's results at an index: a transposed logit, and a token's loss from its logits. -/

namespace Cert.ForwardReferenceIdeal.RefVal
open Cert.ForwardReferenceIdeal Cert.ForwardReferenceIdeal.Gen Cert.Spec Idealize.ShloMosaic Idealize.ShloMosaic.TcCoe

theorem logit_at (w : Vec Ideal S128256x1024 .fp8e4m3) (s : Vec Ideal S1002x8 .f32) (h : Vec Ideal S1024x1024 .bf16)
    (v : Fin 128256) (k : Fin 1024) :
    k0_pay1 w s h (ix2 v k)
      = ∑ d : Fin 1024, w (ix2 v d) * s (ix2 ⟨v.val / 128, by have := v.isLt; omega⟩ ⟨d.val / 128, by have := d.isLt; omega⟩) * h (ix2 d k) := by
  pointwise [k0_pay1]

def colMax (g : FVec Ideal S128256x1024 .f32) : FVec Ideal S1x1024 .f32 :=
  shapeCast S1x1024 (multiReduction .maximumf [0] S1024 g 0xFF800000#32 reduces_S128256x1024_S1024 (.inl rfl) rfl) shapeCasts_S1024_S1x1024

def colSum (g : FVec Ideal S128256x1024 .f32) : FVec Ideal S1x1024 .f32 :=
  shapeCast S1x1024 (multiReduction .add [0] S1024 g 0x00000000#32 reduces_S128256x1024_S1024 (.inl rfl) rfl) shapeCasts_S1024_S1x1024

theorem colMax_at (g : FVec Ideal S128256x1024 .f32) (k : Fin 1024) : colMax g (ix2 0 k) = rMx fun v => g (ix2 v k) := by
  unfold rMx
  pointwise [colMax]

theorem colSum_at (g : FVec Ideal S128256x1024 .f32) (k : Fin 1024) : colSum g (ix2 0 k) = ∑ v, g (ix2 v k) := by
  pointwise [colSum]

theorem bcol_at {α : Type} (f : S1x1024.Idx → α) (v : Fin 128256) (k : Fin 1024) :
    broadcastTo S128256x1024 f broadcasts_S1x1024_S128256x1024 (ix2 v k) = f (ix2 0 k) := by
  pointwise

theorem row_at (v : Fin 128256) (k : Fin 1024) : iota .tc S128256x1024 32 [0] iota_S128256x1024_d0_w32 (ix2 v k) = BitVec.ofNat 32 v.val := by
  pointwise

def lossOf (g : FVec Ideal S128256x1024 .f32) (lab : Vec Ideal S1x1024 .i32) : FVec Ideal S1x1024 .f32 :=
  subf (addf (colMax g) (log (colSum (exp (subf g (broadcastTo S128256x1024 (colMax g) broadcasts_S1x1024_S128256x1024))))))
    (colSum (select (cmpi .eq (iota .tc S128256x1024 32 [0] iota_S128256x1024_d0_w32) (broadcastTo S128256x1024 lab broadcasts_S1x1024_S128256x1024))
      g (broadcast S128256x1024 (Scalar.ofBits .f32 0x00000000#32))))

theorem pay2_eq (w : Vec Ideal S128256x1024 .fp8e4m3) (s : Vec Ideal S1002x8 .f32) (h : Vec Ideal S1024x1024 .bf16) (lab : Vec Ideal S1x1024 .i32) :
    k0_pay2 w s h lab = lossOf (k0_pay1 w s h) lab := by
  unfold k0_pay2 lossOf colMax colSum
  rfl

theorem parts_at (a b e : FVec Ideal S1x1024 .f32) (y : S1x1024.Idx) : subf (addf a (log b)) e y = a y + Ideal.log (b y) - e y := rfl

theorem exp_at (g b : FVec Ideal S128256x1024 .f32) (y : S128256x1024.Idx) : exp (subf g b) y = Ideal.exp (g y - b y) := rfl

theorem pick_at (p q : IVec S128256x1024 32) (g : FVec Ideal S128256x1024 .f32) (z : Ideal .f32) (y : S128256x1024.Idx) :
    select (cmpi .eq p q) g (broadcast S128256x1024 z) y = Scalar.select (IntOp.cmpi .eq (p y) (q y)) (g y) z := rfl

theorem lossOf_at (g : FVec Ideal S128256x1024 .f32) (lab : Vec Ideal S1x1024 .i32) (k : Fin 1024) :
    lossOf g lab (ix2 0 k) = rLoss (fun v => g (ix2 v k)) (lab (ix2 0 k)) := by
  unfold lossOf
  rw [parts_at, colSum_at, colSum_at, colMax_at]
  unfold rLoss rSum
  refine congrArg₂ (fun a b => rMx (fun v => g (ix2 v k)) + Ideal.log a - b) (Finset.sum_congr rfl fun v _ => ?_) (Finset.sum_congr rfl fun v _ => ?_)
  · rw [exp_at, bcol_at, colMax_at]
  · rw [pick_at, bcol_at, row_at]
    exact congrArg (Scalar.select _ _) zero_bits

theorem loss_at (w : Vec Ideal S128256x1024 .fp8e4m3) (s : Vec Ideal S1002x8 .f32) (h : Vec Ideal S1024x1024 .bf16) (lab : Vec Ideal S1x1024 .i32)
    (k : Fin 1024) : k0_pay2 w s h lab (ix2 0 k) = rLoss (fun v => k0_pay1 w s h (ix2 v k)) (lab (ix2 0 k)) := by
  rw [pay2_eq, lossOf_at]

end Cert.ForwardReferenceIdeal.RefVal
-- ==== Proof.FwdAlg.lean ====
module
public import proofs.«01_k».proof.Defs
public import proofs.«01_k».proof.Proof.Gen.ForwardIdeal
public import proofs.«01_k».proof.Proof.Gen.ForwardReferenceIdeal
public import proofs.«01_k».proof.Proof.FwdLoss
public import proofs.«01_k».proof.Proof.FwdRef
@[expose] public section
set_option maxRecDepth 16384
noncomputable section

/-! The forward call and its reference end with the same transposed logits and the same losses. -/

namespace Cert.ForwardIdeal.Blk
open Cert.ForwardIdeal Cert.ForwardIdeal.Gen Cert.Spec Idealize.ShloMosaic Idealize.ShloMosaic.TcCoe
variable (m : (ℓ : Loc nD τ sig) → Buf (Elt Ideal) ℓ) (c : Dev nD)

theorem logits_eq : (dats m 0 c).arrAt 4 cfg0.N = Cert.ForwardReferenceIdeal.Gen.k0_pay1 (wc m c) (ws m c) (hqt m c) := by
  funext i
  have hi : i = (ix2 (i 0) (i 1) : S128256x1024.Idx) := idx_eq2 _ _ rfl rfl
  rw [hi]
  exact (arr_at m c (i 0) (i 1)).trans (Cert.ForwardReferenceIdeal.RefVal.logit_at (wc m c) (ws m c) (hqt m c) (i 0) (i 1)).symm

theorem losses_eq : (dats m 0 c).arrAt 9 cfg0.N = Cert.ForwardReferenceIdeal.Gen.k0_pay2 (wc m c) (ws m c) (hqt m c) (lab m c) := by
  rw [loss_arr]
  funext i
  have hi : i = (ix2 0 (i 1) : S1x1024.Idx) := idx_eq2 _ _ (by have h : (i 0).val < 1 := (i 0).isLt; show 0 = (i 0).val; omega) rfl
  rw [hi]
  refine Eq.trans ?_ (Cert.ForwardReferenceIdeal.RefVal.loss_at (wc m c) (ws m c) (hqt m c) (lab m c) (i 1)).symm
  show rLoss (lg m c (i 1)) (lab m c (ix2 0 (i 1))) = _
  refine congrArg (fun l => rLoss l (lab m c (ix2 0 (i 1)))) (funext fun v => ?_)
  exact (Cert.ForwardReferenceIdeal.RefVal.logit_at (wc m c) (ws m c) (hqt m c) v (i 1)).symm

theorem forward_algebraic : Cert.algebraic_ForwardIdeal_ForwardReferenceIdeal
    (hForwardIdeal := Cert.ForwardIdeal.Gen.facts) (hForwardReferenceIdeal := Cert.ForwardReferenceIdeal.Gen.facts) := by
  intro m g m' g' _ ha
  refine ⟨fun c => (dats m 0 c).arrAt 4 cfg0.N, fun c => (dats m 0 c).arrAt 9 cfg0.N, ?_, ?_⟩
  · refine (θ_run Cert.ForwardIdeal.defs _ _).mono (fun r h c => ?_) (Cert.ForwardIdeal.Value.run_blocks m g)
    obtain ⟨e0, _, _, _, _, e5, hargs⟩ := h c
    exact ⟨e0, e5, hargs⟩
  · refine (θ_run Cert.ForwardReferenceIdeal.defs _ _).mono (fun r h c => ?_) (Cert.ForwardReferenceIdeal.Value.run m' g')
    obtain ⟨e0, e1, hargs⟩ := h c
    obtain ⟨b0, b1, b2, b3⟩ := ha c
    refine ⟨e0.trans ?_, e1.trans ?_, hargs⟩
    · rw [b0, b1, b2]
      exact (logits_eq m c).symm
    · rw [b0, b1, b2, b3]
      exact (losses_eq m c).symm

end Cert.ForwardIdeal.Blk
-- ==== Proof.RefRun.lean ====
/- The run of the reference: each of its four result arrays after the run, as the body's payload of the argument arrays.
   One grid point, every window the whole array. -/
module

public import proofs.«01_k».proof.Proof.Gen.ReferenceIdeal.Frame
public import Idealize.ShloMosaic.Lib.Pipeline.Value

@[expose] public section

noncomputable section

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S128256x1024.Idx) : ((cfg0.win 0).blk t).view.emb j = j := by
  obtain ⟨e0, e1⟩ := idx_zero0 t
  funext a; apply Fin.ext
  match a with
  | ⟨0, _⟩ => show win0_0.index t (0 : Fin 2) * 128256 + 1 * (j 0).val = (j 0).val; omega
  | ⟨1, _⟩ => show win0_0.index t (1 : Fin 2) * 1024 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S128256x1024.Idx) : ((cfg0.win 1).blk t).view.emb j = j := by
  obtain ⟨e0, e1⟩ := idx_zero1 t
  funext a; apply Fin.ext
  match a with
  | ⟨0, _⟩ => show win0_1.index t (0 : Fin 2) * 128256 + 1 * (j 0).val = (j 0).val; omega
  | ⟨1, _⟩ => show win0_1.index t (1 : Fin 2) * 1024 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1002x8.Idx) : ((cfg0.win 2).blk t).view.emb j = j := by
  obtain ⟨e0, e1⟩ := idx_zero2 t
  funext a; apply Fin.ext
  match a with
  | ⟨0, _⟩ => show win0_2.index t (0 : Fin 2) * 1002 + 1 * (j 0).val = (j 0).val; omega
  | ⟨1, _⟩ => show win0_2.index t (1 : Fin 2) * 8 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1024x1024.Idx) : ((cfg0.win 3).blk t).view.emb j = j := by
  obtain ⟨e0, e1⟩ := idx_zero3 t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x1024.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x1024.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x1024.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 1024 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x1024.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 1024 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S167x1x1024.Idx) : ((cfg0.win 8).blk t).view.emb j = j := by
  obtain ⟨e0, e1, e2⟩ := idx_zero8 t
  funext a; apply Fin.ext
  match a with
  | ⟨0, _⟩ => show win0_8.index t (0 : Fin 3) * 167 + 1 * (j 0).val = (j 0).val; omega
  | ⟨1, _⟩ => show win0_8.index t (1 : Fin 3) * 1 + 1 * (j 1).val = (j 1).val; omega
  | ⟨2, _⟩ => show win0_8.index t (2 : Fin 3) * 1024 + 1 * (j 2).val = (j 2).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S128256x1024.Idx) : ((cfg0.win 9).blk t).view.emb j = j := by
  obtain ⟨e0, e1⟩ := idx_zero9 t
  funext a; apply Fin.ext
  match a with
  | ⟨0, _⟩ => show win0_9.index t (0 : Fin 2) * 128256 + 1 * (j 0).val = (j 0).val; omega
  | ⟨1, _⟩ => show win0_9.index t (1 : Fin 2) * 1024 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1024x128256.Idx) : ((cfg0.win 10).blk t).view.emb j = j := by
  obtain ⟨e0, e1⟩ := idx_zero10 t
  funext a; apply Fin.ext
  match a with
  | ⟨0, _⟩ => show win0_10.index t (0 : Fin 2) * 1024 + 1 * (j 0).val = (j 0).val; omega
  | ⟨1, _⟩ => show win0_10.index t (1 : Fin 2) * 128256 + 1 * (j 1).val = (j 1).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S167x1x1024.Idx) : ((cfg0.win 11).blk t).view.emb j = j := by
  obtain ⟨e0, e1, e2⟩ := idx_zero11 t
  funext a; apply Fin.ext
  match a with
  | ⟨0, _⟩ => show win0_11.index t (0 : Fin 3) * 167 + 1 * (j 0).val = (j 0).val; omega
  | ⟨1, _⟩ => show win0_11.index t (1 : Fin 3) * 1 + 1 * (j 1).val = (j 1).val; omega
  | ⟨2, _⟩ => show win0_11.index t (2 : Fin 3) * 1024 + 1 * (j 2).val = (j 2).val; omega

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S1024x1024.Idx) : ((cfg0.win 12).blk t).view.emb j = j := by
  obtain ⟨e0, e1⟩ := idx_zero12 t
  funext a; apply Fin.ext
  match a with
  | ⟨0, _⟩ => show win0_12.index t (0 : Fin 2) * 1024 + 1 * (j 0).val = (j 0).val; omega
  | ⟨1, _⟩ => show win0_12.index t (1 : Fin 2) * 1024 + 1 * (j 1).val = (j 1).val; omega

/-! ### Output window 9: the array after the run -/

/-- What the window's array ends holding: `out0_9` applied to the argument arrays in place of the input blocks (a value that the
    frame states apart, `kK_payN a…`, keeps its loads inside its own definition). -/
abbrev G9 (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : Vec F S128256x1024 .f32 :=
  k0_pay5 a3 (k0_pay14 a0 a1 a2 a3 a4 a5 a6 a7 a8) (k0_pay15 a0 a1 a2 a3 a4 a5 a6 a7 a8) (k0_pay16 a0 a1 a2 a3 a4 a5 a6 a7 a8) (k0_pay17 a0 a1 a2 a3 a4 a5 a6 a7 a8)

/-- A load of the whole of a block reads the block, and the one store through the whole rectangle leaves its payload. -/
theorem out9_eq (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : out0_9 (F := F) a0 a1 a2 a3 a4 a5 a6 a7 a8 = G9 a0 a1 a2 a3 a4 a5 a6 a7 a8 := by
  unfold out0_9
  rw [View.canon_unit_zero hz9, View.ld_unit_zero (S := S1024x1024) hz3 _ a3]

/-- Cutting the point's block out of `X` and reading `X` through the block's view give the same. -/
theorem cut9_eq (t : Fin cfg0.N) (X : Vec F S128256x1024 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq, iblk8_eq]
  exact cut9_eq t _

/-- Every index of the array is in the point's block. -/
theorem covered9 (i : S128256x1024.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 (G9 (V m c main_arg0) (V m c main_arg1) (V m c main_arg2) (V m c main_arg3) (V m c main_arg4) (V m c main_arg5) (V m c main_arg6) (V m c main_arg7) (V m c main_arg8)) (fun t _ => flushed9_eq m c t) covered9).trans (by rw [V_main_arg0, V_main_arg1, V_main_arg2, V_main_arg3, V_main_arg4, V_main_arg5, V_main_arg6, V_main_arg7, V_main_arg8])

/-! ### Output window 10: the array after the run -/

/-- What the window's array ends holding: `out0_10` applied to the argument arrays in place of the input blocks (a value that the
    frame states apart, `kK_payN a…`, keeps its loads inside its own definition). -/
abbrev G10 (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : Vec F S1024x128256 .fp8e5m2 :=
  k0_pay6 (k0_pay14 a0 a1 a2 a3 a4 a5 a6 a7 a8) (k0_pay15 a0 a1 a2 a3 a4 a5 a6 a7 a8) (k0_pay16 a0 a1 a2 a3 a4 a5 a6 a7 a8) (k0_pay17 a0 a1 a2 a3 a4 a5 a6 a7 a8)

/-- The one store through the whole rectangle leaves its payload. -/
theorem out10_eq (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : out0_10 (F := F) a0 a1 a2 a3 a4 a5 a6 a7 a8 = G10 a0 a1 a2 a3 a4 a5 a6 a7 a8 := by
  unfold out0_10
  rw [View.canon_unit_zero hz10]

/-- Cutting the point's block out of `X` and reading `X` through the block's view give the same. -/
theorem cut10_eq (t : Fin cfg0.N) (X : Vec F S1024x128256 .fp8e5m2) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq]
  exact cut10_eq t _

/-- Every index of the array is in the point's block. -/
theorem covered10 (i : S1024x128256.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 (G10 (V m c main_arg0) (V m c main_arg1) (V m c main_arg2) (V m c main_arg3) (V m c main_arg4) (V m c main_arg5) (V m c main_arg6) (V m c main_arg7) (V m c main_arg8)) (fun t _ => flushed10_eq m c t) covered10).trans (by rw [V_main_arg0, V_main_arg1, V_main_arg2, V_main_arg3, V_main_arg4, V_main_arg5, V_main_arg6, V_main_arg7, V_main_arg8])

/-! ### Output window 11: the array after the run -/

/-- What the window's array ends holding: `out0_11` applied to the argument arrays in place of the input blocks (a value that the
    frame states apart, `kK_payN a…`, keeps its loads inside its own definition). -/
abbrev G11 (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : Vec F S167x1x1024 .f32 :=
  k0_pay7 (k0_pay15 a0 a1 a2 a3 a4 a5 a6 a7 a8) (k0_pay16 a0 a1 a2 a3 a4 a5 a6 a7 a8) (k0_pay17 a0 a1 a2 a3 a4 a5 a6 a7 a8)

/-- The one store through the whole rectangle leaves its payload. -/
theorem out11_eq (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : out0_11 (F := F) a0 a1 a2 a3 a4 a5 a6 a7 a8 = G11 a0 a1 a2 a3 a4 a5 a6 a7 a8 := by
  unfold out0_11
  rw [View.canon_unit_zero hz11]

/-- Cutting the point's block out of `X` and reading `X` through the block's view give the same. -/
theorem cut11_eq (t : Fin cfg0.N) (X : Vec F S167x1x1024 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq]
  exact cut11_eq t _

/-- Every index of the array is in the point's block. -/
theorem covered11 (i : S167x1x1024.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 11 (G11 (V m c main_arg0) (V m c main_arg1) (V m c main_arg2) (V m c main_arg3) (V m c main_arg4) (V m c main_arg5) (V m c main_arg6) (V m c main_arg7) (V m c main_arg8)) (fun t _ => flushed11_eq m c t) covered11).trans (by rw [V_main_arg0, V_main_arg1, V_main_arg2, V_main_arg3, V_main_arg4, V_main_arg5, V_main_arg6, V_main_arg7, V_main_arg8])

/-! ### Output window 12: the array after the run -/

/-- What the window's array ends holding: `out0_12` applied to the argument arrays in place of the input blocks (a value that the
    frame states apart, `kK_payN a…`, keeps its loads inside its own definition). -/
abbrev G12 (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : Vec F S1024x1024 .bf16 :=
  k0_pay8 (k0_pay9 a1 a2) (k0_pay14 a0 a1 a2 a3 a4 a5 a6 a7 a8) (k0_pay15 a0 a1 a2 a3 a4 a5 a6 a7 a8) (k0_pay16 a0 a1 a2 a3 a4 a5 a6 a7 a8) (k0_pay17 a0 a1 a2 a3 a4 a5 a6 a7 a8)

/-- A load of the whole of a block reads the block, and the one store through the whole rectangle leaves its payload. -/
theorem out12_eq (a0 : Vec F S128256x1024 .f32) (a1 : Vec F S128256x1024 .fp8e4m3) (a2 : Vec F S1002x8 .f32) (a3 : Vec F S1024x1024 .bf16) (a4 : Vec F S1x1024 .i32) (a5 : Vec F S1x1024 .f32) (a6 : Vec F S1x1024 .f32) (a7 : Vec F S1x1024 .f32) (a8 : Vec F S167x1x1024 .f32) : out0_12 (F := F) a0 a1 a2 a3 a4 a5 a6 a7 a8 = G12 a0 a1 a2 a3 a4 a5 a6 a7 a8 := by
  unfold out0_12
  rw [View.canon_unit_zero hz12, View.ld_unit_zero (S := S128256x1024) hz1 _ a1, View.ld_unit_zero (S := S1002x8) hz2 _ a2]

/-- Cutting the point's block out of `X` and reading `X` through the block's view give the same. -/
theorem cut12_eq (t : Fin cfg0.N) (X : Vec F S1024x1024 .bf16) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq]
  exact cut12_eq t _

/-- Every index of the array is in the point's block. -/
theorem covered12 (i : S1024x1024.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 12 (G12 (V m c main_arg0) (V m c main_arg1) (V m c main_arg2) (V m c main_arg3) (V m c main_arg4) (V m c main_arg5) (V m c main_arg6) (V m c main_arg7) (V m c main_arg8)) (fun t _ => flushed12_eq m c t) covered12).trans (by rw [V_main_arg0, V_main_arg1, V_main_arg2, V_main_arg3, V_main_arg4, V_main_arg5, V_main_arg6, V_main_arg7, V_main_arg8])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_2) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_3) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post9 m r h c).trans (final9 m c),
      (post10 m r h c).trans (final10 m c),
      (post11 m r h c).trans (final11 m c),
      (post12 m r h c).trans (final12 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.ReferenceIdeal.RefRun

end
-- ==== Proof.CaseA.lean ====
module
public import proofs.«01_k».proof.Proof.Gen.KernelIdeal.Frame
public import proofs.«01_k».proof.Proof.Chain
@[expose] public section
set_option maxRecDepth 16384
set_option maxHeartbeats 4000000
noncomputable section

/-! What the body leaves in its output blocks and in the carried accumulator, at the first grid point. -/

namespace Cert.KernelIdeal.Blk
open Cert.KernelIdeal Cert.KernelIdeal.Gen Idealize.ShloMosaic Idealize.ShloMosaic.TcCoe
variable {F : FTy → Type} [FloatOps F]
theorem codes_A (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = fun y : S1024x768.Idx => FloatOps.truncf .fp8e5m2 bitsLt_fp8e5m2_bf16 (bCb (BitVec.ofNat 32 (i 0).val) x1 x4 x5 x6 x7 x8 (y 1) (y 0)) := by
  funext y
  frame_open
  rw [View.read_writes_junk_apply_eq_canon]
  simp only [View.readAt_eq_ld, Memref.IsWhole.read_unread]
  canon_tiles x h
  case piece0 => exact code_tile _ x1 x4 x5 x6 x7 x8 640 896 (by decide) (by decide) _ x y (by rfl) (by omega) (by omega)
  case piece1 => exact code_tile _ x1 x4 x5 x6 x7 x8 512 896 (by decide) (by decide) _ x y (by rfl) (by omega) (by omega)
  case piece2 => exact code_tile _ x1 x4 x5 x6 x7 x8 384 896 (by decide) (by decide) _ x y (by rfl) (by omega) (by omega)
  case piece3 => exact code_tile _ x1 x4 x5 x6 x7 x8 256 896 (by decide) (by decide) _ x y (by rfl) (by omega) (by omega)
  case piece4 => exact code_tile _ x1 x4 x5 x6 x7 x8 128 896 (by decide) (by decide) _ x y (by rfl) (by omega) (by omega)
  case piece5 => exact code_tile _ x1 x4 x5 x6 x7 x8 0 896 (by decide) (by decide) _ x y (by rfl) (by omega) (by omega)
  case piece6 => exact code_tile _ x1 x4 x5 x6 x7 x8 640 768 (by decide) (by decide) _ x y (by rfl) (by omega) (by omega)
  case piece7 => exact code_tile _ x1 x4 x5 x6 x7 x8 512 768 (by decide) (by decide) _ x y (by rfl) (by omega) (by omega)
  case piece8 => exact code_tile _ x1 x4 x5 x6 x7 x8 384 768 (by decide) (by decide) _ x y (by rfl) (by omega) (by omega)
  case piece9 => exact code_tile _ x1 x4 x5 x6 x7 x8 256 768 (by decide) (by decide) _ x y (by rfl) (by omega) (by omega)
  case piece10 => exact code_tile _ x1 x4 x5 x6 x7 x8 128 768 (by decide) (by decide) _ x y (by rfl) (by omega) (by omega)
  case piece11 => exact code_tile _ x1 x4 x5 x6 x7 x8 0 768 (by decide) (by decide) _ x y (by rfl) (by omega) (by omega)
  case piece12 => exact code_tile _ x1 x4 x5 x6 x7 x8 640 640 (by decide) (by decide) _ x y (by rfl) (by omega) (by omega)
  case piece13 => exact code_tile _ x1 x4 x5 x6 x7 x8 512 640 (by decide) (by decide) _ x y (by rfl) (by omega) (by omega)
  case piece14 => exact code_tile _ x1 x4 x5 x6 x7 x8 384 640 (by decide) (by decide) _ x y (by rfl) (by omega) (by omega)
  case piece15 => exact code_tile _ x1 x4 x5 x6 x7 x8 256 640 (by decide) (by decide) _ x y (by rfl) (by omega) (by omega)
  case piece16 => exact code_tile _ x1 x4 x5 x6 x7 x8 128 640 (by decide) (by decide) _ x y (by rfl) (by omega) (by omega)
  case piece17 => exact code_tile _ x1 x4 x5 x6 x7 x8 0 640 (by decide) (by decide) _ x y (by rfl) (by omega) (by omega)
  case piece18 => exact code_tile _ x1 x4 x5 x6 x7 x8 640 512 (by decide) (by decide) _ x y (by rfl) (by omega) (by omega)
  case piece19 => exact code_tile _ x1 x4 x5 x6 x7 x8 512 512 (by decide) (by decide) _ x y (by rfl) (by omega) (by omega)
  case piece20 => exact code_tile _ x1 x4 x5 x6 x7 x8 384 512 (by decide) (by decide) _ x y (by rfl) (by omega) (by omega)
  case piece21 => exact code_tile _ x1 x4 x5 x6 x7 x8 256 512 (by decide) (by decide) _ x y (by rfl) (by omega) (by omega)
  case piece22 => exact code_tile _ x1 x4 x5 x6 x7 x8 128 512 (by decide) (by decide) _ x y (by rfl) (by omega) (by omega)
  case piece23 => exact code_tile _ x1 x4 x5 x6 x7 x8 0 512 (by decide) (by decide) _ x y (by rfl) (by omega) (by omega)
  case piece24 => exact code_tile _ x1 x4 x5 x6 x7 x8 640 384 (by decide) (by decide) _ x y (by rfl) (by omega) (by omega)
  case piece25 => exact code_tile _ x1 x4 x5 x6 x7 x8 512 384 (by decide) (by decide) _ x y (by rfl) (by omega) (by omega)
  case piece26 => exact code_tile _ x1 x4 x5 x6 x7 x8 384 384 (by decide) (by decide) _ x y (by rfl) (by omega) (by omega)
  case piece27 => exact code_tile _ x1 x4 x5 x6 x7 x8 256 384 (by decide) (by decide) _ x y (by rfl) (by omega) (by omega)
  case piece28 => exact code_tile _ x1 x4 x5 x6 x7 x8 128 384 (by decide) (by decide) _ x y (by rfl) (by omega) (by omega)
  case piece29 => exact code_tile _ x1 x4 x5 x6 x7 x8 0 384 (by decide) (by decide) _ x y (by rfl) (by omega) (by omega)
  case piece30 => exact code_tile _ x1 x4 x5 x6 x7 x8 640 256 (by decide) (by decide) _ x y (by rfl) (by omega) (by omega)
  case piece31 => exact code_tile _ x1 x4 x5 x6 x7 x8 512 256 (by decide) (by decide) _ x y (by rfl) (by omega) (by omega)
  case piece32 => exact code_tile _ x1 x4 x5 x6 x7 x8 384 256 (by decide) (by decide) _ x y (by rfl) (by omega) (by omega)
  case piece33 => exact code_tile _ x1 x4 x5 x6 x7 x8 256 256 (by decide) (by decide) _ x y (by rfl) (by omega) (by omega)
  case piece34 => exact code_tile _ x1 x4 x5 x6 x7 x8 128 256 (by decide) (by decide) _ x y (by rfl) (by omega) (by omega)
  case piece35 => exact code_tile _ x1 x4 x5 x6 x7 x8 0 256 (by decide) (by decide) _ x y (by rfl) (by omega) (by omega)
  case piece36 => exact code_tile _ x1 x4 x5 x6 x7 x8 640 128 (by decide) (by decide) _ x y (by rfl) (by omega) (by omega)
  case piece37 => exact code_tile _ x1 x4 x5 x6 x7 x8 512 128 (by decide) (by decide) _ x y (by rfl) (by omega) (by omega)
  case piece38 => exact code_tile _ x1 x4 x5 x6 x7 x8 384 128 (by decide) (by decide) _ x y (by rfl) (by omega) (by omega)
  case piece39 => exact code_tile _ x1 x4 x5 x6 x7 x8 256 128 (by decide) (by decide) _ x y (by rfl) (by omega) (by omega)
  case piece40 => exact code_tile _ x1 x4 x5 x6 x7 x8 128 128 (by decide) (by decide) _ x y (by rfl) (by omega) (by omega)
  case piece41 => exact code_tile _ x1 x4 x5 x6 x7 x8 0 128 (by decide) (by decide) _ x y (by rfl) (by omega) (by omega)
  case piece42 => exact code_tile _ x1 x4 x5 x6 x7 x8 640 0 (by decide) (by decide) _ x y (by rfl) (by omega) (by omega)
  case piece43 => exact code_tile _ x1 x4 x5 x6 x7 x8 512 0 (by decide) (by decide) _ x y (by rfl) (by omega) (by omega)
  case piece44 => exact code_tile _ x1 x4 x5 x6 x7 x8 384 0 (by decide) (by decide) _ x y (by rfl) (by omega) (by omega)
  case piece45 => exact code_tile _ x1 x4 x5 x6 x7 x8 256 0 (by decide) (by decide) _ x y (by rfl) (by omega) (by omega)
  case piece46 => exact code_tile _ x1 x4 x5 x6 x7 x8 128 0 (by decide) (by decide) _ x y (by rfl) (by omega) (by omega)
  case piece47 => exact code_tile _ x1 x4 x5 x6 x7 x8 0 0 (by decide) (by decide) _ x y (by rfl) (by omega) (by omega)

theorem scale_A (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = fun y : S1x1x1024.Idx => bScale (BitVec.ofNat 32 (i 0).val) x4 x5 x6 x7 x8 (y 2) := by
  funext y
  frame_open
  rw [View.read_writes_junk_apply_eq_canon]
  simp only [View.readAt_eq_ld, Memref.IsWhole.read_unread]
  canon_tiles x h
  case piece0 => exact scale_tile _ x4 x5 x6 x7 x8 896 (by decide) _ x y (by rfl) (by omega)
  case piece1 => exact scale_tile _ x4 x5 x6 x7 x8 768 (by decide) _ x y (by rfl) (by omega)
  case piece2 => exact scale_tile _ x4 x5 x6 x7 x8 640 (by decide) _ x y (by rfl) (by omega)
  case piece3 => exact scale_tile _ x4 x5 x6 x7 x8 512 (by decide) _ x y (by rfl) (by omega)
  case piece4 => exact scale_tile _ x4 x5 x6 x7 x8 384 (by decide) _ x y (by rfl) (by omega)
  case piece5 => exact scale_tile _ x4 x5 x6 x7 x8 256 (by decide) _ x y (by rfl) (by omega)
  case piece6 => exact scale_tile _ x4 x5 x6 x7 x8 128 (by decide) _ x y (by rfl) (by omega)
  case piece7 => exact scale_tile _ x4 x5 x6 x7 x8 0 (by decide) _ x y (by rfl) (by omega)

theorem dw_A (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = bDW (BitVec.ofNat 32 (i 0).val) x1 x3 x4 x5 x6 x7 x8 := by
  funext y
  frame_open
  rw [View.read_writes_junk_apply_eq_canon]
  simp only [View.readAt_eq_ld, Memref.IsWhole.read_unread]
  canon_tiles x h
  refine (congrFun (congrArg₂ k0_pay452 (canon_whole2 _ _ _ (fun z : S768x1024.Idx => bGb (BitVec.ofNat 32 (i 0).val) x1 x4 x5 x6 x7 x8 (z 0) (z 1)) ?_) (ld_whole2 _ _)) x).trans ?_
  · intro z
    canon_tiles w h
    case piece0 => exact gt_tile _ x1 x4 x5 x6 x7 x8 640 896 (by decide) (by decide) _ w z (by rfl) (by omega) (by omega)
    case piece1 => exact gt_tile _ x1 x4 x5 x6 x7 x8 512 896 (by decide) (by decide) _ w z (by rfl) (by omega) (by omega)
    case piece2 => exact gt_tile _ x1 x4 x5 x6 x7 x8 384 896 (by decide) (by decide) _ w z (by rfl) (by omega) (by omega)
    case piece3 => exact gt_tile _ x1 x4 x5 x6 x7 x8 256 896 (by decide) (by decide) _ w z (by rfl) (by omega) (by omega)
    case piece4 => exact gt_tile _ x1 x4 x5 x6 x7 x8 128 896 (by decide) (by decide) _ w z (by rfl) (by omega) (by omega)
    case piece5 => exact gt_tile _ x1 x4 x5 x6 x7 x8 0 896 (by decide) (by decide) _ w z (by rfl) (by omega) (by omega)
    case piece6 => exact gt_tile _ x1 x4 x5 x6 x7 x8 640 768 (by decide) (by decide) _ w z (by rfl) (by omega) (by omega)
    case piece7 => exact gt_tile _ x1 x4 x5 x6 x7 x8 512 768 (by decide) (by decide) _ w z (by rfl) (by omega) (by omega)
    case piece8 => exact gt_tile _ x1 x4 x5 x6 x7 x8 384 768 (by decide) (by decide) _ w z (by rfl) (by omega) (by omega)
    case piece9 => exact gt_tile _ x1 x4 x5 x6 x7 x8 256 768 (by decide) (by decide) _ w z (by rfl) (by omega) (by omega)
    case piece10 => exact gt_tile _ x1 x4 x5 x6 x7 x8 128 768 (by decide) (by decide) _ w z (by rfl) (by omega) (by omega)
    case piece11 => exact gt_tile _ x1 x4 x5 x6 x7 x8 0 768 (by decide) (by decide) _ w z (by rfl) (by omega) (by omega)
    case piece12 => exact gt_tile _ x1 x4 x5 x6 x7 x8 640 640 (by decide) (by decide) _ w z (by rfl) (by omega) (by omega)
    case piece13 => exact gt_tile _ x1 x4 x5 x6 x7 x8 512 640 (by decide) (by decide) _ w z (by rfl) (by omega) (by omega)
    case piece14 => exact gt_tile _ x1 x4 x5 x6 x7 x8 384 640 (by decide) (by decide) _ w z (by rfl) (by omega) (by omega)
    case piece15 => exact gt_tile _ x1 x4 x5 x6 x7 x8 256 640 (by decide) (by decide) _ w z (by rfl) (by omega) (by omega)
    case piece16 => exact gt_tile _ x1 x4 x5 x6 x7 x8 128 640 (by decide) (by decide) _ w z (by rfl) (by omega) (by omega)
    case piece17 => exact gt_tile _ x1 x4 x5 x6 x7 x8 0 640 (by decide) (by decide) _ w z (by rfl) (by omega) (by omega)
    case piece18 => exact gt_tile _ x1 x4 x5 x6 x7 x8 640 512 (by decide) (by decide) _ w z (by rfl) (by omega) (by omega)
    case piece19 => exact gt_tile _ x1 x4 x5 x6 x7 x8 512 512 (by decide) (by decide) _ w z (by rfl) (by omega) (by omega)
    case piece20 => exact gt_tile _ x1 x4 x5 x6 x7 x8 384 512 (by decide) (by decide) _ w z (by rfl) (by omega) (by omega)
    case piece21 => exact gt_tile _ x1 x4 x5 x6 x7 x8 256 512 (by decide) (by decide) _ w z (by rfl) (by omega) (by omega)
    case piece22 => exact gt_tile _ x1 x4 x5 x6 x7 x8 128 512 (by decide) (by decide) _ w z (by rfl) (by omega) (by omega)
    case piece23 => exact gt_tile _ x1 x4 x5 x6 x7 x8 0 512 (by decide) (by decide) _ w z (by rfl) (by omega) (by omega)
    case piece24 => exact gt_tile _ x1 x4 x5 x6 x7 x8 640 384 (by decide) (by decide) _ w z (by rfl) (by omega) (by omega)
    case piece25 => exact gt_tile _ x1 x4 x5 x6 x7 x8 512 384 (by decide) (by decide) _ w z (by rfl) (by omega) (by omega)
    case piece26 => exact gt_tile _ x1 x4 x5 x6 x7 x8 384 384 (by decide) (by decide) _ w z (by rfl) (by omega) (by omega)
    case piece27 => exact gt_tile _ x1 x4 x5 x6 x7 x8 256 384 (by decide) (by decide) _ w z (by rfl) (by omega) (by omega)
    case piece28 => exact gt_tile _ x1 x4 x5 x6 x7 x8 128 384 (by decide) (by decide) _ w z (by rfl) (by omega) (by omega)
    case piece29 => exact gt_tile _ x1 x4 x5 x6 x7 x8 0 384 (by decide) (by decide) _ w z (by rfl) (by omega) (by omega)
    case piece30 => exact gt_tile _ x1 x4 x5 x6 x7 x8 640 256 (by decide) (by decide) _ w z (by rfl) (by omega) (by omega)
    case piece31 => exact gt_tile _ x1 x4 x5 x6 x7 x8 512 256 (by decide) (by decide) _ w z (by rfl) (by omega) (by omega)
    case piece32 => exact gt_tile _ x1 x4 x5 x6 x7 x8 384 256 (by decide) (by decide) _ w z (by rfl) (by omega) (by omega)
    case piece33 => exact gt_tile _ x1 x4 x5 x6 x7 x8 256 256 (by decide) (by decide) _ w z (by rfl) (by omega) (by omega)
    case piece34 => exact gt_tile _ x1 x4 x5 x6 x7 x8 128 256 (by decide) (by decide) _ w z (by rfl) (by omega) (by omega)
    case piece35 => exact gt_tile _ x1 x4 x5 x6 x7 x8 0 256 (by decide) (by decide) _ w z (by rfl) (by omega) (by omega)
    case piece36 => exact gt_tile _ x1 x4 x5 x6 x7 x8 640 128 (by decide) (by decide) _ w z (by rfl) (by omega) (by omega)
    case piece37 => exact gt_tile _ x1 x4 x5 x6 x7 x8 512 128 (by decide) (by decide) _ w z (by rfl) (by omega) (by omega)
    case piece38 => exact gt_tile _ x1 x4 x5 x6 x7 x8 384 128 (by decide) (by decide) _ w z (by rfl) (by omega) (by omega)
    case piece39 => exact gt_tile _ x1 x4 x5 x6 x7 x8 256 128 (by decide) (by decide) _ w z (by rfl) (by omega) (by omega)
    case piece40 => exact gt_tile _ x1 x4 x5 x6 x7 x8 128 128 (by decide) (by decide) _ w z (by rfl) (by omega) (by omega)
    case piece41 => exact gt_tile _ x1 x4 x5 x6 x7 x8 0 128 (by decide) (by decide) _ w z (by rfl) (by omega) (by omega)
    case piece42 => exact gt_tile _ x1 x4 x5 x6 x7 x8 640 0 (by decide) (by decide) _ w z (by rfl) (by omega) (by omega)
    case piece43 => exact gt_tile _ x1 x4 x5 x6 x7 x8 512 0 (by decide) (by decide) _ w z (by rfl) (by omega) (by omega)
    case piece44 => exact gt_tile _ x1 x4 x5 x6 x7 x8 384 0 (by decide) (by decide) _ w z (by rfl) (by omega) (by omega)
    case piece45 => exact gt_tile _ x1 x4 x5 x6 x7 x8 256 0 (by decide) (by decide) _ w z (by rfl) (by omega) (by omega)
    case piece46 => exact gt_tile _ x1 x4 x5 x6 x7 x8 128 0 (by decide) (by decide) _ w z (by rfl) (by omega) (by omega)
    case piece47 => exact gt_tile _ x1 x4 x5 x6 x7 x8 0 0 (by decide) (by decide) _ w z (by rfl) (by omega) (by omega)
  · rw [idx_eq2 x y h0 h1]
    rfl

theorem acc_A (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = addf (fun _ => Scalar.ofBits .f32 0x00000000#32) (bDX i x0 x1 x2 x4 x5 x6 x7 x8) := by
  funext y
  frame_open
  rw [View.read_writes_junk_apply_eq_canon]
  simp only [View.readAt_eq_ld, Memref.IsWhole.read_unread]
  refine (canon_store2 _ _ _ y).trans ?_
  refine (congrFun (congrArg k0_pay1 (congr (congrArg₂ k0_pay453 (canon_whole2 _ _ _ (fun _ => Scalar.ofBits .f32 0x00000000#32) ?_) (canon_whole2 _ _ _ (fun z : S1024x768.Idx => bGb (BitVec.ofNat 32 (i 0).val) x1 x4 x5 x6 x7 x8 (z 1) (z 0)) ?_)) (canon_whole2 _ _ _ (fun z : S768x1024.Idx => bWq i x0 x2 (z 0) (z 1)) ?_))) y).trans ?_
  · intro z
    canon_tiles w h
    rfl
  · intro z
    canon_tiles w h
    case piece0 => exact g_tile _ x1 x4 x5 x6 x7 x8 640 896 (by decide) (by decide) _ w z (by rfl) (by omega) (by omega)
    case piece1 => exact g_tile _ x1 x4 x5 x6 x7 x8 512 896 (by decide) (by decide) _ w z (by rfl) (by omega) (by omega)
    case piece2 => exact g_tile _ x1 x4 x5 x6 x7 x8 384 896 (by decide) (by decide) _ w z (by rfl) (by omega) (by omega)
    case piece3 => exact g_tile _ x1 x4 x5 x6 x7 x8 256 896 (by decide) (by decide) _ w z (by rfl) (by omega) (by omega)
    case piece4 => exact g_tile _ x1 x4 x5 x6 x7 x8 128 896 (by decide) (by decide) _ w z (by rfl) (by omega) (by omega)
    case piece5 => exact g_tile _ x1 x4 x5 x6 x7 x8 0 896 (by decide) (by decide) _ w z (by rfl) (by omega) (by omega)
    case piece6 => exact g_tile _ x1 x4 x5 x6 x7 x8 640 768 (by decide) (by decide) _ w z (by rfl) (by omega) (by omega)
    case piece7 => exact g_tile _ x1 x4 x5 x6 x7 x8 512 768 (by decide) (by decide) _ w z (by rfl) (by omega) (by omega)
    case piece8 => exact g_tile _ x1 x4 x5 x6 x7 x8 384 768 (by decide) (by decide) _ w z (by rfl) (by omega) (by omega)
    case piece9 => exact g_tile _ x1 x4 x5 x6 x7 x8 256 768 (by decide) (by decide) _ w z (by rfl) (by omega) (by omega)
    case piece10 => exact g_tile _ x1 x4 x5 x6 x7 x8 128 768 (by decide) (by decide) _ w z (by rfl) (by omega) (by omega)
    case piece11 => exact g_tile _ x1 x4 x5 x6 x7 x8 0 768 (by decide) (by decide) _ w z (by rfl) (by omega) (by omega)
    case piece12 => exact g_tile _ x1 x4 x5 x6 x7 x8 640 640 (by decide) (by decide) _ w z (by rfl) (by omega) (by omega)
    case piece13 => exact g_tile _ x1 x4 x5 x6 x7 x8 512 640 (by decide) (by decide) _ w z (by rfl) (by omega) (by omega)
    case piece14 => exact g_tile _ x1 x4 x5 x6 x7 x8 384 640 (by decide) (by decide) _ w z (by rfl) (by omega) (by omega)
    case piece15 => exact g_tile _ x1 x4 x5 x6 x7 x8 256 640 (by decide) (by decide) _ w z (by rfl) (by omega) (by omega)
    case piece16 => exact g_tile _ x1 x4 x5 x6 x7 x8 128 640 (by decide) (by decide) _ w z (by rfl) (by omega) (by omega)
    case piece17 => exact g_tile _ x1 x4 x5 x6 x7 x8 0 640 (by decide) (by decide) _ w z (by rfl) (by omega) (by omega)
    case piece18 => exact g_tile _ x1 x4 x5 x6 x7 x8 640 512 (by decide) (by decide) _ w z (by rfl) (by omega) (by omega)
    case piece19 => exact g_tile _ x1 x4 x5 x6 x7 x8 512 512 (by decide) (by decide) _ w z (by rfl) (by omega) (by omega)
    case piece20 => exact g_tile _ x1 x4 x5 x6 x7 x8 384 512 (by decide) (by decide) _ w z (by rfl) (by omega) (by omega)
    case piece21 => exact g_tile _ x1 x4 x5 x6 x7 x8 256 512 (by decide) (by decide) _ w z (by rfl) (by omega) (by omega)
    case piece22 => exact g_tile _ x1 x4 x5 x6 x7 x8 128 512 (by decide) (by decide) _ w z (by rfl) (by omega) (by omega)
    case piece23 => exact g_tile _ x1 x4 x5 x6 x7 x8 0 512 (by decide) (by decide) _ w z (by rfl) (by omega) (by omega)
    case piece24 => exact g_tile _ x1 x4 x5 x6 x7 x8 640 384 (by decide) (by decide) _ w z (by rfl) (by omega) (by omega)
    case piece25 => exact g_tile _ x1 x4 x5 x6 x7 x8 512 384 (by decide) (by decide) _ w z (by rfl) (by omega) (by omega)
    case piece26 => exact g_tile _ x1 x4 x5 x6 x7 x8 384 384 (by decide) (by decide) _ w z (by rfl) (by omega) (by omega)
    case piece27 => exact g_tile _ x1 x4 x5 x6 x7 x8 256 384 (by decide) (by decide) _ w z (by rfl) (by omega) (by omega)
    case piece28 => exact g_tile _ x1 x4 x5 x6 x7 x8 128 384 (by decide) (by decide) _ w z (by rfl) (by omega) (by omega)
    case piece29 => exact g_tile _ x1 x4 x5 x6 x7 x8 0 384 (by decide) (by decide) _ w z (by rfl) (by omega) (by omega)
    case piece30 => exact g_tile _ x1 x4 x5 x6 x7 x8 640 256 (by decide) (by decide) _ w z (by rfl) (by omega) (by omega)
    case piece31 => exact g_tile _ x1 x4 x5 x6 x7 x8 512 256 (by decide) (by decide) _ w z (by rfl) (by omega) (by omega)
    case piece32 => exact g_tile _ x1 x4 x5 x6 x7 x8 384 256 (by decide) (by decide) _ w z (by rfl) (by omega) (by omega)
    case piece33 => exact g_tile _ x1 x4 x5 x6 x7 x8 256 256 (by decide) (by decide) _ w z (by rfl) (by omega) (by omega)
    case piece34 => exact g_tile _ x1 x4 x5 x6 x7 x8 128 256 (by decide) (by decide) _ w z (by rfl) (by omega) (by omega)
    case piece35 => exact g_tile _ x1 x4 x5 x6 x7 x8 0 256 (by decide) (by decide) _ w z (by rfl) (by omega) (by omega)
    case piece36 => exact g_tile _ x1 x4 x5 x6 x7 x8 640 128 (by decide) (by decide) _ w z (by rfl) (by omega) (by omega)
    case piece37 => exact g_tile _ x1 x4 x5 x6 x7 x8 512 128 (by decide) (by decide) _ w z (by rfl) (by omega) (by omega)
    case piece38 => exact g_tile _ x1 x4 x5 x6 x7 x8 384 128 (by decide) (by decide) _ w z (by rfl) (by omega) (by omega)
    case piece39 => exact g_tile _ x1 x4 x5 x6 x7 x8 256 128 (by decide) (by decide) _ w z (by rfl) (by omega) (by omega)
    case piece40 => exact g_tile _ x1 x4 x5 x6 x7 x8 128 128 (by decide) (by decide) _ w z (by rfl) (by omega) (by omega)
    case piece41 => exact g_tile _ x1 x4 x5 x6 x7 x8 0 128 (by decide) (by decide) _ w z (by rfl) (by omega) (by omega)
    case piece42 => exact g_tile _ x1 x4 x5 x6 x7 x8 640 0 (by decide) (by decide) _ w z (by rfl) (by omega) (by omega)
    case piece43 => exact g_tile _ x1 x4 x5 x6 x7 x8 512 0 (by decide) (by decide) _ w z (by rfl) (by omega) (by omega)
    case piece44 => exact g_tile _ x1 x4 x5 x6 x7 x8 384 0 (by decide) (by decide) _ w z (by rfl) (by omega) (by omega)
    case piece45 => exact g_tile _ x1 x4 x5 x6 x7 x8 256 0 (by decide) (by decide) _ w z (by rfl) (by omega) (by omega)
    case piece46 => exact g_tile _ x1 x4 x5 x6 x7 x8 128 0 (by decide) (by decide) _ w z (by rfl) (by omega) (by omega)
    case piece47 => exact g_tile _ x1 x4 x5 x6 x7 x8 0 0 (by decide) (by decide) _ w z (by rfl) (by omega) (by omega)
  · intro z
    canon_tiles w h
    case piece0 => exact wq_tile i x0 x2 5 7 _ _ w z (by rfl) (by simpa using h0) (by simpa using h1) w0_lt w1_lt
    case piece1 => exact wq_tile i x0 x2 5 6 _ _ w z (by rfl) (by simpa using h0) (by simpa using h1) w0_lt w1_lt
    case piece2 => exact wq_tile i x0 x2 5 5 _ _ w z (by rfl) (by simpa using h0) (by simpa using h1) w0_lt w1_lt
    case piece3 => exact wq_tile i x0 x2 5 4 _ _ w z (by rfl) (by simpa using h0) (by simpa using h1) w0_lt w1_lt
    case piece4 => exact wq_tile i x0 x2 5 3 _ _ w z (by rfl) (by simpa using h0) (by simpa using h1) w0_lt w1_lt
    case piece5 => exact wq_tile i x0 x2 5 2 _ _ w z (by rfl) (by simpa using h0) (by simpa using h1) w0_lt w1_lt
    case piece6 => exact wq_tile i x0 x2 5 1 _ _ w z (by rfl) (by simpa using h0) (by simpa using h1) w0_lt w1_lt
    case piece7 => exact wq_tile i x0 x2 5 0 _ _ w z (by rfl) (by simpa using h0) (by simpa using h1) w0_lt w1_lt
    case piece8 => exact wq_tile i x0 x2 4 7 _ _ w z (by rfl) (by simpa using h0) (by simpa using h1) w0_lt w1_lt
    case piece9 => exact wq_tile i x0 x2 4 6 _ _ w z (by rfl) (by simpa using h0) (by simpa using h1) w0_lt w1_lt
    case piece10 => exact wq_tile i x0 x2 4 5 _ _ w z (by rfl) (by simpa using h0) (by simpa using h1) w0_lt w1_lt
    case piece11 => exact wq_tile i x0 x2 4 4 _ _ w z (by rfl) (by simpa using h0) (by simpa using h1) w0_lt w1_lt
    case piece12 => exact wq_tile i x0 x2 4 3 _ _ w z (by rfl) (by simpa using h0) (by simpa using h1) w0_lt w1_lt
    case piece13 => exact wq_tile i x0 x2 4 2 _ _ w z (by rfl) (by simpa using h0) (by simpa using h1) w0_lt w1_lt
    case piece14 => exact wq_tile i x0 x2 4 1 _ _ w z (by rfl) (by simpa using h0) (by simpa using h1) w0_lt w1_lt
    case piece15 => exact wq_tile i x0 x2 4 0 _ _ w z (by rfl) (by simpa using h0) (by simpa using h1) w0_lt w1_lt
    case piece16 => exact wq_tile i x0 x2 3 7 _ _ w z (by rfl) (by simpa using h0) (by simpa using h1) w0_lt w1_lt
    case piece17 => exact wq_tile i x0 x2 3 6 _ _ w z (by rfl) (by simpa using h0) (by simpa using h1) w0_lt w1_lt
    case piece18 => exact wq_tile i x0 x2 3 5 _ _ w z (by rfl) (by simpa using h0) (by simpa using h1) w0_lt w1_lt
    case piece19 => exact wq_tile i x0 x2 3 4 _ _ w z (by rfl) (by simpa using h0) (by simpa using h1) w0_lt w1_lt
    case piece20 => exact wq_tile i x0 x2 3 3 _ _ w z (by rfl) (by simpa using h0) (by simpa using h1) w0_lt w1_lt
    case piece21 => exact wq_tile i x0 x2 3 2 _ _ w z (by rfl) (by simpa using h0) (by simpa using h1) w0_lt w1_lt
    case piece22 => exact wq_tile i x0 x2 3 1 _ _ w z (by rfl) (by simpa using h0) (by simpa using h1) w0_lt w1_lt
    case piece23 => exact wq_tile i x0 x2 3 0 _ _ w z (by rfl) (by simpa using h0) (by simpa using h1) w0_lt w1_lt
    case piece24 => exact wq_tile i x0 x2 2 7 _ _ w z (by rfl) (by simpa using h0) (by simpa using h1) w0_lt w1_lt
    case piece25 => exact wq_tile i x0 x2 2 6 _ _ w z (by rfl) (by simpa using h0) (by simpa using h1) w0_lt w1_lt
    case piece26 => exact wq_tile i x0 x2 2 5 _ _ w z (by rfl) (by simpa using h0) (by simpa using h1) w0_lt w1_lt
    case piece27 => exact wq_tile i x0 x2 2 4 _ _ w z (by rfl) (by simpa using h0) (by simpa using h1) w0_lt w1_lt
    case piece28 => exact wq_tile i x0 x2 2 3 _ _ w z (by rfl) (by simpa using h0) (by simpa using h1) w0_lt w1_lt
    case piece29 => exact wq_tile i x0 x2 2 2 _ _ w z (by rfl) (by simpa using h0) (by simpa using h1) w0_lt w1_lt
    case piece30 => exact wq_tile i x0 x2 2 1 _ _ w z (by rfl) (by simpa using h0) (by simpa using h1) w0_lt w1_lt
    case piece31 => exact wq_tile i x0 x2 2 0 _ _ w z (by rfl) (by simpa using h0) (by simpa using h1) w0_lt w1_lt
    case piece32 => exact wq_tile i x0 x2 1 7 _ _ w z (by rfl) (by simpa using h0) (by simpa using h1) w0_lt w1_lt
    case piece33 => exact wq_tile i x0 x2 1 6 _ _ w z (by rfl) (by simpa using h0) (by simpa using h1) w0_lt w1_lt
    case piece34 => exact wq_tile i x0 x2 1 5 _ _ w z (by rfl) (by simpa using h0) (by simpa using h1) w0_lt w1_lt
    case piece35 => exact wq_tile i x0 x2 1 4 _ _ w z (by rfl) (by simpa using h0) (by simpa using h1) w0_lt w1_lt
    case piece36 => exact wq_tile i x0 x2 1 3 _ _ w z (by rfl) (by simpa using h0) (by simpa using h1) w0_lt w1_lt
    case piece37 => exact wq_tile i x0 x2 1 2 _ _ w z (by rfl) (by simpa using h0) (by simpa using h1) w0_lt w1_lt
    case piece38 => exact wq_tile i x0 x2 1 1 _ _ w z (by rfl) (by simpa using h0) (by simpa using h1) w0_lt w1_lt
    case piece39 => exact wq_tile i x0 x2 1 0 _ _ w z (by rfl) (by simpa using h0) (by simpa using h1) w0_lt w1_lt
    case piece40 => exact wq_tile i x0 x2 0 7 _ _ w z (by rfl) (by simpa using h0) (by simpa using h1) w0_lt w1_lt
    case piece41 => exact wq_tile i x0 x2 0 6 _ _ w z (by rfl) (by simpa using h0) (by simpa using h1) w0_lt w1_lt
    case piece42 => exact wq_tile i x0 x2 0 5 _ _ w z (by rfl) (by simpa using h0) (by simpa using h1) w0_lt w1_lt
    case piece43 => exact wq_tile i x0 x2 0 4 _ _ w z (by rfl) (by simpa using h0) (by simpa using h1) w0_lt w1_lt
    case piece44 => exact wq_tile i x0 x2 0 3 _ _ w z (by rfl) (by simpa using h0) (by simpa using h1) w0_lt w1_lt
    case piece45 => exact wq_tile i x0 x2 0 2 _ _ w z (by rfl) (by simpa using h0) (by simpa using h1) w0_lt w1_lt
    case piece46 => exact wq_tile i x0 x2 0 1 _ _ w z (by rfl) (by simpa using h0) (by simpa using h1) w0_lt w1_lt
    case piece47 => exact wq_tile i x0 x2 0 0 _ _ w z (by rfl) (by simpa using h0) (by simpa using h1) w0_lt w1_lt
  · unfold k0_pay1
    rw [shapeCast_self]
    rfl

end Cert.KernelIdeal.Blk
-- ==== Proof.CaseB.lean ====
module
public import proofs.«01_k».proof.Proof.Gen.KernelIdeal.Frame
public import proofs.«01_k».proof.Proof.Chain
@[expose] public section
set_option maxRecDepth 16384
set_option maxHeartbeats 4000000
noncomputable section

/-! What the body leaves in its output blocks and in the carried accumulator, at a point between the first and the last. -/

namespace Cert.KernelIdeal.Blk
open Cert.KernelIdeal Cert.KernelIdeal.Gen Idealize.ShloMosaic Idealize.ShloMosaic.TcCoe
variable {F : FTy → Type} [FloatOps F]
theorem codes_B (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = fun y : S1024x768.Idx => FloatOps.truncf .fp8e5m2 bitsLt_fp8e5m2_bf16 (bCb (BitVec.ofNat 32 (i 0).val) x1 x4 x5 x6 x7 x8 (y 1) (y 0)) := by
  funext y
  frame_open
  rw [View.read_writes_junk_apply_eq_canon]
  simp only [View.readAt_eq_ld, Memref.IsWhole.read_unread]
  canon_tiles x h
  case piece0 => exact code_tile _ x1 x4 x5 x6 x7 x8 640 896 (by decide) (by decide) _ x y (by rfl) (by omega) (by omega)
  case piece1 => exact code_tile _ x1 x4 x5 x6 x7 x8 512 896 (by decide) (by decide) _ x y (by rfl) (by omega) (by omega)
  case piece2 => exact code_tile _ x1 x4 x5 x6 x7 x8 384 896 (by decide) (by decide) _ x y (by rfl) (by omega) (by omega)
  case piece3 => exact code_tile _ x1 x4 x5 x6 x7 x8 256 896 (by decide) (by decide) _ x y (by rfl) (by omega) (by omega)
  case piece4 => exact code_tile _ x1 x4 x5 x6 x7 x8 128 896 (by decide) (by decide) _ x y (by rfl) (by omega) (by omega)
  case piece5 => exact code_tile _ x1 x4 x5 x6 x7 x8 0 896 (by decide) (by decide) _ x y (by rfl) (by omega) (by omega)
  case piece6 => exact code_tile _ x1 x4 x5 x6 x7 x8 640 768 (by decide) (by decide) _ x y (by rfl) (by omega) (by omega)
  case piece7 => exact code_tile _ x1 x4 x5 x6 x7 x8 512 768 (by decide) (by decide) _ x y (by rfl) (by omega) (by omega)
  case piece8 => exact code_tile _ x1 x4 x5 x6 x7 x8 384 768 (by decide) (by decide) _ x y (by rfl) (by omega) (by omega)
  case piece9 => exact code_tile _ x1 x4 x5 x6 x7 x8 256 768 (by decide) (by decide) _ x y (by rfl) (by omega) (by omega)
  case piece10 => exact code_tile _ x1 x4 x5 x6 x7 x8 128 768 (by decide) (by decide) _ x y (by rfl) (by omega) (by omega)
  case piece11 => exact code_tile _ x1 x4 x5 x6 x7 x8 0 768 (by decide) (by decide) _ x y (by rfl) (by omega) (by omega)
  case piece12 => exact code_tile _ x1 x4 x5 x6 x7 x8 640 640 (by decide) (by decide) _ x y (by rfl) (by omega) (by omega)
  case piece13 => exact code_tile _ x1 x4 x5 x6 x7 x8 512 640 (by decide) (by decide) _ x y (by rfl) (by omega) (by omega)
  case piece14 => exact code_tile _ x1 x4 x5 x6 x7 x8 384 640 (by decide) (by decide) _ x y (by rfl) (by omega) (by omega)
  case piece15 => exact code_tile _ x1 x4 x5 x6 x7 x8 256 640 (by decide) (by decide) _ x y (by rfl) (by omega) (by omega)
  case piece16 => exact code_tile _ x1 x4 x5 x6 x7 x8 128 640 (by decide) (by decide) _ x y (by rfl) (by omega) (by omega)
  case piece17 => exact code_tile _ x1 x4 x5 x6 x7 x8 0 640 (by decide) (by decide) _ x y (by rfl) (by omega) (by omega)
  case piece18 => exact code_tile _ x1 x4 x5 x6 x7 x8 640 512 (by decide) (by decide) _ x y (by rfl) (by omega) (by omega)
  case piece19 => exact code_tile _ x1 x4 x5 x6 x7 x8 512 512 (by decide) (by decide) _ x y (by rfl) (by omega) (by omega)
  case piece20 => exact code_tile _ x1 x4 x5 x6 x7 x8 384 512 (by decide) (by decide) _ x y (by rfl) (by omega) (by omega)
  case piece21 => exact code_tile _ x1 x4 x5 x6 x7 x8 256 512 (by decide) (by decide) _ x y (by rfl) (by omega) (by omega)
  case piece22 => exact code_tile _ x1 x4 x5 x6 x7 x8 128 512 (by decide) (by decide) _ x y (by rfl) (by omega) (by omega)
  case piece23 => exact code_tile _ x1 x4 x5 x6 x7 x8 0 512 (by decide) (by decide) _ x y (by rfl) (by omega) (by omega)
  case piece24 => exact code_tile _ x1 x4 x5 x6 x7 x8 640 384 (by decide) (by decide) _ x y (by rfl) (by omega) (by omega)
  case piece25 => exact code_tile _ x1 x4 x5 x6 x7 x8 512 384 (by decide) (by decide) _ x y (by rfl) (by omega) (by omega)
  case piece26 => exact code_tile _ x1 x4 x5 x6 x7 x8 384 384 (by decide) (by decide) _ x y (by rfl) (by omega) (by omega)
  case piece27 => exact code_tile _ x1 x4 x5 x6 x7 x8 256 384 (by decide) (by decide) _ x y (by rfl) (by omega) (by omega)
  case piece28 => exact code_tile _ x1 x4 x5 x6 x7 x8 128 384 (by decide) (by decide) _ x y (by rfl) (by omega) (by omega)
  case piece29 => exact code_tile _ x1 x4 x5 x6 x7 x8 0 384 (by decide) (by decide) _ x y (by rfl) (by omega) (by omega)
  case piece30 => exact code_tile _ x1 x4 x5 x6 x7 x8 640 256 (by decide) (by decide) _ x y (by rfl) (by omega) (by omega)
  case piece31 => exact code_tile _ x1 x4 x5 x6 x7 x8 512 256 (by decide) (by decide) _ x y (by rfl) (by omega) (by omega)
  case piece32 => exact code_tile _ x1 x4 x5 x6 x7 x8 384 256 (by decide) (by decide) _ x y (by rfl) (by omega) (by omega)
  case piece33 => exact code_tile _ x1 x4 x5 x6 x7 x8 256 256 (by decide) (by decide) _ x y (by rfl) (by omega) (by omega)
  case piece34 => exact code_tile _ x1 x4 x5 x6 x7 x8 128 256 (by decide) (by decide) _ x y (by rfl) (by omega) (by omega)
  case piece35 => exact code_tile _ x1 x4 x5 x6 x7 x8 0 256 (by decide) (by decide) _ x y (by rfl) (by omega) (by omega)
  case piece36 => exact code_tile _ x1 x4 x5 x6 x7 x8 640 128 (by decide) (by decide) _ x y (by rfl) (by omega) (by omega)
  case piece37 => exact code_tile _ x1 x4 x5 x6 x7 x8 512 128 (by decide) (by decide) _ x y (by rfl) (by omega) (by omega)
  case piece38 => exact code_tile _ x1 x4 x5 x6 x7 x8 384 128 (by decide) (by decide) _ x y (by rfl) (by omega) (by omega)
  case piece39 => exact code_tile _ x1 x4 x5 x6 x7 x8 256 128 (by decide) (by decide) _ x y (by rfl) (by omega) (by omega)
  case piece40 => exact code_tile _ x1 x4 x5 x6 x7 x8 128 128 (by decide) (by decide) _ x y (by rfl) (by omega) (by omega)
  case piece41 => exact code_tile _ x1 x4 x5 x6 x7 x8 0 128 (by decide) (by decide) _ x y (by rfl) (by omega) (by omega)
  case piece42 => exact code_tile _ x1 x4 x5 x6 x7 x8 640 0 (by decide) (by decide) _ x y (by rfl) (by omega) (by omega)
  case piece43 => exact code_tile _ x1 x4 x5 x6 x7 x8 512 0 (by decide) (by decide) _ x y (by rfl) (by omega) (by omega)
  case piece44 => exact code_tile _ x1 x4 x5 x6 x7 x8 384 0 (by decide) (by decide) _ x y (by rfl) (by omega) (by omega)
  case piece45 => exact code_tile _ x1 x4 x5 x6 x7 x8 256 0 (by decide) (by decide) _ x y (by rfl) (by omega) (by omega)
  case piece46 => exact code_tile _ x1 x4 x5 x6 x7 x8 128 0 (by decide) (by decide) _ x y (by rfl) (by omega) (by omega)
  case piece47 => exact code_tile _ x1 x4 x5 x6 x7 x8 0 0 (by decide) (by decide) _ x y (by rfl) (by omega) (by omega)

theorem scale_B (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = fun y : S1x1x1024.Idx => bScale (BitVec.ofNat 32 (i 0).val) x4 x5 x6 x7 x8 (y 2) := by
  funext y
  frame_open
  rw [View.read_writes_junk_apply_eq_canon]
  simp only [View.readAt_eq_ld, Memref.IsWhole.read_unread]
  canon_tiles x h
  case piece0 => exact scale_tile _ x4 x5 x6 x7 x8 896 (by decide) _ x y (by rfl) (by omega)
  case piece1 => exact scale_tile _ x4 x5 x6 x7 x8 768 (by decide) _ x y (by rfl) (by omega)
  case piece2 => exact scale_tile _ x4 x5 x6 x7 x8 640 (by decide) _ x y (by rfl) (by omega)
  case piece3 => exact scale_tile _ x4 x5 x6 x7 x8 512 (by decide) _ x y (by rfl) (by omega)
  case piece4 => exact scale_tile _ x4 x5 x6 x7 x8 384 (by decide) _ x y (by rfl) (by omega)
  case piece5 => exact scale_tile _ x4 x5 x6 x7 x8 256 (by decide) _ x y (by rfl) (by omega)
  case piece6 => exact scale_tile _ x4 x5 x6 x7 x8 128 (by decide) _ x y (by rfl) (by omega)
  case piece7 => exact scale_tile _ x4 x5 x6 x7 x8 0 (by decide) _ x y (by rfl) (by omega)

theorem dw_B (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = bDW (BitVec.ofNat 32 (i 0).val) x1 x3 x4 x5 x6 x7 x8 := by
  funext y
  frame_open
  rw [View.read_writes_junk_apply_eq_canon]
  simp only [View.readAt_eq_ld, Memref.IsWhole.read_unread]
  canon_tiles x h
  refine (congrFun (congrArg₂ k0_pay452 (canon_whole2 _ _ _ (fun z : S768x1024.Idx => bGb (BitVec.ofNat 32 (i 0).val) x1 x4 x5 x6 x7 x8 (z 0) (z 1)) ?_) (ld_whole2 _ _)) x).trans ?_
  · intro z
    canon_tiles w h
    case piece0 => exact gt_tile _ x1 x4 x5 x6 x7 x8 640 896 (by decide) (by decide) _ w z (by rfl) (by omega) (by omega)
    case piece1 => exact gt_tile _ x1 x4 x5 x6 x7 x8 512 896 (by decide) (by decide) _ w z (by rfl) (by omega) (by omega)
    case piece2 => exact gt_tile _ x1 x4 x5 x6 x7 x8 384 896 (by decide) (by decide) _ w z (by rfl) (by omega) (by omega)
    case piece3 => exact gt_tile _ x1 x4 x5 x6 x7 x8 256 896 (by decide) (by decide) _ w z (by rfl) (by omega) (by omega)
    case piece4 => exact gt_tile _ x1 x4 x5 x6 x7 x8 128 896 (by decide) (by decide) _ w z (by rfl) (by omega) (by omega)
    case piece5 => exact gt_tile _ x1 x4 x5 x6 x7 x8 0 896 (by decide) (by decide) _ w z (by rfl) (by omega) (by omega)
    case piece6 => exact gt_tile _ x1 x4 x5 x6 x7 x8 640 768 (by decide) (by decide) _ w z (by rfl) (by omega) (by omega)
    case piece7 => exact gt_tile _ x1 x4 x5 x6 x7 x8 512 768 (by decide) (by decide) _ w z (by rfl) (by omega) (by omega)
    case piece8 => exact gt_tile _ x1 x4 x5 x6 x7 x8 384 768 (by decide) (by decide) _ w z (by rfl) (by omega) (by omega)
    case piece9 => exact gt_tile _ x1 x4 x5 x6 x7 x8 256 768 (by decide) (by decide) _ w z (by rfl) (by omega) (by omega)
    case piece10 => exact gt_tile _ x1 x4 x5 x6 x7 x8 128 768 (by decide) (by decide) _ w z (by rfl) (by omega) (by omega)
    case piece11 => exact gt_tile _ x1 x4 x5 x6 x7 x8 0 768 (by decide) (by decide) _ w z (by rfl) (by omega) (by omega)
    case piece12 => exact gt_tile _ x1 x4 x5 x6 x7 x8 640 640 (by decide) (by decide) _ w z (by rfl) (by omega) (by omega)
    case piece13 => exact gt_tile _ x1 x4 x5 x6 x7 x8 512 640 (by decide) (by decide) _ w z (by rfl) (by omega) (by omega)
    case piece14 => exact gt_tile _ x1 x4 x5 x6 x7 x8 384 640 (by decide) (by decide) _ w z (by rfl) (by omega) (by omega)
    case piece15 => exact gt_tile _ x1 x4 x5 x6 x7 x8 256 640 (by decide) (by decide) _ w z (by rfl) (by omega) (by omega)
    case piece16 => exact gt_tile _ x1 x4 x5 x6 x7 x8 128 640 (by decide) (by decide) _ w z (by rfl) (by omega) (by omega)
    case piece17 => exact gt_tile _ x1 x4 x5 x6 x7 x8 0 640 (by decide) (by decide) _ w z (by rfl) (by omega) (by omega)
    case piece18 => exact gt_tile _ x1 x4 x5 x6 x7 x8 640 512 (by decide) (by decide) _ w z (by rfl) (by omega) (by omega)
    case piece19 => exact gt_tile _ x1 x4 x5 x6 x7 x8 512 512 (by decide) (by decide) _ w z (by rfl) (by omega) (by omega)
    case piece20 => exact gt_tile _ x1 x4 x5 x6 x7 x8 384 512 (by decide) (by decide) _ w z (by rfl) (by omega) (by omega)
    case piece21 => exact gt_tile _ x1 x4 x5 x6 x7 x8 256 512 (by decide) (by decide) _ w z (by rfl) (by omega) (by omega)
    case piece22 => exact gt_tile _ x1 x4 x5 x6 x7 x8 128 512 (by decide) (by decide) _ w z (by rfl) (by omega) (by omega)
    case piece23 => exact gt_tile _ x1 x4 x5 x6 x7 x8 0 512 (by decide) (by decide) _ w z (by rfl) (by omega) (by omega)
    case piece24 => exact gt_tile _ x1 x4 x5 x6 x7 x8 640 384 (by decide) (by decide) _ w z (by rfl) (by omega) (by omega)
    case piece25 => exact gt_tile _ x1 x4 x5 x6 x7 x8 512 384 (by decide) (by decide) _ w z (by rfl) (by omega) (by omega)
    case piece26 => exact gt_tile _ x1 x4 x5 x6 x7 x8 384 384 (by decide) (by decide) _ w z (by rfl) (by omega) (by omega)
    case piece27 => exact gt_tile _ x1 x4 x5 x6 x7 x8 256 384 (by decide) (by decide) _ w z (by rfl) (by omega) (by omega)
    case piece28 => exact gt_tile _ x1 x4 x5 x6 x7 x8 128 384 (by decide) (by decide) _ w z (by rfl) (by omega) (by omega)
    case piece29 => exact gt_tile _ x1 x4 x5 x6 x7 x8 0 384 (by decide) (by decide) _ w z (by rfl) (by omega) (by omega)
    case piece30 => exact gt_tile _ x1 x4 x5 x6 x7 x8 640 256 (by decide) (by decide) _ w z (by rfl) (by omega) (by omega)
    case piece31 => exact gt_tile _ x1 x4 x5 x6 x7 x8 512 256 (by decide) (by decide) _ w z (by rfl) (by omega) (by omega)
    case piece32 => exact gt_tile _ x1 x4 x5 x6 x7 x8 384 256 (by decide) (by decide) _ w z (by rfl) (by omega) (by omega)
    case piece33 => exact gt_tile _ x1 x4 x5 x6 x7 x8 256 256 (by decide) (by decide) _ w z (by rfl) (by omega) (by omega)
    case piece34 => exact gt_tile _ x1 x4 x5 x6 x7 x8 128 256 (by decide) (by decide) _ w z (by rfl) (by omega) (by omega)
    case piece35 => exact gt_tile _ x1 x4 x5 x6 x7 x8 0 256 (by decide) (by decide) _ w z (by rfl) (by omega) (by omega)
    case piece36 => exact gt_tile _ x1 x4 x5 x6 x7 x8 640 128 (by decide) (by decide) _ w z (by rfl) (by omega) (by omega)
    case piece37 => exact gt_tile _ x1 x4 x5 x6 x7 x8 512 128 (by decide) (by decide) _ w z (by rfl) (by omega) (by omega)
    case piece38 => exact gt_tile _ x1 x4 x5 x6 x7 x8 384 128 (by decide) (by decide) _ w z (by rfl) (by omega) (by omega)
    case piece39 => exact gt_tile _ x1 x4 x5 x6 x7 x8 256 128 (by decide) (by decide) _ w z (by rfl) (by omega) (by omega)
    case piece40 => exact gt_tile _ x1 x4 x5 x6 x7 x8 128 128 (by decide) (by decide) _ w z (by rfl) (by omega) (by omega)
    case piece41 => exact gt_tile _ x1 x4 x5 x6 x7 x8 0 128 (by decide) (by decide) _ w z (by rfl) (by omega) (by omega)
    case piece42 => exact gt_tile _ x1 x4 x5 x6 x7 x8 640 0 (by decide) (by decide) _ w z (by rfl) (by omega) (by omega)
    case piece43 => exact gt_tile _ x1 x4 x5 x6 x7 x8 512 0 (by decide) (by decide) _ w z (by rfl) (by omega) (by omega)
    case piece44 => exact gt_tile _ x1 x4 x5 x6 x7 x8 384 0 (by decide) (by decide) _ w z (by rfl) (by omega) (by omega)
    case piece45 => exact gt_tile _ x1 x4 x5 x6 x7 x8 256 0 (by decide) (by decide) _ w z (by rfl) (by omega) (by omega)
    case piece46 => exact gt_tile _ x1 x4 x5 x6 x7 x8 128 0 (by decide) (by decide) _ w z (by rfl) (by omega) (by omega)
    case piece47 => exact gt_tile _ x1 x4 x5 x6 x7 x8 0 0 (by decide) (by decide) _ w z (by rfl) (by omega) (by omega)
  · rw [idx_eq2 x y h0 h1]
    rfl

theorem acc_B (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : ¬cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = addf xs3 (bDX i x0 x1 x2 x4 x5 x6 x7 x8) := by
  funext y
  frame_open
  rw [View.read_writes_junk_apply_eq_canon]
  simp only [View.readAt_eq_ld, Memref.IsWhole.read_unread]
  refine (canon_store2 _ _ _ y).trans ?_
  refine (congrFun (congrArg k0_pay1 (congr (congrArg₂ k0_pay453 (ld_whole2 _ _) (canon_whole2 _ _ _ (fun z : S1024x768.Idx => bGb (BitVec.ofNat 32 (i 0).val) x1 x4 x5 x6 x7 x8 (z 1) (z 0)) ?_)) (canon_whole2 _ _ _ (fun z : S768x1024.Idx => bWq i x0 x2 (z 0) (z 1)) ?_))) y).trans ?_
  · intro z
    canon_tiles w h
    case piece0 => exact g_tile _ x1 x4 x5 x6 x7 x8 640 896 (by decide) (by decide) _ w z (by rfl) (by omega) (by omega)
    case piece1 => exact g_tile _ x1 x4 x5 x6 x7 x8 512 896 (by decide) (by decide) _ w z (by rfl) (by omega) (by omega)
    case piece2 => exact g_tile _ x1 x4 x5 x6 x7 x8 384 896 (by decide) (by decide) _ w z (by rfl) (by omega) (by omega)
    case piece3 => exact g_tile _ x1 x4 x5 x6 x7 x8 256 896 (by decide) (by decide) _ w z (by rfl) (by omega) (by omega)
    case piece4 => exact g_tile _ x1 x4 x5 x6 x7 x8 128 896 (by decide) (by decide) _ w z (by rfl) (by omega) (by omega)
    case piece5 => exact g_tile _ x1 x4 x5 x6 x7 x8 0 896 (by decide) (by decide) _ w z (by rfl) (by omega) (by omega)
    case piece6 => exact g_tile _ x1 x4 x5 x6 x7 x8 640 768 (by decide) (by decide) _ w z (by rfl) (by omega) (by omega)
    case piece7 => exact g_tile _ x1 x4 x5 x6 x7 x8 512 768 (by decide) (by decide) _ w z (by rfl) (by omega) (by omega)
    case piece8 => exact g_tile _ x1 x4 x5 x6 x7 x8 384 768 (by decide) (by decide) _ w z (by rfl) (by omega) (by omega)
    case piece9 => exact g_tile _ x1 x4 x5 x6 x7 x8 256 768 (by decide) (by decide) _ w z (by rfl) (by omega) (by omega)
    case piece10 => exact g_tile _ x1 x4 x5 x6 x7 x8 128 768 (by decide) (by decide) _ w z (by rfl) (by omega) (by omega)
    case piece11 => exact g_tile _ x1 x4 x5 x6 x7 x8 0 768 (by decide) (by decide) _ w z (by rfl) (by omega) (by omega)
    case piece12 => exact g_tile _ x1 x4 x5 x6 x7 x8 640 640 (by decide) (by decide) _ w z (by rfl) (by omega) (by omega)
    case piece13 => exact g_tile _ x1 x4 x5 x6 x7 x8 512 640 (by decide) (by decide) _ w z (by rfl) (by omega) (by omega)
    case piece14 => exact g_tile _ x1 x4 x5 x6 x7 x8 384 640 (by decide) (by decide) _ w z (by rfl) (by omega) (by omega)
    case piece15 => exact g_tile _ x1 x4 x5 x6 x7 x8 256 640 (by decide) (by decide) _ w z (by rfl) (by omega) (by omega)
    case piece16 => exact g_tile _ x1 x4 x5 x6 x7 x8 128 640 (by decide) (by decide) _ w z (by rfl) (by omega) (by omega)
    case piece17 => exact g_tile _ x1 x4 x5 x6 x7 x8 0 640 (by decide) (by decide) _ w z (by rfl) (by omega) (by omega)
    case piece18 => exact g_tile _ x1 x4 x5 x6 x7 x8 640 512 (by decide) (by decide) _ w z (by rfl) (by omega) (by omega)
    case piece19 => exact g_tile _ x1 x4 x5 x6 x7 x8 512 512 (by decide) (by decide) _ w z (by rfl) (by omega) (by omega)
    case piece20 => exact g_tile _ x1 x4 x5 x6 x7 x8 384 512 (by decide) (by decide) _ w z (by rfl) (by omega) (by omega)
    case piece21 => exact g_tile _ x1 x4 x5 x6 x7 x8 256 512 (by decide) (by decide) _ w z (by rfl) (by omega) (by omega)
    case piece22 => exact g_tile _ x1 x4 x5 x6 x7 x8 128 512 (by decide) (by decide) _ w z (by rfl) (by omega) (by omega)
    case piece23 => exact g_tile _ x1 x4 x5 x6 x7 x8 0 512 (by decide) (by decide) _ w z (by rfl) (by omega) (by omega)
    case piece24 => exact g_tile _ x1 x4 x5 x6 x7 x8 640 384 (by decide) (by decide) _ w z (by rfl) (by omega) (by omega)
    case piece25 => exact g_tile _ x1 x4 x5 x6 x7 x8 512 384 (by decide) (by decide) _ w z (by rfl) (by omega) (by omega)
    case piece26 => exact g_tile _ x1 x4 x5 x6 x7 x8 384 384 (by decide) (by decide) _ w z (by rfl) (by omega) (by omega)
    case piece27 => exact g_tile _ x1 x4 x5 x6 x7 x8 256 384 (by decide) (by decide) _ w z (by rfl) (by omega) (by omega)
    case piece28 => exact g_tile _ x1 x4 x5 x6 x7 x8 128 384 (by decide) (by decide) _ w z (by rfl) (by omega) (by omega)
    case piece29 => exact g_tile _ x1 x4 x5 x6 x7 x8 0 384 (by decide) (by decide) _ w z (by rfl) (by omega) (by omega)
    case piece30 => exact g_tile _ x1 x4 x5 x6 x7 x8 640 256 (by decide) (by decide) _ w z (by rfl) (by omega) (by omega)
    case piece31 => exact g_tile _ x1 x4 x5 x6 x7 x8 512 256 (by decide) (by decide) _ w z (by rfl) (by omega) (by omega)
    case piece32 => exact g_tile _ x1 x4 x5 x6 x7 x8 384 256 (by decide) (by decide) _ w z (by rfl) (by omega) (by omega)
    case piece33 => exact g_tile _ x1 x4 x5 x6 x7 x8 256 256 (by decide) (by decide) _ w z (by rfl) (by omega) (by omega)
    case piece34 => exact g_tile _ x1 x4 x5 x6 x7 x8 128 256 (by decide) (by decide) _ w z (by rfl) (by omega) (by omega)
    case piece35 => exact g_tile _ x1 x4 x5 x6 x7 x8 0 256 (by decide) (by decide) _ w z (by rfl) (by omega) (by omega)
    case piece36 => exact g_tile _ x1 x4 x5 x6 x7 x8 640 128 (by decide) (by decide) _ w z (by rfl) (by omega) (by omega)
    case piece37 => exact g_tile _ x1 x4 x5 x6 x7 x8 512 128 (by decide) (by decide) _ w z (by rfl) (by omega) (by omega)
    case piece38 => exact g_tile _ x1 x4 x5 x6 x7 x8 384 128 (by decide) (by decide) _ w z (by rfl) (by omega) (by omega)
    case piece39 => exact g_tile _ x1 x4 x5 x6 x7 x8 256 128 (by decide) (by decide) _ w z (by rfl) (by omega) (by omega)
    case piece40 => exact g_tile _ x1 x4 x5 x6 x7 x8 128 128 (by decide) (by decide) _ w z (by rfl) (by omega) (by omega)
    case piece41 => exact g_tile _ x1 x4 x5 x6 x7 x8 0 128 (by decide) (by decide) _ w z (by rfl) (by omega) (by omega)
    case piece42 => exact g_tile _ x1 x4 x5 x6 x7 x8 640 0 (by decide) (by decide) _ w z (by rfl) (by omega) (by omega)
    case piece43 => exact g_tile _ x1 x4 x5 x6 x7 x8 512 0 (by decide) (by decide) _ w z (by rfl) (by omega) (by omega)
    case piece44 => exact g_tile _ x1 x4 x5 x6 x7 x8 384 0 (by decide) (by decide) _ w z (by rfl) (by omega) (by omega)
    case piece45 => exact g_tile _ x1 x4 x5 x6 x7 x8 256 0 (by decide) (by decide) _ w z (by rfl) (by omega) (by omega)
    case piece46 => exact g_tile _ x1 x4 x5 x6 x7 x8 128 0 (by decide) (by decide) _ w z (by rfl) (by omega) (by omega)
    case piece47 => exact g_tile _ x1 x4 x5 x6 x7 x8 0 0 (by decide) (by decide) _ w z (by rfl) (by omega) (by omega)
  · intro z
    canon_tiles w h
    case piece0 => exact wq_tile i x0 x2 5 7 _ _ w z (by rfl) (by simpa using h0) (by simpa using h1) w0_lt w1_lt
    case piece1 => exact wq_tile i x0 x2 5 6 _ _ w z (by rfl) (by simpa using h0) (by simpa using h1) w0_lt w1_lt
    case piece2 => exact wq_tile i x0 x2 5 5 _ _ w z (by rfl) (by simpa using h0) (by simpa using h1) w0_lt w1_lt
    case piece3 => exact wq_tile i x0 x2 5 4 _ _ w z (by rfl) (by simpa using h0) (by simpa using h1) w0_lt w1_lt
    case piece4 => exact wq_tile i x0 x2 5 3 _ _ w z (by rfl) (by simpa using h0) (by simpa using h1) w0_lt w1_lt
    case piece5 => exact wq_tile i x0 x2 5 2 _ _ w z (by rfl) (by simpa using h0) (by simpa using h1) w0_lt w1_lt
    case piece6 => exact wq_tile i x0 x2 5 1 _ _ w z (by rfl) (by simpa using h0) (by simpa using h1) w0_lt w1_lt
    case piece7 => exact wq_tile i x0 x2 5 0 _ _ w z (by rfl) (by simpa using h0) (by simpa using h1) w0_lt w1_lt
    case piece8 => exact wq_tile i x0 x2 4 7 _ _ w z (by rfl) (by simpa using h0) (by simpa using h1) w0_lt w1_lt
    case piece9 => exact wq_tile i x0 x2 4 6 _ _ w z (by rfl) (by simpa using h0) (by simpa using h1) w0_lt w1_lt
    case piece10 => exact wq_tile i x0 x2 4 5 _ _ w z (by rfl) (by simpa using h0) (by simpa using h1) w0_lt w1_lt
    case piece11 => exact wq_tile i x0 x2 4 4 _ _ w z (by rfl) (by simpa using h0) (by simpa using h1) w0_lt w1_lt
    case piece12 => exact wq_tile i x0 x2 4 3 _ _ w z (by rfl) (by simpa using h0) (by simpa using h1) w0_lt w1_lt
    case piece13 => exact wq_tile i x0 x2 4 2 _ _ w z (by rfl) (by simpa using h0) (by simpa using h1) w0_lt w1_lt
    case piece14 => exact wq_tile i x0 x2 4 1 _ _ w z (by rfl) (by simpa using h0) (by simpa using h1) w0_lt w1_lt
    case piece15 => exact wq_tile i x0 x2 4 0 _ _ w z (by rfl) (by simpa using h0) (by simpa using h1) w0_lt w1_lt
    case piece16 => exact wq_tile i x0 x2 3 7 _ _ w z (by rfl) (by simpa using h0) (by simpa using h1) w0_lt w1_lt
    case piece17 => exact wq_tile i x0 x2 3 6 _ _ w z (by rfl) (by simpa using h0) (by simpa using h1) w0_lt w1_lt
    case piece18 => exact wq_tile i x0 x2 3 5 _ _ w z (by rfl) (by simpa using h0) (by simpa using h1) w0_lt w1_lt
    case piece19 => exact wq_tile i x0 x2 3 4 _ _ w z (by rfl) (by simpa using h0) (by simpa using h1) w0_lt w1_lt
    case piece20 => exact wq_tile i x0 x2 3 3 _ _ w z (by rfl) (by simpa using h0) (by simpa using h1) w0_lt w1_lt
    case piece21 => exact wq_tile i x0 x2 3 2 _ _ w z (by rfl) (by simpa using h0) (by simpa using h1) w0_lt w1_lt
    case piece22 => exact wq_tile i x0 x2 3 1 _ _ w z (by rfl) (by simpa using h0) (by simpa using h1) w0_lt w1_lt
    case piece23 => exact wq_tile i x0 x2 3 0 _ _ w z (by rfl) (by simpa using h0) (by simpa using h1) w0_lt w1_lt
    case piece24 => exact wq_tile i x0 x2 2 7 _ _ w z (by rfl) (by simpa using h0) (by simpa using h1) w0_lt w1_lt
    case piece25 => exact wq_tile i x0 x2 2 6 _ _ w z (by rfl) (by simpa using h0) (by simpa using h1) w0_lt w1_lt
    case piece26 => exact wq_tile i x0 x2 2 5 _ _ w z (by rfl) (by simpa using h0) (by simpa using h1) w0_lt w1_lt
    case piece27 => exact wq_tile i x0 x2 2 4 _ _ w z (by rfl) (by simpa using h0) (by simpa using h1) w0_lt w1_lt
    case piece28 => exact wq_tile i x0 x2 2 3 _ _ w z (by rfl) (by simpa using h0) (by simpa using h1) w0_lt w1_lt
    case piece29 => exact wq_tile i x0 x2 2 2 _ _ w z (by rfl) (by simpa using h0) (by simpa using h1) w0_lt w1_lt
    case piece30 => exact wq_tile i x0 x2 2 1 _ _ w z (by rfl) (by simpa using h0) (by simpa using h1) w0_lt w1_lt
    case piece31 => exact wq_tile i x0 x2 2 0 _ _ w z (by rfl) (by simpa using h0) (by simpa using h1) w0_lt w1_lt
    case piece32 => exact wq_tile i x0 x2 1 7 _ _ w z (by rfl) (by simpa using h0) (by simpa using h1) w0_lt w1_lt
    case piece33 => exact wq_tile i x0 x2 1 6 _ _ w z (by rfl) (by simpa using h0) (by simpa using h1) w0_lt w1_lt
    case piece34 => exact wq_tile i x0 x2 1 5 _ _ w z (by rfl) (by simpa using h0) (by simpa using h1) w0_lt w1_lt
    case piece35 => exact wq_tile i x0 x2 1 4 _ _ w z (by rfl) (by simpa using h0) (by simpa using h1) w0_lt w1_lt
    case piece36 => exact wq_tile i x0 x2 1 3 _ _ w z (by rfl) (by simpa using h0) (by simpa using h1) w0_lt w1_lt
    case piece37 => exact wq_tile i x0 x2 1 2 _ _ w z (by rfl) (by simpa using h0) (by simpa using h1) w0_lt w1_lt
    case piece38 => exact wq_tile i x0 x2 1 1 _ _ w z (by rfl) (by simpa using h0) (by simpa using h1) w0_lt w1_lt
    case piece39 => exact wq_tile i x0 x2 1 0 _ _ w z (by rfl) (by simpa using h0) (by simpa using h1) w0_lt w1_lt
    case piece40 => exact wq_tile i x0 x2 0 7 _ _ w z (by rfl) (by simpa using h0) (by simpa using h1) w0_lt w1_lt
    case piece41 => exact wq_tile i x0 x2 0 6 _ _ w z (by rfl) (by simpa using h0) (by simpa using h1) w0_lt w1_lt
    case piece42 => exact wq_tile i x0 x2 0 5 _ _ w z (by rfl) (by simpa using h0) (by simpa using h1) w0_lt w1_lt
    case piece43 => exact wq_tile i x0 x2 0 4 _ _ w z (by rfl) (by simpa using h0) (by simpa using h1) w0_lt w1_lt
    case piece44 => exact wq_tile i x0 x2 0 3 _ _ w z (by rfl) (by simpa using h0) (by simpa using h1) w0_lt w1_lt
    case piece45 => exact wq_tile i x0 x2 0 2 _ _ w z (by rfl) (by simpa using h0) (by simpa using h1) w0_lt w1_lt
    case piece46 => exact wq_tile i x0 x2 0 1 _ _ w z (by rfl) (by simpa using h0) (by simpa using h1) w0_lt w1_lt
    case piece47 => exact wq_tile i x0 x2 0 0 _ _ w z (by rfl) (by simpa using h0) (by simpa using h1) w0_lt w1_lt
  · unfold k0_pay1
    rw [shapeCast_self]
    rfl

end Cert.KernelIdeal.Blk
-- ==== Proof.CaseC.lean ====
module
public import proofs.«01_k».proof.Proof.Gen.KernelIdeal.Frame
public import proofs.«01_k».proof.Proof.Chain
@[expose] public section
set_option maxRecDepth 16384
set_option maxHeartbeats 4000000
noncomputable section

/-! What the body leaves in its output blocks and in the carried accumulator, at the last grid point. -/

namespace Cert.KernelIdeal.Blk
open Cert.KernelIdeal Cert.KernelIdeal.Gen Idealize.ShloMosaic Idealize.ShloMosaic.TcCoe
variable {F : FTy → Type} [FloatOps F]
theorem codes_C (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = fun y : S1024x768.Idx => FloatOps.truncf .fp8e5m2 bitsLt_fp8e5m2_bf16 (bCb (BitVec.ofNat 32 (i 0).val) x1 x4 x5 x6 x7 x8 (y 1) (y 0)) := by
  funext y
  frame_open
  rw [View.read_writes_junk_apply_eq_canon]
  simp only [View.readAt_eq_ld, Memref.IsWhole.read_unread]
  canon_tiles x h
  case piece0 => exact code_tile _ x1 x4 x5 x6 x7 x8 640 896 (by decide) (by decide) _ x y (by rfl) (by omega) (by omega)
  case piece1 => exact code_tile _ x1 x4 x5 x6 x7 x8 512 896 (by decide) (by decide) _ x y (by rfl) (by omega) (by omega)
  case piece2 => exact code_tile _ x1 x4 x5 x6 x7 x8 384 896 (by decide) (by decide) _ x y (by rfl) (by omega) (by omega)
  case piece3 => exact code_tile _ x1 x4 x5 x6 x7 x8 256 896 (by decide) (by decide) _ x y (by rfl) (by omega) (by omega)
  case piece4 => exact code_tile _ x1 x4 x5 x6 x7 x8 128 896 (by decide) (by decide) _ x y (by rfl) (by omega) (by omega)
  case piece5 => exact code_tile _ x1 x4 x5 x6 x7 x8 0 896 (by decide) (by decide) _ x y (by rfl) (by omega) (by omega)
  case piece6 => exact code_tile _ x1 x4 x5 x6 x7 x8 640 768 (by decide) (by decide) _ x y (by rfl) (by omega) (by omega)
  case piece7 => exact code_tile _ x1 x4 x5 x6 x7 x8 512 768 (by decide) (by decide) _ x y (by rfl) (by omega) (by omega)
  case piece8 => exact code_tile _ x1 x4 x5 x6 x7 x8 384 768 (by decide) (by decide) _ x y (by rfl) (by omega) (by omega)
  case piece9 => exact code_tile _ x1 x4 x5 x6 x7 x8 256 768 (by decide) (by decide) _ x y (by rfl) (by omega) (by omega)
  case piece10 => exact code_tile _ x1 x4 x5 x6 x7 x8 128 768 (by decide) (by decide) _ x y (by rfl) (by omega) (by omega)
  case piece11 => exact code_tile _ x1 x4 x5 x6 x7 x8 0 768 (by decide) (by decide) _ x y (by rfl) (by omega) (by omega)
  case piece12 => exact code_tile _ x1 x4 x5 x6 x7 x8 640 640 (by decide) (by decide) _ x y (by rfl) (by omega) (by omega)
  case piece13 => exact code_tile _ x1 x4 x5 x6 x7 x8 512 640 (by decide) (by decide) _ x y (by rfl) (by omega) (by omega)
  case piece14 => exact code_tile _ x1 x4 x5 x6 x7 x8 384 640 (by decide) (by decide) _ x y (by rfl) (by omega) (by omega)
  case piece15 => exact code_tile _ x1 x4 x5 x6 x7 x8 256 640 (by decide) (by decide) _ x y (by rfl) (by omega) (by omega)
  case piece16 => exact code_tile _ x1 x4 x5 x6 x7 x8 128 640 (by decide) (by decide) _ x y (by rfl) (by omega) (by omega)
  case piece17 => exact code_tile _ x1 x4 x5 x6 x7 x8 0 640 (by decide) (by decide) _ x y (by rfl) (by omega) (by omega)
  case piece18 => exact code_tile _ x1 x4 x5 x6 x7 x8 640 512 (by decide) (by decide) _ x y (by rfl) (by omega) (by omega)
  case piece19 => exact code_tile _ x1 x4 x5 x6 x7 x8 512 512 (by decide) (by decide) _ x y (by rfl) (by omega) (by omega)
  case piece20 => exact code_tile _ x1 x4 x5 x6 x7 x8 384 512 (by decide) (by decide) _ x y (by rfl) (by omega) (by omega)
  case piece21 => exact code_tile _ x1 x4 x5 x6 x7 x8 256 512 (by decide) (by decide) _ x y (by rfl) (by omega) (by omega)
  case piece22 => exact code_tile _ x1 x4 x5 x6 x7 x8 128 512 (by decide) (by decide) _ x y (by rfl) (by omega) (by omega)
  case piece23 => exact code_tile _ x1 x4 x5 x6 x7 x8 0 512 (by decide) (by decide) _ x y (by rfl) (by omega) (by omega)
  case piece24 => exact code_tile _ x1 x4 x5 x6 x7 x8 640 384 (by decide) (by decide) _ x y (by rfl) (by omega) (by omega)
  case piece25 => exact code_tile _ x1 x4 x5 x6 x7 x8 512 384 (by decide) (by decide) _ x y (by rfl) (by omega) (by omega)
  case piece26 => exact code_tile _ x1 x4 x5 x6 x7 x8 384 384 (by decide) (by decide) _ x y (by rfl) (by omega) (by omega)
  case piece27 => exact code_tile _ x1 x4 x5 x6 x7 x8 256 384 (by decide) (by decide) _ x y (by rfl) (by omega) (by omega)
  case piece28 => exact code_tile _ x1 x4 x5 x6 x7 x8 128 384 (by decide) (by decide) _ x y (by rfl) (by omega) (by omega)
  case piece29 => exact code_tile _ x1 x4 x5 x6 x7 x8 0 384 (by decide) (by decide) _ x y (by rfl) (by omega) (by omega)
  case piece30 => exact code_tile _ x1 x4 x5 x6 x7 x8 640 256 (by decide) (by decide) _ x y (by rfl) (by omega) (by omega)
  case piece31 => exact code_tile _ x1 x4 x5 x6 x7 x8 512 256 (by decide) (by decide) _ x y (by rfl) (by omega) (by omega)
  case piece32 => exact code_tile _ x1 x4 x5 x6 x7 x8 384 256 (by decide) (by decide) _ x y (by rfl) (by omega) (by omega)
  case piece33 => exact code_tile _ x1 x4 x5 x6 x7 x8 256 256 (by decide) (by decide) _ x y (by rfl) (by omega) (by omega)
  case piece34 => exact code_tile _ x1 x4 x5 x6 x7 x8 128 256 (by decide) (by decide) _ x y (by rfl) (by omega) (by omega)
  case piece35 => exact code_tile _ x1 x4 x5 x6 x7 x8 0 256 (by decide) (by decide) _ x y (by rfl) (by omega) (by omega)
  case piece36 => exact code_tile _ x1 x4 x5 x6 x7 x8 640 128 (by decide) (by decide) _ x y (by rfl) (by omega) (by omega)
  case piece37 => exact code_tile _ x1 x4 x5 x6 x7 x8 512 128 (by decide) (by decide) _ x y (by rfl) (by omega) (by omega)
  case piece38 => exact code_tile _ x1 x4 x5 x6 x7 x8 384 128 (by decide) (by decide) _ x y (by rfl) (by omega) (by omega)
  case piece39 => exact code_tile _ x1 x4 x5 x6 x7 x8 256 128 (by decide) (by decide) _ x y (by rfl) (by omega) (by omega)
  case piece40 => exact code_tile _ x1 x4 x5 x6 x7 x8 128 128 (by decide) (by decide) _ x y (by rfl) (by omega) (by omega)
  case piece41 => exact code_tile _ x1 x4 x5 x6 x7 x8 0 128 (by decide) (by decide) _ x y (by rfl) (by omega) (by omega)
  case piece42 => exact code_tile _ x1 x4 x5 x6 x7 x8 640 0 (by decide) (by decide) _ x y (by rfl) (by omega) (by omega)
  case piece43 => exact code_tile _ x1 x4 x5 x6 x7 x8 512 0 (by decide) (by decide) _ x y (by rfl) (by omega) (by omega)
  case piece44 => exact code_tile _ x1 x4 x5 x6 x7 x8 384 0 (by decide) (by decide) _ x y (by rfl) (by omega) (by omega)
  case piece45 => exact code_tile _ x1 x4 x5 x6 x7 x8 256 0 (by decide) (by decide) _ x y (by rfl) (by omega) (by omega)
  case piece46 => exact code_tile _ x1 x4 x5 x6 x7 x8 128 0 (by decide) (by decide) _ x y (by rfl) (by omega) (by omega)
  case piece47 => exact code_tile _ x1 x4 x5 x6 x7 x8 0 0 (by decide) (by decide) _ x y (by rfl) (by omega) (by omega)

theorem scale_C (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = fun y : S1x1x1024.Idx => bScale (BitVec.ofNat 32 (i 0).val) x4 x5 x6 x7 x8 (y 2) := by
  funext y
  frame_open
  rw [View.read_writes_junk_apply_eq_canon]
  simp only [View.readAt_eq_ld, Memref.IsWhole.read_unread]
  canon_tiles x h
  case piece0 => exact scale_tile _ x4 x5 x6 x7 x8 896 (by decide) _ x y (by rfl) (by omega)
  case piece1 => exact scale_tile _ x4 x5 x6 x7 x8 768 (by decide) _ x y (by rfl) (by omega)
  case piece2 => exact scale_tile _ x4 x5 x6 x7 x8 640 (by decide) _ x y (by rfl) (by omega)
  case piece3 => exact scale_tile _ x4 x5 x6 x7 x8 512 (by decide) _ x y (by rfl) (by omega)
  case piece4 => exact scale_tile _ x4 x5 x6 x7 x8 384 (by decide) _ x y (by rfl) (by omega)
  case piece5 => exact scale_tile _ x4 x5 x6 x7 x8 256 (by decide) _ x y (by rfl) (by omega)
  case piece6 => exact scale_tile _ x4 x5 x6 x7 x8 128 (by decide) _ x y (by rfl) (by omega)
  case piece7 => exact scale_tile _ x4 x5 x6 x7 x8 0 (by decide) _ x y (by rfl) (by omega)

theorem dw_C (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = bDW (BitVec.ofNat 32 (i 0).val) x1 x3 x4 x5 x6 x7 x8 := by
  funext y
  frame_open
  rw [View.read_writes_junk_apply_eq_canon]
  simp only [View.readAt_eq_ld, Memref.IsWhole.read_unread]
  canon_tiles x h
  refine (congrFun (congrArg₂ k0_pay452 (canon_whole2 _ _ _ (fun z : S768x1024.Idx => bGb (BitVec.ofNat 32 (i 0).val) x1 x4 x5 x6 x7 x8 (z 0) (z 1)) ?_) (ld_whole2 _ _)) x).trans ?_
  · intro z
    canon_tiles w h
    case piece0 => exact gt_tile _ x1 x4 x5 x6 x7 x8 640 896 (by decide) (by decide) _ w z (by rfl) (by omega) (by omega)
    case piece1 => exact gt_tile _ x1 x4 x5 x6 x7 x8 512 896 (by decide) (by decide) _ w z (by rfl) (by omega) (by omega)
    case piece2 => exact gt_tile _ x1 x4 x5 x6 x7 x8 384 896 (by decide) (by decide) _ w z (by rfl) (by omega) (by omega)
    case piece3 => exact gt_tile _ x1 x4 x5 x6 x7 x8 256 896 (by decide) (by decide) _ w z (by rfl) (by omega) (by omega)
    case piece4 => exact gt_tile _ x1 x4 x5 x6 x7 x8 128 896 (by decide) (by decide) _ w z (by rfl) (by omega) (by omega)
    case piece5 => exact gt_tile _ x1 x4 x5 x6 x7 x8 0 896 (by decide) (by decide) _ w z (by rfl) (by omega) (by omega)
    case piece6 => exact gt_tile _ x1 x4 x5 x6 x7 x8 640 768 (by decide) (by decide) _ w z (by rfl) (by omega) (by omega)
    case piece7 => exact gt_tile _ x1 x4 x5 x6 x7 x8 512 768 (by decide) (by decide) _ w z (by rfl) (by omega) (by omega)
    case piece8 => exact gt_tile _ x1 x4 x5 x6 x7 x8 384 768 (by decide) (by decide) _ w z (by rfl) (by omega) (by omega)
    case piece9 => exact gt_tile _ x1 x4 x5 x6 x7 x8 256 768 (by decide) (by decide) _ w z (by rfl) (by omega) (by omega)
    case piece10 => exact gt_tile _ x1 x4 x5 x6 x7 x8 128 768 (by decide) (by decide) _ w z (by rfl) (by omega) (by omega)
    case piece11 => exact gt_tile _ x1 x4 x5 x6 x7 x8 0 768 (by decide) (by decide) _ w z (by rfl) (by omega) (by omega)
    case piece12 => exact gt_tile _ x1 x4 x5 x6 x7 x8 640 640 (by decide) (by decide) _ w z (by rfl) (by omega) (by omega)
    case piece13 => exact gt_tile _ x1 x4 x5 x6 x7 x8 512 640 (by decide) (by decide) _ w z (by rfl) (by omega) (by omega)
    case piece14 => exact gt_tile _ x1 x4 x5 x6 x7 x8 384 640 (by decide) (by decide) _ w z (by rfl) (by omega) (by omega)
    case piece15 => exact gt_tile _ x1 x4 x5 x6 x7 x8 256 640 (by decide) (by decide) _ w z (by rfl) (by omega) (by omega)
    case piece16 => exact gt_tile _ x1 x4 x5 x6 x7 x8 128 640 (by decide) (by decide) _ w z (by rfl) (by omega) (by omega)
    case piece17 => exact gt_tile _ x1 x4 x5 x6 x7 x8 0 640 (by decide) (by decide) _ w z (by rfl) (by omega) (by omega)
    case piece18 => exact gt_tile _ x1 x4 x5 x6 x7 x8 640 512 (by decide) (by decide) _ w z (by rfl) (by omega) (by omega)
    case piece19 => exact gt_tile _ x1 x4 x5 x6 x7 x8 512 512 (by decide) (by decide) _ w z (by rfl) (by omega) (by omega)
    case piece20 => exact gt_tile _ x1 x4 x5 x6 x7 x8 384 512 (by decide) (by decide) _ w z (by rfl) (by omega) (by omega)
    case piece21 => exact gt_tile _ x1 x4 x5 x6 x7 x8 256 512 (by decide) (by decide) _ w z (by rfl) (by omega) (by omega)
    case piece22 => exact gt_tile _ x1 x4 x5 x6 x7 x8 128 512 (by decide) (by decide) _ w z (by rfl) (by omega) (by omega)
    case piece23 => exact gt_tile _ x1 x4 x5 x6 x7 x8 0 512 (by decide) (by decide) _ w z (by rfl) (by omega) (by omega)
    case piece24 => exact gt_tile _ x1 x4 x5 x6 x7 x8 640 384 (by decide) (by decide) _ w z (by rfl) (by omega) (by omega)
    case piece25 => exact gt_tile _ x1 x4 x5 x6 x7 x8 512 384 (by decide) (by decide) _ w z (by rfl) (by omega) (by omega)
    case piece26 => exact gt_tile _ x1 x4 x5 x6 x7 x8 384 384 (by decide) (by decide) _ w z (by rfl) (by omega) (by omega)
    case piece27 => exact gt_tile _ x1 x4 x5 x6 x7 x8 256 384 (by decide) (by decide) _ w z (by rfl) (by omega) (by omega)
    case piece28 => exact gt_tile _ x1 x4 x5 x6 x7 x8 128 384 (by decide) (by decide) _ w z (by rfl) (by omega) (by omega)
    case piece29 => exact gt_tile _ x1 x4 x5 x6 x7 x8 0 384 (by decide) (by decide) _ w z (by rfl) (by omega) (by omega)
    case piece30 => exact gt_tile _ x1 x4 x5 x6 x7 x8 640 256 (by decide) (by decide) _ w z (by rfl) (by omega) (by omega)
    case piece31 => exact gt_tile _ x1 x4 x5 x6 x7 x8 512 256 (by decide) (by decide) _ w z (by rfl) (by omega) (by omega)
    case piece32 => exact gt_tile _ x1 x4 x5 x6 x7 x8 384 256 (by decide) (by decide) _ w z (by rfl) (by omega) (by omega)
    case piece33 => exact gt_tile _ x1 x4 x5 x6 x7 x8 256 256 (by decide) (by decide) _ w z (by rfl) (by omega) (by omega)
    case piece34 => exact gt_tile _ x1 x4 x5 x6 x7 x8 128 256 (by decide) (by decide) _ w z (by rfl) (by omega) (by omega)
    case piece35 => exact gt_tile _ x1 x4 x5 x6 x7 x8 0 256 (by decide) (by decide) _ w z (by rfl) (by omega) (by omega)
    case piece36 => exact gt_tile _ x1 x4 x5 x6 x7 x8 640 128 (by decide) (by decide) _ w z (by rfl) (by omega) (by omega)
    case piece37 => exact gt_tile _ x1 x4 x5 x6 x7 x8 512 128 (by decide) (by decide) _ w z (by rfl) (by omega) (by omega)
    case piece38 => exact gt_tile _ x1 x4 x5 x6 x7 x8 384 128 (by decide) (by decide) _ w z (by rfl) (by omega) (by omega)
    case piece39 => exact gt_tile _ x1 x4 x5 x6 x7 x8 256 128 (by decide) (by decide) _ w z (by rfl) (by omega) (by omega)
    case piece40 => exact gt_tile _ x1 x4 x5 x6 x7 x8 128 128 (by decide) (by decide) _ w z (by rfl) (by omega) (by omega)
    case piece41 => exact gt_tile _ x1 x4 x5 x6 x7 x8 0 128 (by decide) (by decide) _ w z (by rfl) (by omega) (by omega)
    case piece42 => exact gt_tile _ x1 x4 x5 x6 x7 x8 640 0 (by decide) (by decide) _ w z (by rfl) (by omega) (by omega)
    case piece43 => exact gt_tile _ x1 x4 x5 x6 x7 x8 512 0 (by decide) (by decide) _ w z (by rfl) (by omega) (by omega)
    case piece44 => exact gt_tile _ x1 x4 x5 x6 x7 x8 384 0 (by decide) (by decide) _ w z (by rfl) (by omega) (by omega)
    case piece45 => exact gt_tile _ x1 x4 x5 x6 x7 x8 256 0 (by decide) (by decide) _ w z (by rfl) (by omega) (by omega)
    case piece46 => exact gt_tile _ x1 x4 x5 x6 x7 x8 128 0 (by decide) (by decide) _ w z (by rfl) (by omega) (by omega)
    case piece47 => exact gt_tile _ x1 x4 x5 x6 x7 x8 0 0 (by decide) (by decide) _ w z (by rfl) (by omega) (by omega)
  · rw [idx_eq2 x y h0 h1]
    rfl

theorem acc_C (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = addf xs3 (bDX i x0 x1 x2 x4 x5 x6 x7 x8) := by
  funext y
  frame_open
  rw [View.read_writes_junk_apply_eq_canon]
  simp only [View.readAt_eq_ld, Memref.IsWhole.read_unread]
  refine (canon_store2 _ _ _ y).trans ?_
  refine (congrFun (congrArg k0_pay1 (congr (congrArg₂ k0_pay453 (ld_whole2 _ _) (canon_whole2 _ _ _ (fun z : S1024x768.Idx => bGb (BitVec.ofNat 32 (i 0).val) x1 x4 x5 x6 x7 x8 (z 1) (z 0)) ?_)) (canon_whole2 _ _ _ (fun z : S768x1024.Idx => bWq i x0 x2 (z 0) (z 1)) ?_))) y).trans ?_
  · intro z
    canon_tiles w h
    case piece0 => exact g_tile _ x1 x4 x5 x6 x7 x8 640 896 (by decide) (by decide) _ w z (by rfl) (by omega) (by omega)
    case piece1 => exact g_tile _ x1 x4 x5 x6 x7 x8 512 896 (by decide) (by decide) _ w z (by rfl) (by omega) (by omega)
    case piece2 => exact g_tile _ x1 x4 x5 x6 x7 x8 384 896 (by decide) (by decide) _ w z (by rfl) (by omega) (by omega)
    case piece3 => exact g_tile _ x1 x4 x5 x6 x7 x8 256 896 (by decide) (by decide) _ w z (by rfl) (by omega) (by omega)
    case piece4 => exact g_tile _ x1 x4 x5 x6 x7 x8 128 896 (by decide) (by decide) _ w z (by rfl) (by omega) (by omega)
    case piece5 => exact g_tile _ x1 x4 x5 x6 x7 x8 0 896 (by decide) (by decide) _ w z (by rfl) (by omega) (by omega)
    case piece6 => exact g_tile _ x1 x4 x5 x6 x7 x8 640 768 (by decide) (by decide) _ w z (by rfl) (by omega) (by omega)
    case piece7 => exact g_tile _ x1 x4 x5 x6 x7 x8 512 768 (by decide) (by decide) _ w z (by rfl) (by omega) (by omega)
    case piece8 => exact g_tile _ x1 x4 x5 x6 x7 x8 384 768 (by decide) (by decide) _ w z (by rfl) (by omega) (by omega)
    case piece9 => exact g_tile _ x1 x4 x5 x6 x7 x8 256 768 (by decide) (by decide) _ w z (by rfl) (by omega) (by omega)
    case piece10 => exact g_tile _ x1 x4 x5 x6 x7 x8 128 768 (by decide) (by decide) _ w z (by rfl) (by omega) (by omega)
    case piece11 => exact g_tile _ x1 x4 x5 x6 x7 x8 0 768 (by decide) (by decide) _ w z (by rfl) (by omega) (by omega)
    case piece12 => exact g_tile _ x1 x4 x5 x6 x7 x8 640 640 (by decide) (by decide) _ w z (by rfl) (by omega) (by omega)
    case piece13 => exact g_tile _ x1 x4 x5 x6 x7 x8 512 640 (by decide) (by decide) _ w z (by rfl) (by omega) (by omega)
    case piece14 => exact g_tile _ x1 x4 x5 x6 x7 x8 384 640 (by decide) (by decide) _ w z (by rfl) (by omega) (by omega)
    case piece15 => exact g_tile _ x1 x4 x5 x6 x7 x8 256 640 (by decide) (by decide) _ w z (by rfl) (by omega) (by omega)
    case piece16 => exact g_tile _ x1 x4 x5 x6 x7 x8 128 640 (by decide) (by decide) _ w z (by rfl) (by omega) (by omega)
    case piece17 => exact g_tile _ x1 x4 x5 x6 x7 x8 0 640 (by decide) (by decide) _ w z (by rfl) (by omega) (by omega)
    case piece18 => exact g_tile _ x1 x4 x5 x6 x7 x8 640 512 (by decide) (by decide) _ w z (by rfl) (by omega) (by omega)
    case piece19 => exact g_tile _ x1 x4 x5 x6 x7 x8 512 512 (by decide) (by decide) _ w z (by rfl) (by omega) (by omega)
    case piece20 => exact g_tile _ x1 x4 x5 x6 x7 x8 384 512 (by decide) (by decide) _ w z (by rfl) (by omega) (by omega)
    case piece21 => exact g_tile _ x1 x4 x5 x6 x7 x8 256 512 (by decide) (by decide) _ w z (by rfl) (by omega) (by omega)
    case piece22 => exact g_tile _ x1 x4 x5 x6 x7 x8 128 512 (by decide) (by decide) _ w z (by rfl) (by omega) (by omega)
    case piece23 => exact g_tile _ x1 x4 x5 x6 x7 x8 0 512 (by decide) (by decide) _ w z (by rfl) (by omega) (by omega)
    case piece24 => exact g_tile _ x1 x4 x5 x6 x7 x8 640 384 (by decide) (by decide) _ w z (by rfl) (by omega) (by omega)
    case piece25 => exact g_tile _ x1 x4 x5 x6 x7 x8 512 384 (by decide) (by decide) _ w z (by rfl) (by omega) (by omega)
    case piece26 => exact g_tile _ x1 x4 x5 x6 x7 x8 384 384 (by decide) (by decide) _ w z (by rfl) (by omega) (by omega)
    case piece27 => exact g_tile _ x1 x4 x5 x6 x7 x8 256 384 (by decide) (by decide) _ w z (by rfl) (by omega) (by omega)
    case piece28 => exact g_tile _ x1 x4 x5 x6 x7 x8 128 384 (by decide) (by decide) _ w z (by rfl) (by omega) (by omega)
    case piece29 => exact g_tile _ x1 x4 x5 x6 x7 x8 0 384 (by decide) (by decide) _ w z (by rfl) (by omega) (by omega)
    case piece30 => exact g_tile _ x1 x4 x5 x6 x7 x8 640 256 (by decide) (by decide) _ w z (by rfl) (by omega) (by omega)
    case piece31 => exact g_tile _ x1 x4 x5 x6 x7 x8 512 256 (by decide) (by decide) _ w z (by rfl) (by omega) (by omega)
    case piece32 => exact g_tile _ x1 x4 x5 x6 x7 x8 384 256 (by decide) (by decide) _ w z (by rfl) (by omega) (by omega)
    case piece33 => exact g_tile _ x1 x4 x5 x6 x7 x8 256 256 (by decide) (by decide) _ w z (by rfl) (by omega) (by omega)
    case piece34 => exact g_tile _ x1 x4 x5 x6 x7 x8 128 256 (by decide) (by decide) _ w z (by rfl) (by omega) (by omega)
    case piece35 => exact g_tile _ x1 x4 x5 x6 x7 x8 0 256 (by decide) (by decide) _ w z (by rfl) (by omega) (by omega)
    case piece36 => exact g_tile _ x1 x4 x5 x6 x7 x8 640 128 (by decide) (by decide) _ w z (by rfl) (by omega) (by omega)
    case piece37 => exact g_tile _ x1 x4 x5 x6 x7 x8 512 128 (by decide) (by decide) _ w z (by rfl) (by omega) (by omega)
    case piece38 => exact g_tile _ x1 x4 x5 x6 x7 x8 384 128 (by decide) (by decide) _ w z (by rfl) (by omega) (by omega)
    case piece39 => exact g_tile _ x1 x4 x5 x6 x7 x8 256 128 (by decide) (by decide) _ w z (by rfl) (by omega) (by omega)
    case piece40 => exact g_tile _ x1 x4 x5 x6 x7 x8 128 128 (by decide) (by decide) _ w z (by rfl) (by omega) (by omega)
    case piece41 => exact g_tile _ x1 x4 x5 x6 x7 x8 0 128 (by decide) (by decide) _ w z (by rfl) (by omega) (by omega)
    case piece42 => exact g_tile _ x1 x4 x5 x6 x7 x8 640 0 (by decide) (by decide) _ w z (by rfl) (by omega) (by omega)
    case piece43 => exact g_tile _ x1 x4 x5 x6 x7 x8 512 0 (by decide) (by decide) _ w z (by rfl) (by omega) (by omega)
    case piece44 => exact g_tile _ x1 x4 x5 x6 x7 x8 384 0 (by decide) (by decide) _ w z (by rfl) (by omega) (by omega)
    case piece45 => exact g_tile _ x1 x4 x5 x6 x7 x8 256 0 (by decide) (by decide) _ w z (by rfl) (by omega) (by omega)
    case piece46 => exact g_tile _ x1 x4 x5 x6 x7 x8 128 0 (by decide) (by decide) _ w z (by rfl) (by omega) (by omega)
    case piece47 => exact g_tile _ x1 x4 x5 x6 x7 x8 0 0 (by decide) (by decide) _ w z (by rfl) (by omega) (by omega)
  · intro z
    canon_tiles w h
    case piece0 => exact wq_tile i x0 x2 5 7 _ _ w z (by rfl) (by simpa using h0) (by simpa using h1) w0_lt w1_lt
    case piece1 => exact wq_tile i x0 x2 5 6 _ _ w z (by rfl) (by simpa using h0) (by simpa using h1) w0_lt w1_lt
    case piece2 => exact wq_tile i x0 x2 5 5 _ _ w z (by rfl) (by simpa using h0) (by simpa using h1) w0_lt w1_lt
    case piece3 => exact wq_tile i x0 x2 5 4 _ _ w z (by rfl) (by simpa using h0) (by simpa using h1) w0_lt w1_lt
    case piece4 => exact wq_tile i x0 x2 5 3 _ _ w z (by rfl) (by simpa using h0) (by simpa using h1) w0_lt w1_lt
    case piece5 => exact wq_tile i x0 x2 5 2 _ _ w z (by rfl) (by simpa using h0) (by simpa using h1) w0_lt w1_lt
    case piece6 => exact wq_tile i x0 x2 5 1 _ _ w z (by rfl) (by simpa using h0) (by simpa using h1) w0_lt w1_lt
    case piece7 => exact wq_tile i x0 x2 5 0 _ _ w z (by rfl) (by simpa using h0) (by simpa using h1) w0_lt w1_lt
    case piece8 => exact wq_tile i x0 x2 4 7 _ _ w z (by rfl) (by simpa using h0) (by simpa using h1) w0_lt w1_lt
    case piece9 => exact wq_tile i x0 x2 4 6 _ _ w z (by rfl) (by simpa using h0) (by simpa using h1) w0_lt w1_lt
    case piece10 => exact wq_tile i x0 x2 4 5 _ _ w z (by rfl) (by simpa using h0) (by simpa using h1) w0_lt w1_lt
    case piece11 => exact wq_tile i x0 x2 4 4 _ _ w z (by rfl) (by simpa using h0) (by simpa using h1) w0_lt w1_lt
    case piece12 => exact wq_tile i x0 x2 4 3 _ _ w z (by rfl) (by simpa using h0) (by simpa using h1) w0_lt w1_lt
    case piece13 => exact wq_tile i x0 x2 4 2 _ _ w z (by rfl) (by simpa using h0) (by simpa using h1) w0_lt w1_lt
    case piece14 => exact wq_tile i x0 x2 4 1 _ _ w z (by rfl) (by simpa using h0) (by simpa using h1) w0_lt w1_lt
    case piece15 => exact wq_tile i x0 x2 4 0 _ _ w z (by rfl) (by simpa using h0) (by simpa using h1) w0_lt w1_lt
    case piece16 => exact wq_tile i x0 x2 3 7 _ _ w z (by rfl) (by simpa using h0) (by simpa using h1) w0_lt w1_lt
    case piece17 => exact wq_tile i x0 x2 3 6 _ _ w z (by rfl) (by simpa using h0) (by simpa using h1) w0_lt w1_lt
    case piece18 => exact wq_tile i x0 x2 3 5 _ _ w z (by rfl) (by simpa using h0) (by simpa using h1) w0_lt w1_lt
    case piece19 => exact wq_tile i x0 x2 3 4 _ _ w z (by rfl) (by simpa using h0) (by simpa using h1) w0_lt w1_lt
    case piece20 => exact wq_tile i x0 x2 3 3 _ _ w z (by rfl) (by simpa using h0) (by simpa using h1) w0_lt w1_lt
    case piece21 => exact wq_tile i x0 x2 3 2 _ _ w z (by rfl) (by simpa using h0) (by simpa using h1) w0_lt w1_lt
    case piece22 => exact wq_tile i x0 x2 3 1 _ _ w z (by rfl) (by simpa using h0) (by simpa using h1) w0_lt w1_lt
    case piece23 => exact wq_tile i x0 x2 3 0 _ _ w z (by rfl) (by simpa using h0) (by simpa using h1) w0_lt w1_lt
    case piece24 => exact wq_tile i x0 x2 2 7 _ _ w z (by rfl) (by simpa using h0) (by simpa using h1) w0_lt w1_lt
    case piece25 => exact wq_tile i x0 x2 2 6 _ _ w z (by rfl) (by simpa using h0) (by simpa using h1) w0_lt w1_lt
    case piece26 => exact wq_tile i x0 x2 2 5 _ _ w z (by rfl) (by simpa using h0) (by simpa using h1) w0_lt w1_lt
    case piece27 => exact wq_tile i x0 x2 2 4 _ _ w z (by rfl) (by simpa using h0) (by simpa using h1) w0_lt w1_lt
    case piece28 => exact wq_tile i x0 x2 2 3 _ _ w z (by rfl) (by simpa using h0) (by simpa using h1) w0_lt w1_lt
    case piece29 => exact wq_tile i x0 x2 2 2 _ _ w z (by rfl) (by simpa using h0) (by simpa using h1) w0_lt w1_lt
    case piece30 => exact wq_tile i x0 x2 2 1 _ _ w z (by rfl) (by simpa using h0) (by simpa using h1) w0_lt w1_lt
    case piece31 => exact wq_tile i x0 x2 2 0 _ _ w z (by rfl) (by simpa using h0) (by simpa using h1) w0_lt w1_lt
    case piece32 => exact wq_tile i x0 x2 1 7 _ _ w z (by rfl) (by simpa using h0) (by simpa using h1) w0_lt w1_lt
    case piece33 => exact wq_tile i x0 x2 1 6 _ _ w z (by rfl) (by simpa using h0) (by simpa using h1) w0_lt w1_lt
    case piece34 => exact wq_tile i x0 x2 1 5 _ _ w z (by rfl) (by simpa using h0) (by simpa using h1) w0_lt w1_lt
    case piece35 => exact wq_tile i x0 x2 1 4 _ _ w z (by rfl) (by simpa using h0) (by simpa using h1) w0_lt w1_lt
    case piece36 => exact wq_tile i x0 x2 1 3 _ _ w z (by rfl) (by simpa using h0) (by simpa using h1) w0_lt w1_lt
    case piece37 => exact wq_tile i x0 x2 1 2 _ _ w z (by rfl) (by simpa using h0) (by simpa using h1) w0_lt w1_lt
    case piece38 => exact wq_tile i x0 x2 1 1 _ _ w z (by rfl) (by simpa using h0) (by simpa using h1) w0_lt w1_lt
    case piece39 => exact wq_tile i x0 x2 1 0 _ _ w z (by rfl) (by simpa using h0) (by simpa using h1) w0_lt w1_lt
    case piece40 => exact wq_tile i x0 x2 0 7 _ _ w z (by rfl) (by simpa using h0) (by simpa using h1) w0_lt w1_lt
    case piece41 => exact wq_tile i x0 x2 0 6 _ _ w z (by rfl) (by simpa using h0) (by simpa using h1) w0_lt w1_lt
    case piece42 => exact wq_tile i x0 x2 0 5 _ _ w z (by rfl) (by simpa using h0) (by simpa using h1) w0_lt w1_lt
    case piece43 => exact wq_tile i x0 x2 0 4 _ _ w z (by rfl) (by simpa using h0) (by simpa using h1) w0_lt w1_lt
    case piece44 => exact wq_tile i x0 x2 0 3 _ _ w z (by rfl) (by simpa using h0) (by simpa using h1) w0_lt w1_lt
    case piece45 => exact wq_tile i x0 x2 0 2 _ _ w z (by rfl) (by simpa using h0) (by simpa using h1) w0_lt w1_lt
    case piece46 => exact wq_tile i x0 x2 0 1 _ _ w z (by rfl) (by simpa using h0) (by simpa using h1) w0_lt w1_lt
    case piece47 => exact wq_tile i x0 x2 0 0 _ _ w z (by rfl) (by simpa using h0) (by simpa using h1) w0_lt w1_lt
  · unfold k0_pay1
    rw [shapeCast_self]
    rfl

theorem dx_C (c : Dev nD) (i : grid0.Coords) (arg1 : Memref sig .tc .smem S8016 .f32) (harg1 : arg1.IsWhole) (arg2 : Memref sig .tc .vmem S768x1024 .f32) (harg2 : arg2.IsWhole) (arg3 : Memref sig .tc .vmem S768x1024 .fp8e4m3) (harg3 : arg3.IsWhole) (arg4 : Memref sig .tc .vmem S1024x1024 .bf16) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S768x1024 .f32) (harg10 : arg10.IsWhole) (arg11 : Memref sig .tc .vmem S1024x768 .fp8e5m2) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S1024x768 .bf16) (harg16 : arg16.IsWhole) (arg17 : Memref sig .tc .vmem S1024x1024 .f32) (harg17 : arg17.IsWhole) (hc0 : ¬cond0_0 i) (hc1 : cond0_1 i) (x0 : Vec F S8016 .f32) (x1 : Vec F S768x1024 .f32) (x2 : Vec F S768x1024 .fp8e4m3) (x3 : Vec F S1024x1024 .bf16) (x4 : Vec F S1x1024 .i32) (x5 : Vec F S1x1024 .f32) (x6 : Vec F S1x1024 .f32) (x7 : Vec F S1x1024 .f32) (x8 : Vec F S1x1x1024 .f32) (xs3 : Vec F S1024x1024 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs3 = truncf .bf16 (addf xs3 (bDX i x0 x1 x2 x4 x5 x6 x7 x8)) bitsLt_bf16_f32 := by
  funext y
  frame_open
  rw [View.read_writes_junk_apply_eq_canon]
  simp only [View.readAt_eq_ld, Memref.IsWhole.read_unread]
  refine (canon_store2 _ _ _ y).trans ?_
  refine (congrFun (congrArg k0_pay2 (canon_whole2 _ _ _ (addf xs3 (bDX i x0 x1 x2 x4 x5 x6 x7 x8)) ?_)) y).trans rfl
  intro y
  refine (canon_store2 _ _ _ y).trans ?_
  refine (congrFun (congrArg k0_pay1 (congr (congrArg₂ k0_pay453 (ld_whole2 _ _) (canon_whole2 _ _ _ (fun z : S1024x768.Idx => bGb (BitVec.ofNat 32 (i 0).val) x1 x4 x5 x6 x7 x8 (z 1) (z 0)) ?_)) (canon_whole2 _ _ _ (fun z : S768x1024.Idx => bWq i x0 x2 (z 0) (z 1)) ?_))) y).trans ?_
  · intro z
    canon_tiles w h
    case piece0 => exact g_tile _ x1 x4 x5 x6 x7 x8 640 896 (by decide) (by decide) _ w z (by rfl) (by omega) (by omega)
    case piece1 => exact g_tile _ x1 x4 x5 x6 x7 x8 512 896 (by decide) (by decide) _ w z (by rfl) (by omega) (by omega)
    case piece2 => exact g_tile _ x1 x4 x5 x6 x7 x8 384 896 (by decide) (by decide) _ w z (by rfl) (by omega) (by omega)
    case piece3 => exact g_tile _ x1 x4 x5 x6 x7 x8 256 896 (by decide) (by decide) _ w z (by rfl) (by omega) (by omega)
    case piece4 => exact g_tile _ x1 x4 x5 x6 x7 x8 128 896 (by decide) (by decide) _ w z (by rfl) (by omega) (by omega)
    case piece5 => exact g_tile _ x1 x4 x5 x6 x7 x8 0 896 (by decide) (by decide) _ w z (by rfl) (by omega) (by omega)
    case piece6 => exact g_tile _ x1 x4 x5 x6 x7 x8 640 768 (by decide) (by decide) _ w z (by rfl) (by omega) (by omega)
    case piece7 => exact g_tile _ x1 x4 x5 x6 x7 x8 512 768 (by decide) (by decide) _ w z (by rfl) (by omega) (by omega)
    case piece8 => exact g_tile _ x1 x4 x5 x6 x7 x8 384 768 (by decide) (by decide) _ w z (by rfl) (by omega) (by omega)
    case piece9 => exact g_tile _ x1 x4 x5 x6 x7 x8 256 768 (by decide) (by decide) _ w z (by rfl) (by omega) (by omega)
    case piece10 => exact g_tile _ x1 x4 x5 x6 x7 x8 128 768 (by decide) (by decide) _ w z (by rfl) (by omega) (by omega)
    case piece11 => exact g_tile _ x1 x4 x5 x6 x7 x8 0 768 (by decide) (by decide) _ w z (by rfl) (by omega) (by omega)
    case piece12 => exact g_tile _ x1 x4 x5 x6 x7 x8 640 640 (by decide) (by decide) _ w z (by rfl) (by omega) (by omega)
    case piece13 => exact g_tile _ x1 x4 x5 x6 x7 x8 512 640 (by decide) (by decide) _ w z (by rfl) (by omega) (by omega)
    case piece14 => exact g_tile _ x1 x4 x5 x6 x7 x8 384 640 (by decide) (by decide) _ w z (by rfl) (by omega) (by omega)
    case piece15 => exact g_tile _ x1 x4 x5 x6 x7 x8 256 640 (by decide) (by decide) _ w z (by rfl) (by omega) (by omega)
    case piece16 => exact g_tile _ x1 x4 x5 x6 x7 x8 128 640 (by decide) (by decide) _ w z (by rfl) (by omega) (by omega)
    case piece17 => exact g_tile _ x1 x4 x5 x6 x7 x8 0 640 (by decide) (by decide) _ w z (by rfl) (by omega) (by omega)
    case piece18 => exact g_tile _ x1 x4 x5 x6 x7 x8 640 512 (by decide) (by decide) _ w z (by rfl) (by omega) (by omega)
    case piece19 => exact g_tile _ x1 x4 x5 x6 x7 x8 512 512 (by decide) (by decide) _ w z (by rfl) (by omega) (by omega)
    case piece20 => exact g_tile _ x1 x4 x5 x6 x7 x8 384 512 (by decide) (by decide) _ w z (by rfl) (by omega) (by omega)
    case piece21 => exact g_tile _ x1 x4 x5 x6 x7 x8 256 512 (by decide) (by decide) _ w z (by rfl) (by omega) (by omega)
    case piece22 => exact g_tile _ x1 x4 x5 x6 x7 x8 128 512 (by decide) (by decide) _ w z (by rfl) (by omega) (by omega)
    case piece23 => exact g_tile _ x1 x4 x5 x6 x7 x8 0 512 (by decide) (by decide) _ w z (by rfl) (by omega) (by omega)
    case piece24 => exact g_tile _ x1 x4 x5 x6 x7 x8 640 384 (by decide) (by decide) _ w z (by rfl) (by omega) (by omega)
    case piece25 => exact g_tile _ x1 x4 x5 x6 x7 x8 512 384 (by decide) (by decide) _ w z (by rfl) (by omega) (by omega)
    case piece26 => exact g_tile _ x1 x4 x5 x6 x7 x8 384 384 (by decide) (by decide) _ w z (by rfl) (by omega) (by omega)
    case piece27 => exact g_tile _ x1 x4 x5 x6 x7 x8 256 384 (by decide) (by decide) _ w z (by rfl) (by omega) (by omega)
    case piece28 => exact g_tile _ x1 x4 x5 x6 x7 x8 128 384 (by decide) (by decide) _ w z (by rfl) (by omega) (by omega)
    case piece29 => exact g_tile _ x1 x4 x5 x6 x7 x8 0 384 (by decide) (by decide) _ w z (by rfl) (by omega) (by omega)
    case piece30 => exact g_tile _ x1 x4 x5 x6 x7 x8 640 256 (by decide) (by decide) _ w z (by rfl) (by omega) (by omega)
    case piece31 => exact g_tile _ x1 x4 x5 x6 x7 x8 512 256 (by decide) (by decide) _ w z (by rfl) (by omega) (by omega)
    case piece32 => exact g_tile _ x1 x4 x5 x6 x7 x8 384 256 (by decide) (by decide) _ w z (by rfl) (by omega) (by omega)
    case piece33 => exact g_tile _ x1 x4 x5 x6 x7 x8 256 256 (by decide) (by decide) _ w z (by rfl) (by omega) (by omega)
    case piece34 => exact g_tile _ x1 x4 x5 x6 x7 x8 128 256 (by decide) (by decide) _ w z (by rfl) (by omega) (by omega)
    case piece35 => exact g_tile _ x1 x4 x5 x6 x7 x8 0 256 (by decide) (by decide) _ w z (by rfl) (by omega) (by omega)
    case piece36 => exact g_tile _ x1 x4 x5 x6 x7 x8 640 128 (by decide) (by decide) _ w z (by rfl) (by omega) (by omega)
    case piece37 => exact g_tile _ x1 x4 x5 x6 x7 x8 512 128 (by decide) (by decide) _ w z (by rfl) (by omega) (by omega)
    case piece38 => exact g_tile _ x1 x4 x5 x6 x7 x8 384 128 (by decide) (by decide) _ w z (by rfl) (by omega) (by omega)
    case piece39 => exact g_tile _ x1 x4 x5 x6 x7 x8 256 128 (by decide) (by decide) _ w z (by rfl) (by omega) (by omega)
    case piece40 => exact g_tile _ x1 x4 x5 x6 x7 x8 128 128 (by decide) (by decide) _ w z (by rfl) (by omega) (by omega)
    case piece41 => exact g_tile _ x1 x4 x5 x6 x7 x8 0 128 (by decide) (by decide) _ w z (by rfl) (by omega) (by omega)
    case piece42 => exact g_tile _ x1 x4 x5 x6 x7 x8 640 0 (by decide) (by decide) _ w z (by rfl) (by omega) (by omega)
    case piece43 => exact g_tile _ x1 x4 x5 x6 x7 x8 512 0 (by decide) (by decide) _ w z (by rfl) (by omega) (by omega)
    case piece44 => exact g_tile _ x1 x4 x5 x6 x7 x8 384 0 (by decide) (by decide) _ w z (by rfl) (by omega) (by omega)
    case piece45 => exact g_tile _ x1 x4 x5 x6 x7 x8 256 0 (by decide) (by decide) _ w z (by rfl) (by omega) (by omega)
    case piece46 => exact g_tile _ x1 x4 x5 x6 x7 x8 128 0 (by decide) (by decide) _ w z (by rfl) (by omega) (by omega)
    case piece47 => exact g_tile _ x1 x4 x5 x6 x7 x8 0 0 (by decide) (by decide) _ w z (by rfl) (by omega) (by omega)
  · intro z
    canon_tiles w h
    case piece0 => exact wq_tile i x0 x2 5 7 _ _ w z (by rfl) (by simpa using h0) (by simpa using h1) w0_lt w1_lt
    case piece1 => exact wq_tile i x0 x2 5 6 _ _ w z (by rfl) (by simpa using h0) (by simpa using h1) w0_lt w1_lt
    case piece2 => exact wq_tile i x0 x2 5 5 _ _ w z (by rfl) (by simpa using h0) (by simpa using h1) w0_lt w1_lt
    case piece3 => exact wq_tile i x0 x2 5 4 _ _ w z (by rfl) (by simpa using h0) (by simpa using h1) w0_lt w1_lt
    case piece4 => exact wq_tile i x0 x2 5 3 _ _ w z (by rfl) (by simpa using h0) (by simpa using h1) w0_lt w1_lt
    case piece5 => exact wq_tile i x0 x2 5 2 _ _ w z (by rfl) (by simpa using h0) (by simpa using h1) w0_lt w1_lt
    case piece6 => exact wq_tile i x0 x2 5 1 _ _ w z (by rfl) (by simpa using h0) (by simpa using h1) w0_lt w1_lt
    case piece7 => exact wq_tile i x0 x2 5 0 _ _ w z (by rfl) (by simpa using h0) (by simpa using h1) w0_lt w1_lt
    case piece8 => exact wq_tile i x0 x2 4 7 _ _ w z (by rfl) (by simpa using h0) (by simpa using h1) w0_lt w1_lt
    case piece9 => exact wq_tile i x0 x2 4 6 _ _ w z (by rfl) (by simpa using h0) (by simpa using h1) w0_lt w1_lt
    case piece10 => exact wq_tile i x0 x2 4 5 _ _ w z (by rfl) (by simpa using h0) (by simpa using h1) w0_lt w1_lt
    case piece11 => exact wq_tile i x0 x2 4 4 _ _ w z (by rfl) (by simpa using h0) (by simpa using h1) w0_lt w1_lt
    case piece12 => exact wq_tile i x0 x2 4 3 _ _ w z (by rfl) (by simpa using h0) (by simpa using h1) w0_lt w1_lt
    case piece13 => exact wq_tile i x0 x2 4 2 _ _ w z (by rfl) (by simpa using h0) (by simpa using h1) w0_lt w1_lt
    case piece14 => exact wq_tile i x0 x2 4 1 _ _ w z (by rfl) (by simpa using h0) (by simpa using h1) w0_lt w1_lt
    case piece15 => exact wq_tile i x0 x2 4 0 _ _ w z (by rfl) (by simpa using h0) (by simpa using h1) w0_lt w1_lt
    case piece16 => exact wq_tile i x0 x2 3 7 _ _ w z (by rfl) (by simpa using h0) (by simpa using h1) w0_lt w1_lt
    case piece17 => exact wq_tile i x0 x2 3 6 _ _ w z (by rfl) (by simpa using h0) (by simpa using h1) w0_lt w1_lt
    case piece18 => exact wq_tile i x0 x2 3 5 _ _ w z (by rfl) (by simpa using h0) (by simpa using h1) w0_lt w1_lt
    case piece19 => exact wq_tile i x0 x2 3 4 _ _ w z (by rfl) (by simpa using h0) (by simpa using h1) w0_lt w1_lt
    case piece20 => exact wq_tile i x0 x2 3 3 _ _ w z (by rfl) (by simpa using h0) (by simpa using h1) w0_lt w1_lt
    case piece21 => exact wq_tile i x0 x2 3 2 _ _ w z (by rfl) (by simpa using h0) (by simpa using h1) w0_lt w1_lt
    case piece22 => exact wq_tile i x0 x2 3 1 _ _ w z (by rfl) (by simpa using h0) (by simpa using h1) w0_lt w1_lt
    case piece23 => exact wq_tile i x0 x2 3 0 _ _ w z (by rfl) (by simpa using h0) (by simpa using h1) w0_lt w1_lt
    case piece24 => exact wq_tile i x0 x2 2 7 _ _ w z (by rfl) (by simpa using h0) (by simpa using h1) w0_lt w1_lt
    case piece25 => exact wq_tile i x0 x2 2 6 _ _ w z (by rfl) (by simpa using h0) (by simpa using h1) w0_lt w1_lt
    case piece26 => exact wq_tile i x0 x2 2 5 _ _ w z (by rfl) (by simpa using h0) (by simpa using h1) w0_lt w1_lt
    case piece27 => exact wq_tile i x0 x2 2 4 _ _ w z (by rfl) (by simpa using h0) (by simpa using h1) w0_lt w1_lt
    case piece28 => exact wq_tile i x0 x2 2 3 _ _ w z (by rfl) (by simpa using h0) (by simpa using h1) w0_lt w1_lt
    case piece29 => exact wq_tile i x0 x2 2 2 _ _ w z (by rfl) (by simpa using h0) (by simpa using h1) w0_lt w1_lt
    case piece30 => exact wq_tile i x0 x2 2 1 _ _ w z (by rfl) (by simpa using h0) (by simpa using h1) w0_lt w1_lt
    case piece31 => exact wq_tile i x0 x2 2 0 _ _ w z (by rfl) (by simpa using h0) (by simpa using h1) w0_lt w1_lt
    case piece32 => exact wq_tile i x0 x2 1 7 _ _ w z (by rfl) (by simpa using h0) (by simpa using h1) w0_lt w1_lt
    case piece33 => exact wq_tile i x0 x2 1 6 _ _ w z (by rfl) (by simpa using h0) (by simpa using h1) w0_lt w1_lt
    case piece34 => exact wq_tile i x0 x2 1 5 _ _ w z (by rfl) (by simpa using h0) (by simpa using h1) w0_lt w1_lt
    case piece35 => exact wq_tile i x0 x2 1 4 _ _ w z (by rfl) (by simpa using h0) (by simpa using h1) w0_lt w1_lt
    case piece36 => exact wq_tile i x0 x2 1 3 _ _ w z (by rfl) (by simpa using h0) (by simpa using h1) w0_lt w1_lt
    case piece37 => exact wq_tile i x0 x2 1 2 _ _ w z (by rfl) (by simpa using h0) (by simpa using h1) w0_lt w1_lt
    case piece38 => exact wq_tile i x0 x2 1 1 _ _ w z (by rfl) (by simpa using h0) (by simpa using h1) w0_lt w1_lt
    case piece39 => exact wq_tile i x0 x2 1 0 _ _ w z (by rfl) (by simpa using h0) (by simpa using h1) w0_lt w1_lt
    case piece40 => exact wq_tile i x0 x2 0 7 _ _ w z (by rfl) (by simpa using h0) (by simpa using h1) w0_lt w1_lt
    case piece41 => exact wq_tile i x0 x2 0 6 _ _ w z (by rfl) (by simpa using h0) (by simpa using h1) w0_lt w1_lt
    case piece42 => exact wq_tile i x0 x2 0 5 _ _ w z (by rfl) (by simpa using h0) (by simpa using h1) w0_lt w1_lt
    case piece43 => exact wq_tile i x0 x2 0 4 _ _ w z (by rfl) (by simpa using h0) (by simpa using h1) w0_lt w1_lt
    case piece44 => exact wq_tile i x0 x2 0 3 _ _ w z (by rfl) (by simpa using h0) (by simpa using h1) w0_lt w1_lt
    case piece45 => exact wq_tile i x0 x2 0 2 _ _ w z (by rfl) (by simpa using h0) (by simpa using h1) w0_lt w1_lt
    case piece46 => exact wq_tile i x0 x2 0 1 _ _ w z (by rfl) (by simpa using h0) (by simpa using h1) w0_lt w1_lt
    case piece47 => exact wq_tile i x0 x2 0 0 _ _ w z (by rfl) (by simpa using h0) (by simpa using h1) w0_lt w1_lt
  · unfold k0_pay1
    rw [shapeCast_self]
    rfl

end Cert.KernelIdeal.Blk
-- ==== Proof.KArr.lean ====
module
public import proofs.«01_k».proof.Proof.Gen.KernelIdeal.Value
public import proofs.«01_k».proof.Proof.CaseA
public import proofs.«01_k».proof.Proof.CaseB
public import proofs.«01_k».proof.Proof.CaseC
@[expose] public section
set_option maxRecDepth 16384
noncomputable section

/-! What the kernel's arrays hold after the run, in terms of the argument arrays. -/

namespace Cert.KernelIdeal.Blk
open Cert.KernelIdeal Cert.KernelIdeal.Gen Cert.KernelIdeal.Value Idealize.ShloMosaic Idealize.ShloMosaic.TcCoe
variable {F : FTy → Type} [FloatOps F]
variable (m : (ℓ : Loc nD τ sig) → Buf (Elt F) ℓ) (c : Dev nD)

abbrev B0 (t : Fin cfg0.N) : Vec F S8016 .f32 := iblk m c 0 t
abbrev B1 (t : Fin cfg0.N) : Vec F S768x1024 .f32 := iblk m c 1 t
abbrev B2 (t : Fin cfg0.N) : Vec F S768x1024 .fp8e4m3 := iblk m c 2 t
abbrev B3 (t : Fin cfg0.N) : Vec F S1024x1024 .bf16 := iblk m c 3 t
abbrev B4 (t : Fin cfg0.N) : Vec F S1x1024 .i32 := iblk m c 4 t
abbrev B5 (t : Fin cfg0.N) : Vec F S1x1024 .f32 := iblk m c 5 t
abbrev B6 (t : Fin cfg0.N) : Vec F S1x1024 .f32 := iblk m c 6 t
abbrev B7 (t : Fin cfg0.N) : Vec F S1x1024 .f32 := iblk m c 7 t
abbrev B8 (t : Fin cfg0.N) : Vec F S1x1x1024 .f32 := iblk m c 8 t

theorem coords0 (t : Fin cfg0.N) : (grid0.coords t 0).val = t.val := by
  have ht : t.val < 167 := Nat.lt_of_lt_of_eq t.isLt N_0
  have e0 : (grid0.coords t 0).val = t.val / 1 % 167 := Pipeline.Grid.coords_val t 0 (by decide) rfl
  omega

abbrev St : Type := Vec F S768x1024 .f32 × Vec F S1024x768 .fp8e5m2 × Vec F S1x1x1024 .f32 × Vec F S1024x1024 .bf16 × Vec F S1024x1024 .f32

def kDW (t : Fin cfg0.N) : Vec F S768x1024 .f32 :=
  bDW (BitVec.ofNat 32 (grid0.coords t 0).val) (B1 m c t) (B3 m c t) (B4 m c t) (B5 m c t) (B6 m c t) (B7 m c t) (B8 m c t)
def kCodes (t : Fin cfg0.N) : Vec F S1024x768 .fp8e5m2 := fun y : S1024x768.Idx =>
  FloatOps.truncf .fp8e5m2 bitsLt_fp8e5m2_bf16 (bCb (BitVec.ofNat 32 (grid0.coords t 0).val) (B1 m c t) (B4 m c t) (B5 m c t) (B6 m c t) (B7 m c t) (B8 m c t) (y 1) (y 0))
def kScale (t : Fin cfg0.N) : Vec F S1x1x1024 .f32 := fun y : S1x1x1024.Idx =>
  bScale (BitVec.ofNat 32 (grid0.coords t 0).val) (B4 m c t) (B5 m c t) (B6 m c t) (B7 m c t) (B8 m c t) (y 2)
def kDX (t : Fin cfg0.N) : Vec F S1024x1024 .f32 :=
  bDX (grid0.coords t) (B0 m c t) (B1 m c t) (B2 m c t) (B4 m c t) (B5 m c t) (B6 m c t) (B7 m c t) (B8 m c t)

/-- At every point: the three blocks the point writes, whatever the point before left. -/
theorem st_out (t : Fin cfg0.N) (acc : St (F := F)) :
    (stAt0 m c t.val t.isLt acc).1 = kDW m c t ∧ (stAt0 m c t.val t.isLt acc).2.1 = kCodes m c t
      ∧ (stAt0 m c t.val t.isLt acc).2.2.1 = kScale m c t := by
  have ht : t.val < 167 := Nat.lt_of_lt_of_eq t.isLt N_0
  by_cases h0 : t.val % 167 = 0
  · rw [stAt0_A m c t acc h0 (by omega)]
    dsimp only
    rw [dw_A, codes_A, scale_A]
    exact ⟨rfl, rfl, rfl⟩
  · by_cases h1 : t.val % 167 = 166
    · rw [stAt0_C m c t acc h0 h1]
      dsimp only
      rw [dw_C, codes_C, scale_C]
      exact ⟨rfl, rfl, rfl⟩
    · rw [stAt0_B m c t acc h0 h1]
      dsimp only
      rw [dw_B, codes_B, scale_B]
      exact ⟨rfl, rfl, rfl⟩

theorem st_acc0 (t : Fin cfg0.N) (acc : St (F := F)) (h : t.val = 0) :
    (stAt0 m c t.val t.isLt acc).2.2.2.2 = addf (fun _ => Scalar.ofBits .f32 0x00000000#32) (kDX m c t) := by
  rw [stAt0_A m c t acc (by omega) (by omega)]
  dsimp only
  rw [acc_A]
  rfl

theorem st_acc (t : Fin cfg0.N) (acc : St (F := F)) (h : t.val ≠ 0) :
    (stAt0 m c t.val t.isLt acc).2.2.2.2 = addf acc.2.2.2.2 (kDX m c t) := by
  have ht : t.val < 167 := Nat.lt_of_lt_of_eq t.isLt N_0
  by_cases h1 : t.val % 167 = 166
  · rw [stAt0_C m c t acc (by omega) h1]
    dsimp only
    rw [acc_C]
    rfl
  · rw [stAt0_B m c t acc (by omega) h1]
    dsimp only
    rw [acc_B]
    rfl

theorem st_dx (t : Fin cfg0.N) (acc : St (F := F)) (h : t.val = 166) :
    (stAt0 m c t.val t.isLt acc).2.2.2.1 = truncf .bf16 (addf acc.2.2.2.2 (kDX m c t)) bitsLt_bf16_f32 := by
  rw [stAt0_C m c t acc (by omega) (by omega)]
  dsimp only
  rw [dx_C]
  rfl

/-- The state after point `n`. -/
abbrev A (n : Nat) (h : 0 + n < cfg0.N) : St (F := F) :=
  Pipeline.accAt (fun n h => stAt0 m c n h junk0) (stAt0 m c) 0 n h

theorem A_out (n : Nat) (h : 0 + n < cfg0.N) (hn : n < cfg0.N) :
    (A m c n h).1 = kDW m c ⟨n, hn⟩ ∧ (A m c n h).2.1 = kCodes m c ⟨n, hn⟩ ∧ (A m c n h).2.2.1 = kScale m c ⟨n, hn⟩ := by
  cases n with
  | zero => exact st_out m c ⟨0, hn⟩ junk0
  | succ n =>
    have e : ∀ k (hk : k < cfg0.N) (hk' : n + 1 < cfg0.N) acc, k = n + 1 → stAt0 m c k hk acc = stAt0 m c (n + 1) hk' acc := by
      intro k hk hk' acc e; subst e; rfl
    show (stAt0 m c (0 + (n + 1)) h _).1 = _ ∧ (stAt0 m c (0 + (n + 1)) h _).2.1 = _ ∧ (stAt0 m c (0 + (n + 1)) h _).2.2.1 = _
    rw [e _ h hn _ (Nat.zero_add _)]
    exact st_out m c ⟨n + 1, hn⟩ _

theorem A_acc0 (h : 0 + 0 < cfg0.N) (hn : 0 < cfg0.N) :
    (A m c 0 h).2.2.2.2 = addf (fun _ => Scalar.ofBits .f32 0x00000000#32) (kDX m c ⟨0, hn⟩) :=
  st_acc0 m c ⟨0, hn⟩ junk0 rfl

theorem A_acc (n : Nat) (h : 0 + (n + 1) < cfg0.N) (h' : 0 + n < cfg0.N) (hn : n + 1 < cfg0.N) :
    (A m c (n + 1) h).2.2.2.2 = addf (A m c n h').2.2.2.2 (kDX m c ⟨n + 1, hn⟩) := by
  have e : ∀ k (hk : k < cfg0.N) (hk' : n + 1 < cfg0.N) acc, k = n + 1 → stAt0 m c k hk acc = stAt0 m c (n + 1) hk' acc := by
    intro k hk hk' acc e; subst e; rfl
  show (stAt0 m c (0 + (n + 1)) h _).2.2.2.2 = _
  rw [e _ h hn _ (Nat.zero_add _)]
  exact st_acc m c ⟨n + 1, hn⟩ _ (Nat.succ_ne_zero n)

theorem A_dx (n : Nat) (h : 0 + (n + 1) < cfg0.N) (h' : 0 + n < cfg0.N) (hn : n + 1 < cfg0.N) (h166 : n + 1 = 166) :
    (A m c (n + 1) h).2.2.2.1 = truncf .bf16 (addf (A m c n h').2.2.2.2 (kDX m c ⟨n + 1, hn⟩)) bitsLt_bf16_f32 := by
  have e : ∀ k (hk : k < cfg0.N) (hk' : n + 1 < cfg0.N) acc, k = n + 1 → stAt0 m c k hk acc = stAt0 m c (n + 1) hk' acc := by
    intro k hk hk' acc e; subst e; rfl
  show (stAt0 m c (0 + (n + 1)) h _).2.2.2.1 = _
  rw [e _ h hn _ (Nat.zero_add _)]
  exact st_dx m c ⟨n + 1, hn⟩ _ h166

theorem G9_apply (i : S128256x1024.Idx) (hn : (i 0).val / 768 < cfg0.N) :
    G9 m c i = kDW m c ⟨(i 0).val / 768, hn⟩ (ix2 ⟨(i 0).val % 768, Nat.mod_lt _ (by decide)⟩ (i 1)) := by
  have h1 : (i 1).val < 1024 := (i 1).isLt
  have hp : pt9Of i = (i 0).val / 768 := by
    show 1 * ((i 0).val / 768 - 0) + 1 * ((i 1).val / 1024 - 0) = _
    omega
  unfold G9
  rw [dif_pos (by rw [hp]; exact hn), fold0_congr m c _ _ _ (by omega) hp]
  refine (congrFun (A_out m c _ _ hn).1 (loc9Of i)).trans (congrArg _ ?_)
  refine idx_eq2 _ _ rfl ?_
  show (i 1).val = (i 1).val % 1024
  omega

theorem G10_apply (i : S1024x128256.Idx) (hn : (i 1).val / 768 < cfg0.N) :
    G10 m c i = kCodes m c ⟨(i 1).val / 768, hn⟩ (ix2 (i 0) ⟨(i 1).val % 768, Nat.mod_lt _ (by decide)⟩) := by
  have h1 : (i 0).val < 1024 := (i 0).isLt
  have hp : pt10Of i = (i 1).val / 768 := by
    show 167 * ((i 0).val / 1024 - 0) + 1 * ((i 1).val / 768 - 0) = _
    omega
  unfold G10
  rw [dif_pos (by rw [hp]; exact hn), fold0_congr m c _ _ _ (by omega) hp]
  refine (congrFun (A_out m c _ _ hn).2.1 (loc10Of i)).trans (congrArg _ ?_)
  refine idx_eq2 _ _ ?_ rfl
  show (i 0).val = (i 0).val % 1024
  omega

theorem G11_apply (i : S167x1x1024.Idx) (hn : (i 0).val < cfg0.N) :
    G11 m c i = kScale m c ⟨(i 0).val, hn⟩ (ix3 0 0 (i 2)) := by
  have h1 : (i 1).val < 1 := (i 1).isLt
  have h2 : (i 2).val < 1024 := (i 2).isLt
  have hp : pt11Of i = (i 0).val := by
    show 1 * ((i 0).val / 1 - 0) + 1 * ((i 1).val / 1 - 0) + 1 * ((i 2).val / 1024 - 0) = _
    omega
  unfold G11
  rw [dif_pos (by rw [hp]; exact hn), fold0_congr m c _ _ _ (by omega) hp]
  refine (congrFun (A_out m c _ _ hn).2.2 (loc11Of i)).trans (congrArg _ ?_)
  funext a; apply Fin.ext; fin_cases a
  · show (i 0).val % 1 = 0
    omega
  · show (i 1).val % 1 = 0
    omega
  · show (i 2).val % 1024 = (i 2).val
    omega

end Cert.KernelIdeal.Blk
-- ==== Proof.KRead.lean ====
module
public import proofs.«01_k».proof.Proof.KArr
@[expose] public section
set_option maxRecDepth 16384
noncomputable section

/-! The blocks the kernel reads, as parts of the argument arrays. -/

namespace Cert.KernelIdeal.Blk
open Cert.KernelIdeal Cert.KernelIdeal.Gen Cert.KernelIdeal.Value Idealize.ShloMosaic Idealize.ShloMosaic.TcCoe
variable {F : FTy → Type} [FloatOps F]
variable (m : (ℓ : Loc nD τ sig) → Buf (Elt F) ℓ) (c : Dev nD)

theorem widx1 : ∀ t : Fin cfg0.N, win0_1.index t = ![(grid0.coords t 0).val, 0] := (by decide +kernel : ∀ t : Fin grid0.N, _)
theorem widx2 : ∀ t : Fin cfg0.N, win0_2.index t = ![(grid0.coords t 0).val, 0] := (by decide +kernel : ∀ t : Fin grid0.N, _)
theorem widx3 : ∀ t : Fin cfg0.N, win0_3.index t = ![0, 0] := (by decide +kernel : ∀ t : Fin grid0.N, _)
theorem widx4 : ∀ t : Fin cfg0.N, win0_4.index t = ![0, 0] := (by decide +kernel : ∀ t : Fin grid0.N, _)
theorem widx5 : ∀ t : Fin cfg0.N, win0_5.index t = ![0, 0] := (by decide +kernel : ∀ t : Fin grid0.N, _)
theorem widx6 : ∀ t : Fin cfg0.N, win0_6.index t = ![0, 0] := (by decide +kernel : ∀ t : Fin grid0.N, _)
theorem widx7 : ∀ t : Fin cfg0.N, win0_7.index t = ![0, 0] := (by decide +kernel : ∀ t : Fin grid0.N, _)
theorem widx8 : ∀ t : Fin cfg0.N, win0_8.index t = ![(grid0.coords t 0).val, 0, 0] := (by decide +kernel : ∀ t : Fin grid0.N, _)
theorem widx0 : ∀ t : Fin cfg0.N, win0_0.index t = ![0] := (by decide +kernel : ∀ t : Fin grid0.N, _)

theorem rlt {n : Nat} (h : n < 167) (r : Fin 768) : 768 * n + r.val < 128256 := by have := r.isLt; omega

theorem ct (t : Fin cfg0.N) : t.val < 167 := Nat.lt_of_lt_of_eq t.isLt N_0

theorem B1_at (t : Fin cfg0.N) (r : Fin 768) (k : Fin 1024) :
    B1 m c t (ix2 r k) = m ((c : Thread nD τ).loc main_arg0) (ix2 ⟨768 * t.val + r.val, rlt (ct t) r⟩ k) := by
  have e := coords0 t
  blk_ext! [iblk, V_main_arg0, widx1 t]

theorem B2_at (t : Fin cfg0.N) (r : Fin 768) (k : Fin 1024) :
    B2 m c t (ix2 r k) = m ((c : Thread nD τ).loc main_arg1) (ix2 ⟨768 * t.val + r.val, rlt (ct t) r⟩ k) := by
  have e := coords0 t
  blk_ext! [iblk, V_main_arg1, widx2 t]

theorem B3_at (t : Fin cfg0.N) : B3 m c t = m ((c : Thread nD τ).loc main_arg3) := by
  funext y
  blk_ext! [iblk, V_main_arg3, widx3 t]
theorem B4_at (t : Fin cfg0.N) : B4 m c t = m ((c : Thread nD τ).loc main_arg4) := by
  funext y
  blk_ext! [iblk, V_main_arg4, widx4 t]
theorem B5_at (t : Fin cfg0.N) : B5 m c t = m ((c : Thread nD τ).loc main_arg5) := by
  funext y
  blk_ext! [iblk, V_main_arg5, widx5 t]
theorem B6_at (t : Fin cfg0.N) : B6 m c t = m ((c : Thread nD τ).loc main_arg6) := by
  funext y
  blk_ext! [iblk, V_main_arg6, widx6 t]
theorem B7_at (t : Fin cfg0.N) : B7 m c t = m ((c : Thread nD τ).loc main_arg7) := by
  funext y
  blk_ext! [iblk, V_main_arg7, widx7 t]
theorem B8_at (t : Fin cfg0.N) (k : Fin 1024) :
    B8 m c t (ix3 0 0 k) = m ((c : Thread nD τ).loc main_arg8) (ix3 ⟨t.val, ct t⟩ 0 k) := by
  have e := coords0 t
  blk_ext! [iblk, V_main_arg8, widx8 t]
theorem B0_at (t : Fin cfg0.N) (a : Fin 1002) (b : Fin 8) (h : a.val * 8 + b.val < 8016) :
    B0 m c t (ix1 ⟨a.val * 8 + b.val, h⟩) = m ((c : Thread nD τ).loc main_arg2) (ix2 a b) := by
  blk_simp [iblk, widx0 t]
  entry_read
  pointwise
  blk_ext [widx0 t]

end Cert.KernelIdeal.Blk
-- ==== Proof.KVal.lean ====
module
public import proofs.«01_k».proof.Proof.KRead
public import proofs.«01_k».proof.Proof.MathG
@[expose] public section
set_option maxRecDepth 16384
noncomputable section

/-! The kernel's four results over the extended reals, given the statistics of every token's logits. -/

namespace Cert.KernelIdeal.Blk
open Cert.KernelIdeal Cert.KernelIdeal.Gen Cert.KernelIdeal.Value Cert.Spec Idealize.ShloMosaic Idealize.ShloMosaic.TcCoe
variable (m : (ℓ : Loc nD τ sig) → Buf (Elt Ideal) ℓ) (c : Dev nD)

abbrev a0 : Vec Ideal S128256x1024 .f32 := m ((c : Thread nD τ).loc main_arg0)
abbrev a1 : Vec Ideal S128256x1024 .fp8e4m3 := m ((c : Thread nD τ).loc main_arg1)
abbrev a2 : Vec Ideal S1002x8 .f32 := m ((c : Thread nD τ).loc main_arg2)
abbrev a3 : Vec Ideal S1024x1024 .bf16 := m ((c : Thread nD τ).loc main_arg3)
abbrev a4 : Vec Ideal S1x1024 .i32 := m ((c : Thread nD τ).loc main_arg4)
abbrev a5 : Vec Ideal S1x1024 .f32 := m ((c : Thread nD τ).loc main_arg5)
abbrev a6 : Vec Ideal S1x1024 .f32 := m ((c : Thread nD τ).loc main_arg6)
abbrev a7 : Vec Ideal S1x1024 .f32 := m ((c : Thread nD τ).loc main_arg7)
abbrev a8 : Vec Ideal S167x1x1024 .f32 := m ((c : Thread nD τ).loc main_arg8)

/-- The row of logits of token `k`. -/
abbrev row (k : Fin 1024) : Fin 128256 → EReal := fun v => a0 m c (ix2 v k)

abbrev Stats : Prop := ∀ k : Fin 1024, Tok (row m c k) (a4 m c (ix2 0 k)) (a5 m c (ix2 0 k)) (a6 m c (ix2 0 k)) (a7 m c (ix2 0 k))
  (fun n => a8 m c (ix3 n 0 k))

theorem vrow (n : Fin 167) (r : Fin 768) : 768 * n.val + r.val < 128256 := by have := n.isLt; have := r.isLt; omega

section
variable {m c} (h : Stats m c) (t : Fin cfg0.N)
include h

theorem bGb_eq (r : Fin 768) (k : Fin 1024) (v : Fin 128256) (hv : v.val = t.val * 768 + r.val) :
    bGb (F := Ideal) (BitVec.ofNat 32 (grid0.coords t 0).val) (B1 m c t) (B4 m c t) (B5 m c t) (B6 m c t) (B7 m c t) (B8 m c t) r k
      = rGq (row m c k) (a4 m c (ix2 0 k)) v := by
  unfold bGb
  rw [B1_at, B4_at, B5_at, B6_at, B7_at, B8_at, coords0]
  have ev : (⟨768 * t.val + r.val, rlt (ct t) r⟩ : Fin 128256) = v := Fin.ext (by rw [hv]; show 768 * t.val + r.val = _; omega)
  rw [ev]
  exact gq_tok (h k) ⟨t.val, ct t⟩ r v hv

theorem bCb_eq (r : Fin 768) (k : Fin 1024) (v : Fin 128256) (hv : v.val = t.val * 768 + r.val) :
    bCb (F := Ideal) (BitVec.ofNat 32 (grid0.coords t 0).val) (B1 m c t) (B4 m c t) (B5 m c t) (B6 m c t) (B7 m c t) (B8 m c t) r k
      = rCode (row m c k) (a4 m c (ix2 0 k)) v := by
  unfold bCb
  rw [B1_at, B4_at, B5_at, B6_at, B7_at, B8_at, coords0]
  have ev : (⟨768 * t.val + r.val, rlt (ct t) r⟩ : Fin 128256) = v := Fin.ext (by rw [hv]; show 768 * t.val + r.val = _; omega)
  rw [ev]
  exact code_tok (h k) ⟨t.val, ct t⟩ r v hv

theorem bScale_eq (k : Fin 1024) :
    bScale (F := Ideal) (BitVec.ofNat 32 (grid0.coords t 0).val) (B4 m c t) (B5 m c t) (B6 m c t) (B7 m c t) (B8 m c t) k
      = Ideal.exp2 (rE (rY (row m c k) (a4 m c (ix2 0 k)) ⟨t.val, ct t⟩)) := by
  unfold bScale
  rw [B4_at, B5_at, B6_at, B7_at, B8_at, coords0]
  exact scale_tok (h k) ⟨t.val, ct t⟩
end

theorem bWq_eq (t : Fin cfg0.N) (r : Fin 768) (d : Fin 1024) (v : Fin 128256) (hv : v.val = t.val * 768 + r.val) :
    bWq (F := Ideal) (grid0.coords t) (B0 m c t) (B2 m c t) r d
      = a1 m c (ix2 v d) * a2 m c (ix2 ⟨v.val / 128, by have := v.isLt; omega⟩ ⟨d.val / 128, by have := d.isLt; omega⟩) := by
  have ht := ct t
  have hr := r.isLt
  have hd := d.isLt
  have e : ∀ (i : Nat) (hi : i < 8016), i = (v.val / 128) * 8 + d.val / 128 → (⟨i, hi⟩ : Fin 8016) = ⟨(v.val / 128) * 8 + d.val / 128, by
    have := v.isLt; omega⟩ := fun i hi e => Fin.ext e
  unfold bWq
  rw [B2_at, e _ _ (by rw [coords0]; omega)]
  have ev : (⟨768 * t.val + r.val, rlt (ct t) r⟩ : Fin 128256) = v := Fin.ext (by rw [hv]; show 768 * t.val + r.val = _; omega)
  rw [ev]
  have := B0_at (F := Ideal) m c t ⟨v.val / 128, by have := v.isLt; omega⟩ ⟨d.val / 128, by omega⟩ (by show v.val / 128 * 8 + d.val / 128 < 8016; have := v.isLt; omega)
  exact congrArg (fun z => a1 m c (ix2 v d) * z) this

theorem bDW_at (i : BitVec 32) (x1 : Vec Ideal S768x1024 .f32) (x3 : Vec Ideal S1024x1024 .bf16) (x4 : Vec Ideal S1x1024 .i32)
    (x5 x6 x7 : Vec Ideal S1x1024 .f32) (x8 : Vec Ideal S1x1x1024 .f32) (r : Fin 768) (d : Fin 1024) :
    bDW i x1 x3 x4 x5 x6 x7 x8 (ix2 r d) = ∑ k : Fin 1024, bGb i x1 x4 x5 x6 x7 x8 r k * x3 (ix2 k d) := by
  pointwise [bDW]

theorem bDX_at (i : grid0.Coords) (x0 : Vec Ideal S8016 .f32) (x1 : Vec Ideal S768x1024 .f32) (x2 : Vec Ideal S768x1024 .fp8e4m3) (x4 : Vec Ideal S1x1024 .i32)
    (x5 x6 x7 : Vec Ideal S1x1024 .f32) (x8 : Vec Ideal S1x1x1024 .f32) (k : Fin 1024) (d : Fin 1024) :
    bDX i x0 x1 x2 x4 x5 x6 x7 x8 (ix2 k d) = ∑ r : Fin 768, bGb (BitVec.ofNat 32 (i 0).val) x1 x4 x5 x6 x7 x8 r k * bWq i x0 x2 r d := by
  pointwise [bDX]

end Cert.KernelIdeal.Blk
-- ==== Proof.PreVal.lean ====
module
public import proofs.«01_k».proof.Proof.Gen.Pre_statistics_of_the_logits
public import proofs.«01_k».proof.Proof.MathG
public import Idealize.ShloMosaic.Lib.IdealHost
@[expose] public section
set_option maxRecDepth 16384
noncomputable section

/-! The precondition, read at an index. -/

namespace Cert.Pre_statistics_of_the_logits
open Idealize.ShloMosaic Cert.Spec Cert.Pre_statistics_of_the_logits.Facts
variable [Facts]

theorem maxV (x : FVec Ideal S128256x1024 .f32) (k : Fin 1024) :
    Host.reduce FloatOps.maximumf x (constant (F := Ideal) S_ .f32 0xFF800000#32) reducesTo_S128256x1024_S1024_d0 h_S_ (ix1 k)
      = Finset.fold max ninf (fun v : Fin 128256 => x (ix2 v k)) Finset.univ := by
  pointwise

theorem sumV (x : FVec Ideal S128256x1024 .f32) (k : Fin 1024) :
    Host.reduceAdd x (constant (F := Ideal) S_ .f32 0x00000000#32) reducesTo_S128256x1024_S1024_d0 h_S_ (ix1 k)
      = ∑ v : Fin 128256, x (ix2 v k) := by
  pointwise

theorem maxC (x : FVec Ideal S128256x1024 .f32) (n : Fin 167) (k : Fin 1024) :
    Host.reduce FloatOps.maximumf (shapeCast S167x768x1024 x shapeCasts_S128256x1024_S167x768x1024)
        (constant (F := Ideal) S_ .f32 0xFF800000#32) reducesTo_S167x768x1024_S167x1024_d1 h_S_ (ix2 n k)
      = Finset.fold max ninf (fun r : Fin 768 => x (ix2 ⟨n.val * 768 + r.val, clt n r⟩ k)) Finset.univ := by
  pointwise

theorem bT (y : FVec Ideal S1024 .f32) (k : Fin 1024) : broadcastInDim S1x1024 ![1] bcast_S1024_S1x1024_1 y (ix2 0 k) = y (ix1 k) := by
  pointwise
theorem bC (y : FVec Ideal S167x1024 .f32) (n : Fin 167) (k : Fin 1024) :
    broadcastInDim S167x1x1024 ![0, 2] bcast_S167x1024_S167x1x1024_0_2 y (ix3 n 0 k) = y (ix2 n k) := by
  pointwise
theorem bM (y : FVec Ideal S1x1024 .f32) (v : Fin 128256) (k : Fin 1024) :
    broadcastInDim S128256x1024 ![0, 1] bcast_S1x1024_S128256x1024_0_1 y (ix2 v k) = y (ix2 0 k) := by
  pointwise
theorem bS (y : FVec Ideal S_ .f32) (b : BitVec 32) (hy : y = constant S_ .f32 b) (v : Fin 128256) (k : Fin 1024) :
    broadcastInDim S128256x1024 ![] bcast_S_S128256x1024 y (ix2 v k) = Ideal.ofBits FTy.f32 b := by
  subst hy
  pointwise
theorem hitA (lab : IVec S1x1024 32) (u w : FVec Ideal S128256x1024 .f32) (v : Fin 128256) (k : Fin 1024) :
    select (cmpi .eq (iotaInDim S128256x1024 32 0) (broadcastInDim S128256x1024 ![0, 1] bcast_S1x1024_S128256x1024_0_1 lab)) u w (ix2 v k)
      = Scalar.select (IntOp.cmpi .eq (BitVec.ofNat 32 v.val) (lab (ix2 0 k))) (u (ix2 v k)) (w (ix2 v k)) := by
  pointwise

theorem of_true (p : Prop) [Decidable p] (h : BitVec.ofBool (decide p) = 1#1) : p := by
  by_contra hn
  rw [decide_eq_false hn] at h
  exact absurd h (by decide)

variable (x0 : FVec Ideal S128256x1024 .f32) (x1 : FVec Ideal S128256x1024 .fp8e4m3) (x2 : FVec Ideal S1002x8 .f32)
  (x3 : FVec Ideal S1024x1024 .bf16) (x4 : IVec S1x1024 32) (x5 x6 x7 : FVec Ideal S1x1024 .f32) (x8 : FVec Ideal S167x1x1024 .f32)

theorem stats
    (h1 : (fn (F := Ideal) x0 x1 x2 x3 x4 x5 x6 x7 x8).1 = fun _ => 1#1)
    (h2 : (fn (F := Ideal) x0 x1 x2 x3 x4 x5 x6 x7 x8).2.1 = fun _ => 1#1)
    (h3 : (fn (F := Ideal) x0 x1 x2 x3 x4 x5 x6 x7 x8).2.2.1 = fun _ => 1#1)
    (h4 : (fn (F := Ideal) x0 x1 x2 x3 x4 x5 x6 x7 x8).2.2.2.1 = fun _ => 1#1)
    (h5 : (fn (F := Ideal) x0 x1 x2 x3 x4 x5 x6 x7 x8).2.2.2.2.1 = fun _ => 1#1)
    (h6 : (fn (F := Ideal) x0 x1 x2 x3 x4 x5 x6 x7 x8).2.2.2.2.2 = fun _ => 1#1) (k : Fin 1024) :
    Tok (fun v => x0 (ix2 v k)) (x4 (ix2 0 k)) (x5 (ix2 0 k)) (x6 (ix2 0 k)) (x7 (ix2 0 k)) (fun n => x8 (ix3 n 0 k)) := by
  have e3 : x5 (ix2 0 k) = Finset.fold max ninf (fun v : Fin 128256 => x0 (ix2 v k)) Finset.univ := by
    have h := of_true (x5 (ix2 0 k) = broadcastInDim S1x1024 ![1] bcast_S1024_S1x1024_1
      (Host.reduce FloatOps.maximumf x0 (constant (F := Ideal) S_ .f32 0xFF800000#32) reducesTo_S128256x1024_S1024_d0 h_S_) (ix2 0 k))
      (congrFun h3 (ix2 0 k))
    rw [bT, maxV] at h
    exact h
  refine ⟨fun v => ?_, fun v => ?_, e3, ?_, ?_, fun n => ?_⟩
  · have h := of_true (broadcastInDim S128256x1024 ![] bcast_S_S128256x1024 (constant (F := Ideal) S_ .f32 0xFF61B1E6#32) (ix2 v k) ≤ x0 (ix2 v k)) (congrFun h1 (ix2 v k))
    rw [bS _ _ rfl] at h
    exact h
  · have h := of_true (x0 (ix2 v k) ≤ -(broadcastInDim S128256x1024 ![] bcast_S_S128256x1024 (constant (F := Ideal) S_ .f32 0xFF61B1E6#32) (ix2 v k))) (congrFun h2 (ix2 v k))
    rw [bS _ _ rfl] at h
    exact h
  · have h := of_true (x6 (ix2 0 k) = broadcastInDim S1x1024 ![1] bcast_S1024_S1x1024_1
      (Host.reduceAdd (Host.exp (subf x0 (broadcastInDim S128256x1024 ![0, 1] bcast_S1x1024_S128256x1024_0_1 x5)))
        (constant (F := Ideal) S_ .f32 0x00000000#32) reducesTo_S128256x1024_S1024_d0 h_S_) (ix2 0 k)) (congrFun h4 (ix2 0 k))
    rw [bT, sumV] at h
    rw [h]
    refine Finset.sum_congr rfl fun v _ => ?_
    show Ideal.exp (x0 (ix2 v k) - broadcastInDim S128256x1024 ![0, 1] bcast_S1x1024_S128256x1024_0_1 x5 (ix2 v k)) = _
    rw [bM]
  · have h := of_true (x7 (ix2 0 k) = broadcastInDim S1x1024 ![1] bcast_S1024_S1x1024_1
      (Host.reduceAdd (select (cmpi .eq (iotaInDim S128256x1024 32 0) (broadcastInDim S128256x1024 ![0, 1] bcast_S1x1024_S128256x1024_0_1 x4)) x0
          (broadcastInDim S128256x1024 ![] bcast_S_S128256x1024 (constant (F := Ideal) S_ .f32 0x00000000#32)))
        (constant (F := Ideal) S_ .f32 0x00000000#32) reducesTo_S128256x1024_S1024_d0 h_S_) (ix2 0 k)) (congrFun h5 (ix2 0 k))
    rw [bT, sumV] at h
    rw [h]
    refine Finset.sum_congr rfl fun v _ => ?_
    rw [hitA, bS _ _ rfl, zero_bits]
  · have h := of_true (x8 (ix3 n 0 k) = broadcastInDim S167x1x1024 ![0, 2] bcast_S167x1024_S167x1x1024_0_2
      (Host.reduce FloatOps.maximumf (shapeCast S167x768x1024
        (select (cmpi .eq (iotaInDim S128256x1024 32 0) (broadcastInDim S128256x1024 ![0, 1] bcast_S1x1024_S128256x1024_0_1 x4))
          (broadcastInDim S128256x1024 ![] bcast_S_S128256x1024 (constant (F := Ideal) S_ .f32 0xFF61B1E6#32)) x0) shapeCasts_S128256x1024_S167x768x1024)
        (constant (F := Ideal) S_ .f32 0xFF800000#32) reducesTo_S167x768x1024_S167x1024_d1 h_S_) (ix3 n 0 k)) (congrFun h6 (ix3 n 0 k))
    rw [bC, maxC] at h
    refine h.trans ?_
    refine Finset.fold_congr fun r _ => ?_
    rw [hitA, bS _ _ rfl]

end Cert.Pre_statistics_of_the_logits
-- ==== Proof.RefVal.lean ====
module
public import proofs.«01_k».proof.Proof.RefRun
public import proofs.«01_k».proof.Proof.Spec
public import Idealize.ShloMosaic.Lib.Pipeline.ValueKit
@[expose] public section
set_option maxRecDepth 16384
noncomputable section

/-! The reference's four results at an index, as the mathematics of `Cert.Spec`. -/

namespace Cert.ReferenceIdeal.RefVal
open Cert.ReferenceIdeal Cert.ReferenceIdeal.Gen Cert.Spec Idealize.ShloMosaic Idealize.ShloMosaic.TcCoe

variable (v10 : Vec Ideal S1x1024 .i32) (v12 : Vec Ideal S128256x1024 .f32)

theorem g_at (t : Fin 1024) (n : Fin 167) (r : Fin 768) :
    k0_pay10 v10 v12 (ix3 t n r) = rG (fun v => v12 (ix2 v t)) (v10 (ix2 0 t)) ⟨n.val * 768 + r.val, clt n r⟩ := by
  pointwise [k0_pay10]
  rfl

def yOf (g : FVec Ideal S1024x167x768 .f32) : FVec Ideal S1024x167 .f32 :=
  mulf (multiReduction .maximumf [2] S1024x167 (absf g) 0xFF800000#32 reduces_S1024x167x768_S1024x167 (.inl rfl) rfl)
    (broadcast S1024x167 (Scalar.ofBits .f32 0x37924925#32))

theorem maxOf_at (g : FVec Ideal S1024x167x768 .f32) (t : Fin 1024) (n : Fin 167) :
    (multiReduction .maximumf [2] S1024x167 g 0xFF800000#32 reduces_S1024x167x768_S1024x167 (.inl rfl) rfl) (ix2 t n)
      = Finset.fold max ninf (fun r : Fin 768 => g (ix3 t n r)) Finset.univ := by
  pointwise

theorem absf_at (g : FVec Ideal S1024x167x768 .f32) (i : S1024x167x768.Idx) : absf g i = max (g i) (-(g i)) := rfl

theorem mulf_at (a : FVec Ideal S1024x167 .f32) (i : S1024x167.Idx) :
    mulf a (broadcast S1024x167 (Scalar.ofBits .f32 0x37924925#32)) i = a i * cy := rfl

theorem yOf_at (g : FVec Ideal S1024x167x768 .f32) (t : Fin 1024) (n : Fin 167) :
    yOf g (ix2 t n) = Finset.fold max ninf (fun r : Fin 768 => max (g (ix3 t n r)) (-(g (ix3 t n r)))) Finset.univ * cy := by
  unfold yOf
  rw [mulf_at, maxOf_at]
  simp only [absf_at]

theorem pay11_eq : k0_pay11 v10 v12 = yOf (k0_pay10 v10 v12) := rfl

theorem y_at (t : Fin 1024) (n : Fin 167) :
    k0_pay11 v10 v12 (ix2 t n) = rY (fun v => v12 (ix2 v t)) (v10 (ix2 0 t)) n := by
  rw [pay11_eq, yOf_at]
  simp only [g_at]
  rfl

def eOf (y : FVec Ideal S1024x167 .f32) : FVec Ideal S1024x167 .f32 :=
  addf (floor (divf (log y) (log (broadcast S1024x167 (Scalar.ofBits .f32 0x40000000#32)))))
    (broadcast S1024x167 (Scalar.ofBits .f32 0x3F800000#32))

theorem pay12_eq : k0_pay12 v10 v12 = eOf (k0_pay11 v10 v12) := rfl

theorem eOf_at (y : FVec Ideal S1024x167 .f32) (t : Fin 1024) (n : Fin 167) :
    k0_pay1 y (eOf y) k0_pay13 (ix2 t n) = rE (y (ix2 t n)) := by
  pointwise [k0_pay1, eOf, k0_pay13]
  rfl

theorem e_at (t : Fin 1024) (n : Fin 167) :
    k0_pay1 (k0_pay11 v10 v12) (k0_pay12 v10 v12) k0_pay13 (ix2 t n) = rE (rY (fun v => v12 (ix2 v t)) (v10 (ix2 0 t)) n) := by
  rw [pay12_eq, eOf_at, y_at]

section
variable (v29 : FVec Ideal S1024x167x768 .f32) (v33 v40 v41 : FVec Ideal S1024x167 .f32)

theorem pay3_at (t : Fin 1024) (n : Fin 167) (r : Fin 768) :
    k0_pay3 v29 v33 v40 v41 (ix3 t n r)
      = min hi (max lo (v29 (ix3 t n r) * Ideal.exp2 (0 - k0_pay1 v33 v40 v41 (ix2 t n)))) := by
  pointwise [k0_pay3]
  rfl
theorem pay4_at (t : Fin 1024) (v : Fin 128256) :
    k0_pay4 v29 v33 v40 v41 (ix2 t v) = k0_pay3 v29 v33 v40 v41 (ix3 t ⟨v.val / 768, dlt v⟩ ⟨v.val % 768, Nat.mod_lt _ (by decide)⟩)
      * Ideal.exp2 (k0_pay1 v33 v40 v41 (ix2 t ⟨v.val / 768, dlt v⟩)) := by
  pointwise [k0_pay4, k0_pay2]
  rfl
theorem pay7_at (t : Fin 1024) (n : Fin 167) :
    k0_pay7 v33 v40 v41 (ix3 n 0 t) = Ideal.exp2 (k0_pay1 v33 v40 v41 (ix2 t n)) := by
  pointwise [k0_pay7, k0_pay2]
  rfl
theorem pay6_at (t : Fin 1024) (v : Fin 128256) :
    k0_pay6 v29 v33 v40 v41 (ix2 t v) = k0_pay3 v29 v33 v40 v41 (ix3 t ⟨v.val / 768, dlt v⟩ ⟨v.val % 768, Nat.mod_lt _ (by decide)⟩) := by
  pointwise [k0_pay6]
theorem pay5_at (v9 : Vec Ideal S1024x1024 .bf16) (v : Fin 128256) (d : Fin 1024) :
    k0_pay5 v9 v29 v33 v40 v41 (ix2 v d) = ∑ x : Fin 1024, k0_pay4 v29 v33 v40 v41 (ix2 x v) * v9 (ix2 x d) := by
  pointwise [k0_pay5]
theorem pay8_at (v8 : Vec Ideal S128256x1024 .bf16) (t : Fin 1024) (d : Fin 1024) :
    k0_pay8 v8 v29 v33 v40 v41 (ix2 t d) = ∑ x : Fin 128256, k0_pay4 v29 v33 v40 v41 (ix2 t x) * v8 (ix2 x d) := by
  pointwise [k0_pay8]
end

theorem pay9_at (v0 : Vec Ideal S128256x1024 .fp8e4m3) (v3 : Vec Ideal S1002x8 .f32) (v : Fin 128256) (d : Fin 1024) :
    k0_pay9 v0 v3 (ix2 v d) = v0 (ix2 v d) * v3 (ix2 ⟨v.val / 128, by have := v.isLt; omega⟩ ⟨d.val / 128, by have := d.isLt; omega⟩) := by
  pointwise [k0_pay9]

theorem code_at (t : Fin 1024) (v : Fin 128256) :
    k0_pay3 (k0_pay10 v10 v12) (k0_pay11 v10 v12) (k0_pay12 v10 v12) k0_pay13
        (ix3 t ⟨v.val / 768, dlt v⟩ ⟨v.val % 768, Nat.mod_lt _ (by decide)⟩)
      = rCode (fun v => v12 (ix2 v t)) (v10 (ix2 0 t)) v := by
  rw [pay3_at, e_at, g_at]
  have e : (⟨(⟨v.val / 768, dlt v⟩ : Fin 167).val * 768 + (⟨v.val % 768, Nat.mod_lt _ (by decide)⟩ : Fin 768).val, clt _ _⟩ : Fin 128256) = v :=
    Fin.ext (by show v.val / 768 * 768 + v.val % 768 = v.val; omega)
  rw [e]
  rfl

theorem gq_at (t : Fin 1024) (v : Fin 128256) :
    k0_pay4 (k0_pay10 v10 v12) (k0_pay11 v10 v12) (k0_pay12 v10 v12) k0_pay13 (ix2 t v)
      = rGq (fun v => v12 (ix2 v t)) (v10 (ix2 0 t)) v := by
  rw [pay4_at, code_at, e_at]
  rfl

end Cert.ReferenceIdeal.RefVal
-- ==== Proof.KFinal.lean ====
module
public import proofs.«01_k».proof.Proof.KVal
public import proofs.«01_k».proof.Proof.PreVal
public import proofs.«01_k».proof.Proof.RefVal
@[expose] public section
set_option maxRecDepth 16384
noncomputable section

/-! The kernel's results are the reference's results. -/

namespace Cert.KernelIdeal.Blk
open Cert.KernelIdeal Cert.KernelIdeal.Gen Cert.KernelIdeal.Value Cert.Spec Idealize.ShloMosaic Idealize.ShloMosaic.TcCoe
variable (m : (ℓ : Loc nD τ sig) → Buf (Elt Ideal) ℓ) (c : Dev nD)

abbrev r9 := Cert.ReferenceIdeal.RefRun.G9 (F := Ideal) (a0 m c) (a1 m c) (a2 m c) (a3 m c) (a4 m c) (a5 m c) (a6 m c) (a7 m c) (a8 m c)
abbrev r10 := Cert.ReferenceIdeal.RefRun.G10 (F := Ideal) (a0 m c) (a1 m c) (a2 m c) (a3 m c) (a4 m c) (a5 m c) (a6 m c) (a7 m c) (a8 m c)
abbrev r11 := Cert.ReferenceIdeal.RefRun.G11 (F := Ideal) (a0 m c) (a1 m c) (a2 m c) (a3 m c) (a4 m c) (a5 m c) (a6 m c) (a7 m c) (a8 m c)
abbrev r12 := Cert.ReferenceIdeal.RefRun.G12 (F := Ideal) (a0 m c) (a1 m c) (a2 m c) (a3 m c) (a4 m c) (a5 m c) (a6 m c) (a7 m c) (a8 m c)

theorem p14 (x0 : Vec Ideal Cert.ReferenceIdeal.S128256x1024 .f32) x1 x2 x3 x4 x5 x6 x7 x8 :
    Cert.ReferenceIdeal.Gen.k0_pay14 (F := Ideal) x0 x1 x2 x3 x4 x5 x6 x7 x8 = Cert.ReferenceIdeal.Gen.k0_pay10 x4 x0 := by
  unfold Cert.ReferenceIdeal.Gen.k0_pay14
  rw [View.ld_unit_zero (S := Cert.ReferenceIdeal.S1x1024) Cert.ReferenceIdeal.RefRun.hz4 _ x4, View.ld_unit_zero (S := Cert.ReferenceIdeal.S128256x1024) Cert.ReferenceIdeal.RefRun.hz0 _ x0]

theorem p15 (x0 : Vec Ideal Cert.ReferenceIdeal.S128256x1024 .f32) x1 x2 x3 x4 x5 x6 x7 x8 :
    Cert.ReferenceIdeal.Gen.k0_pay15 (F := Ideal) x0 x1 x2 x3 x4 x5 x6 x7 x8 = Cert.ReferenceIdeal.Gen.k0_pay11 x4 x0 := by
  unfold Cert.ReferenceIdeal.Gen.k0_pay15
  rw [View.ld_unit_zero (S := Cert.ReferenceIdeal.S1x1024) Cert.ReferenceIdeal.RefRun.hz4 _ x4, View.ld_unit_zero (S := Cert.ReferenceIdeal.S128256x1024) Cert.ReferenceIdeal.RefRun.hz0 _ x0]

theorem p16 (x0 : Vec Ideal Cert.ReferenceIdeal.S128256x1024 .f32) x1 x2 x3 x4 x5 x6 x7 x8 :
    Cert.ReferenceIdeal.Gen.k0_pay16 (F := Ideal) x0 x1 x2 x3 x4 x5 x6 x7 x8 = Cert.ReferenceIdeal.Gen.k0_pay12 x4 x0 := by
  unfold Cert.ReferenceIdeal.Gen.k0_pay16
  rw [View.ld_unit_zero (S := Cert.ReferenceIdeal.S1x1024) Cert.ReferenceIdeal.RefRun.hz4 _ x4, View.ld_unit_zero (S := Cert.ReferenceIdeal.S128256x1024) Cert.ReferenceIdeal.RefRun.hz0 _ x0]

theorem p17 (x0 : Vec Ideal Cert.ReferenceIdeal.S128256x1024 .f32) x1 x2 x3 x4 x5 x6 x7 x8 :
    Cert.ReferenceIdeal.Gen.k0_pay17 (F := Ideal) x0 x1 x2 x3 x4 x5 x6 x7 x8 = Cert.ReferenceIdeal.Gen.k0_pay13 := rfl

theorem r9_at (v : Fin 128256) (d : Fin 1024) :
    r9 m c (ix2 v d) = ∑ k : Fin 1024, rGq (row m c k) (a4 m c (ix2 0 k)) v * a3 m c (ix2 k d) := by
  unfold r9 Cert.ReferenceIdeal.RefRun.G9
  rw [p14, p15, p16, p17, Cert.ReferenceIdeal.RefVal.pay5_at]
  refine Finset.sum_congr rfl fun k _ => ?_
  rw [Cert.ReferenceIdeal.RefVal.gq_at]

theorem r10_at (k : Fin 1024) (v : Fin 128256) : r10 m c (ix2 k v) = rCode (row m c k) (a4 m c (ix2 0 k)) v := by
  unfold r10 Cert.ReferenceIdeal.RefRun.G10
  rw [p14, p15, p16, p17, Cert.ReferenceIdeal.RefVal.pay6_at, Cert.ReferenceIdeal.RefVal.code_at]

theorem r11_at (n : Fin 167) (k : Fin 1024) :
    r11 m c (ix3 n 0 k) = Ideal.exp2 (rE (rY (row m c k) (a4 m c (ix2 0 k)) n)) := by
  unfold r11 Cert.ReferenceIdeal.RefRun.G11
  rw [p15, p16, p17, Cert.ReferenceIdeal.RefVal.pay7_at, Cert.ReferenceIdeal.RefVal.e_at]

/-- One vocabulary row's share of a token's gradient. -/
def share (k d : Fin 1024) (v : Fin 128256) : EReal :=
  rGq (row m c k) (a4 m c (ix2 0 k)) v
    * (a1 m c (ix2 v d) * a2 m c (ix2 ⟨v.val / 128, by have := v.isLt; omega⟩ ⟨d.val / 128, by have := d.isLt; omega⟩))

theorem r12_at (k d : Fin 1024) : r12 m c (ix2 k d) = ∑ v : Fin 128256, share m c k d v := by
  unfold r12 Cert.ReferenceIdeal.RefRun.G12
  rw [p14, p15, p16, p17, Cert.ReferenceIdeal.RefVal.pay8_at]
  refine Finset.sum_congr rfl fun v _ => ?_
  rw [Cert.ReferenceIdeal.RefVal.gq_at, Cert.ReferenceIdeal.RefVal.pay9_at]
  rfl

theorem N0 : cfg0.N = 167 := N_0

section
variable {m c} (h : Stats m c)
include h

theorem g9_eq : G9 m c = r9 m c := by
  funext i
  have hv := (i 0).isLt
  have hn : (i 0).val / 768 < cfg0.N := by rw [N0]; exact dlt (i 0)
  obtain ⟨v, d, rfl⟩ : ∃ (v : Fin 128256) (d : Fin 1024), i = ix2 v d := ⟨i 0, i 1, idx_eq2 _ _ rfl rfl⟩
  rw [G9_apply m c _ hn, r9_at]
  refine (bDW_at _ _ _ _ _ _ _ _ _ _).trans ?_
  refine Finset.sum_congr rfl fun k _ => ?_
  rw [bGb_eq h _ _ k v (by show v.val = v.val / 768 * 768 + v.val % 768; omega), B3_at]
  rfl

theorem g10_eq : G10 m c = r10 m c := by
  funext i
  have hn : (i 1).val / 768 < cfg0.N := by rw [N0]; exact dlt (i 1)
  obtain ⟨k, v, rfl⟩ : ∃ (k : Fin 1024) (v : Fin 128256), i = ix2 k v := ⟨i 0, i 1, idx_eq2 _ _ rfl rfl⟩
  rw [G10_apply m c _ hn, r10_at]
  exact bCb_eq h _ _ k v (by show v.val = v.val / 768 * 768 + v.val % 768; omega)

theorem g11_eq : G11 m c = r11 m c := by
  funext i
  have hn : (i 0).val < cfg0.N := by rw [N0]; exact (i 0).isLt
  obtain ⟨n, k, rfl⟩ : ∃ (n : Fin 167) (k : Fin 1024), i = ix3 n 0 k := ⟨i 0, i 2, by
    funext a; apply Fin.ext; fin_cases a
    · rfl
    · have h1 : (i 1).val < 1 := (i 1).isLt
      show (i 1).val = 0
      omega
    · rfl⟩
  rw [G11_apply m c _ hn, r11_at]
  exact bScale_eq h _ k

theorem kDX_at (t : Fin cfg0.N) (k d : Fin 1024) :
    kDX m c t (ix2 k d) = ∑ r : Fin 768, share m c k d ⟨t.val * 768 + r.val, clt ⟨t.val, ct t⟩ r⟩ := by
  refine (bDX_at _ _ _ _ _ _ _ _ _ _ _).trans ?_
  refine Finset.sum_congr rfl fun r _ => ?_
  rw [bGb_eq h t r k ⟨t.val * 768 + r.val, clt ⟨t.val, ct t⟩ r⟩ rfl, bWq_eq m c t r d ⟨t.val * 768 + r.val, clt ⟨t.val, ct t⟩ r⟩ rfl]
  rfl

/-- The share of chunk `j`. -/
def chunk (m : (ℓ : Loc nD τ sig) → Buf (Elt Ideal) ℓ) (c : Dev nD) (k d : Fin 1024) (j : Nat) : EReal :=
  if hj : j < 167 then ∑ r : Fin 768, share m c k d ⟨j * 768 + r.val, clt ⟨j, hj⟩ r⟩ else 0

theorem acc_sum (k d : Fin 1024) (n : Nat) (hn : 0 + n < cfg0.N) :
    (A m c n hn).2.2.2.2 (ix2 k d) = ∑ j ∈ Finset.range (n + 1), chunk m c k d j := by
  induction n with
  | zero =>
    have h0 : 0 < cfg0.N := by rw [N0]; decide
    rw [A_acc0 m c hn h0]
    show Ideal.ofBits FTy.f32 0x00000000#32 + kDX m c ⟨0, h0⟩ (ix2 k d) = _
    rw [zero_bits, zero_add, kDX_at h]
    simp [chunk]
  | succ n ih =>
    have h1 : n + 1 < cfg0.N := by omega
    have h2 : n + 1 < 167 := by rw [N0] at h1; exact h1
    rw [A_acc m c n hn (by omega) h1, Finset.sum_range_succ, ← ih (by omega)]
    show (A m c n _).2.2.2.2 (ix2 k d) + kDX m c ⟨n + 1, h1⟩ (ix2 k d) = _
    rw [kDX_at h]
    refine congrArg _ ?_
    unfold chunk
    rw [dif_pos h2]

theorem sum_chunks (f : Fin 128256 → EReal) :
    ∑ v, f v = ∑ n : Fin 167, ∑ r : Fin 768, f ⟨n.val * 768 + r.val, clt n r⟩ := by
  rw [← Fintype.sum_prod_type']
  refine (Fintype.sum_equiv (finProdFinEquiv (m := 167) (n := 768)) _ _ fun p => ?_).symm
  refine congrArg f (Fin.ext ?_)
  show p.1.val * 768 + p.2.val = p.2.val + 768 * p.1.val
  omega

theorem g12_at (n : Nat) (e : n + 1 = 166) (hn : 0 + (n + 1) < cfg0.N) (k d : Fin 1024) :
    (A m c (n + 1) hn).2.2.2.1 (ix2 k d) = ∑ v, share m c k d v := by
  have h1 : n + 1 < cfg0.N := by omega
  rw [A_dx m c n hn (by omega) h1 e]
  show (A m c n _).2.2.2.2 (ix2 k d) + kDX m c ⟨n + 1, h1⟩ (ix2 k d) = _
  rw [acc_sum h k d n (by omega), kDX_at h, sum_chunks h]
  have e2 : ∑ r : Fin 768, share m c k d ⟨(⟨n + 1, h1⟩ : Fin cfg0.N).val * 768 + r.val, clt ⟨(⟨n + 1, h1⟩ : Fin cfg0.N).val, ct ⟨n + 1, h1⟩⟩ r⟩
      = chunk m c k d (n + 1) := by
    unfold chunk
    rw [dif_pos (by omega)]
  rw [e2, ← Finset.sum_range_succ, show n + 1 + 1 = 167 by omega, Finset.sum_range]
  refine Finset.sum_congr rfl fun j _ => ?_
  unfold chunk
  rw [dif_pos j.isLt]

theorem g12_eq : G12 m c = r12 m c := by
  rw [G12_last]
  funext i
  obtain ⟨k, d, rfl⟩ : ∃ (k d : Fin 1024), i = ix2 k d := ⟨i 0, i 1, idx_eq2 _ _ rfl rfl⟩
  rw [r12_at]
  have gen : ∀ (n : Nat) (hn : 0 + n < cfg0.N), n = 166 → (A m c n hn).2.2.2.1 (ix2 k d) = ∑ v, share m c k d v := by
    intro n hn e
    obtain ⟨q, rfl⟩ : ∃ q, n = q + 1 := ⟨n - 1, by omega⟩
    exact g12_at h q e hn k d
  exact gen 166 _ rfl

end

end Cert.KernelIdeal.Blk
-- ==== Proof.QSpec.lean ====
module
public import proofs.«01_k».proof.Proof.MathE
@[expose] public section
set_option maxRecDepth 16384
noncomputable section

/-! The quantisation of one token's row of 1024 activations in groups of 128: the reference's mathematics, and the kernel's. -/

namespace Cert.Spec
open Idealize.ShloMosaic

abbrev cq : EReal := Ideal.ofBits FTy.f32 0x3B124925#32
abbrev hi8 : EReal := Ideal.ofBits FTy.f32 0x43E00000#32
abbrev lo8 : EReal := Ideal.ofBits FTy.f32 0xC3E00000#32
abbrev big : EReal := Ideal.ofBits FTy.f32 0x7F7F0000#32

theorem glt (j : Fin 8) (r : Fin 128) : j.val * 128 + r.val < 1024 := by have := j.isLt; have := r.isLt; omega
theorem gdiv (d : Fin 1024) : d.val / 128 < 8 := by have := d.isLt; omega

section
variable (x : Fin 1024 → EReal)

/-- The largest absolute value of a group, over 448. -/
def qY (j : Fin 8) : EReal :=
  Finset.fold max ninf (fun r : Fin 128 => max (x ⟨j.val * 128 + r.val, glt j r⟩) (-(x ⟨j.val * 128 + r.val, glt j r⟩))) Finset.univ * cq

def qScale (j : Fin 8) : EReal := Ideal.exp2 (rE (qY x j))
def qCode (d : Fin 1024) : EReal := min hi8 (max lo8 (x d * Ideal.exp2 (0 - rE (qY x ⟨d.val / 128, gdiv d⟩))))
def qHq (d : Fin 1024) : EReal := qCode x d * qScale x ⟨d.val / 128, gdiv d⟩

/-- The kernel's scale, codes and widened codes, by the search for the exponent field. -/
def kScale (j : Fin 8) : EReal := sScale (F := Ideal) (qY x j)
def kCode (d : Fin 1024) : EReal := min hi8 (max lo8 (x d * sInv (F := Ideal) (qY x ⟨d.val / 128, gdiv d⟩)))
def kHq (d : Fin 1024) : EReal := kCode x d * kScale x ⟨d.val / 128, gdiv d⟩
end

theorem ofBits32' (b : BitVec 32) : Ideal.ofBits FTy.f32 b = Ideal.ieee 8 23 b := rfl

theorem ninf_bot : ninf = ⊥ := by
  unfold ninf
  rw [ofBits32']
  unfold Ideal.ieee
  have h1 : (0xFF800000#32).extractLsb' 31 1 = 1#1 := by decide
  have h2 : ((0xFF800000#32).extractLsb' 23 8).toNat = 255 := by decide
  have h3 : ((0xFF800000#32).extractLsb' 0 23).toNat = 0 := by decide
  simp only [Nat.reduceAdd]
  rw [h1, h2, h3]
  simp

theorem cq_real : ∃ c : ℝ, cq = (c : EReal) ∧ 0 ≤ c ∧ c ≤ (2 : ℝ) ^ (-8 : ℤ) := by
  unfold cq
  rw [ofBits32']
  unfold Ideal.ieee
  have h1 : (0x3B124925#32).extractLsb' 31 1 = 0#1 := by decide
  have h2 : ((0x3B124925#32).extractLsb' 23 8).toNat = 118 := by decide
  have h3 : ((0x3B124925#32).extractLsb' 0 23).toNat = 1198373 := by decide
  simp only [Nat.reduceAdd]
  rw [h1, h2, h3]
  refine ⟨1 * (2 ^ 23 + 1198373 : ℕ) * (2 : ℝ) ^ (-32 : ℤ), ?_, ?_, ?_⟩
  · rw [if_neg (by decide), if_neg (by decide)]
    refine congrArg (fun r : ℝ => (r : EReal)) ?_
    rw [if_neg (by decide)]
    rfl
  · positivity
  · rw [show (-8 : ℤ) = 24 + (-32) by norm_num, zpow_add₀ (by norm_num)]
    refine mul_le_mul_of_nonneg_right ?_ (by positivity)
    norm_num

theorem big_real : ∃ b : ℝ, big = (b : EReal) ∧ 0 ≤ b ∧ b ≤ (2 : ℝ) ^ (128 : ℤ) := by
  unfold big
  rw [ofBits32']
  unfold Ideal.ieee
  have h1 : (0x7F7F0000#32).extractLsb' 31 1 = 0#1 := by decide
  have h2 : ((0x7F7F0000#32).extractLsb' 23 8).toNat = 254 := by decide
  have h3 : ((0x7F7F0000#32).extractLsb' 0 23).toNat = 8323072 := by decide
  simp only [Nat.reduceAdd]
  rw [h1, h2, h3]
  refine ⟨1 * (2 ^ 23 + 8323072 : ℕ) * (2 : ℝ) ^ (104 : ℤ), ?_, ?_, ?_⟩
  · rw [if_neg (by decide), if_neg (by decide)]
    refine congrArg (fun r : ℝ => (r : EReal)) ?_
    rw [if_neg (by decide)]
    rfl
  · positivity
  · rw [show (128 : ℤ) = 24 + 104 by norm_num, zpow_add₀ (by norm_num)]
    refine mul_le_mul_of_nonneg_right ?_ (by positivity)
    norm_num

/-- Every entry of the row lies between the two largest bfloat16 numbers. -/
def Fine (x : Fin 1024 → EReal) : Prop := ∀ d, x d ≤ big ∧ -big ≤ x d

theorem qY_real (x : Fin 1024 → EReal) (h : Fine x) (j : Fin 8) : ∃ y : ℝ, qY x j = (y : EReal) ∧ 0 ≤ y ∧ y < pw 253 := by
  obtain ⟨c, hc, hc0, hc1⟩ := cq_real
  obtain ⟨b, hb, hb0, hb1⟩ := big_real
  unfold qY
  generalize ha : Finset.fold max ninf (fun r : Fin 128 => max (x ⟨j.val * 128 + r.val, glt j r⟩) (-(x ⟨j.val * 128 + r.val, glt j r⟩))) Finset.univ = a
  have hle : a ≤ (b : EReal) := by
    rw [← ha, ← hb]
    refine (Finset.fold_max_le _).mpr ⟨by rw [ninf_bot]; exact bot_le, fun r _ => max_le (h _).1 ?_⟩
    exact EReal.neg_le.mp (h _).2
  have hge : (0 : EReal) ≤ a := by
    rw [← ha]
    refine (Finset.le_fold_max _).mpr (Or.inr ⟨0, Finset.mem_univ _, ?_⟩)
    rcases le_total 0 (x ⟨j.val * 128 + (0 : Fin 128).val, glt j 0⟩) with h0 | h0
    · exact le_max_of_le_left h0
    · exact le_max_of_le_right (EReal.neg_nonneg.mpr h0)
  have hb' : a ≠ ⊥ := by
    intro e; rw [e] at hge; exact absurd hge (not_le.mpr EReal.bot_lt_zero)
  have ht' : a ≠ ⊤ := by
    intro e; rw [e] at hle; exact absurd hle (not_le.mpr (EReal.coe_lt_top _))
  rw [← EReal.coe_toReal ht' hb'] at hle hge ⊢
  have hle' : a.toReal ≤ b := by exact_mod_cast hle
  have hge' : 0 ≤ a.toReal := by exact_mod_cast hge
  refine ⟨a.toReal * c, by rw [hc, EReal.coe_mul], mul_nonneg hge' hc0, ?_⟩
  have h1 : a.toReal * c ≤ (2 : ℝ) ^ (128 : ℤ) * (2 : ℝ) ^ (-8 : ℤ) :=
    mul_le_mul (hle'.trans hb1) hc1 hc0 (by positivity)
  rw [← zpow_add₀ (by norm_num)] at h1
  have h2 : pw 253 = (2 : ℝ) ^ (126 : ℤ) := by unfold pw; rw [if_neg (by decide)]; norm_num
  rw [h2]
  refine lt_of_le_of_lt h1 (zpow_lt_zpow_right₀ (by norm_num) (by norm_num))

theorem kScale_eq (x : Fin 1024 → EReal) (h : Fine x) (j : Fin 8) : kScale x j = qScale x j := by
  obtain ⟨y, hy, h0, h1⟩ := qY_real x h j
  unfold kScale qScale
  rw [hy]
  exact (scale_eq_wide y h0 h1).1

theorem kCode_eq (x : Fin 1024 → EReal) (h : Fine x) (d : Fin 1024) : kCode x d = qCode x d := by
  obtain ⟨y, hy, h0, h1⟩ := qY_real x h ⟨d.val / 128, gdiv d⟩
  unfold kCode qCode
  rw [hy, (scale_eq_wide y h0 h1).2]

theorem kHq_eq (x : Fin 1024 → EReal) (h : Fine x) (d : Fin 1024) : kHq x d = qHq x d := by
  unfold kHq qHq
  rw [kCode_eq x h, kScale_eq x h]

end Cert.Spec
-- ==== Proof.QTile.lean ====
module
public import proofs.«01_k».proof.Proof.Gen.QuantIdeal.Frame
public import proofs.«01_k».proof.Proof.QSpec
public import Idealize.ShloMosaic.Lib.Pipeline.ValueKit
public import Idealize.ShloMosaic.Lib.Pipeline.ReadBack
@[expose] public section
set_option maxRecDepth 16384
set_option maxHeartbeats 4000000
noncomputable section

/-! What the quantisation's kernel leaves in its four output blocks, from the block of activations. -/

namespace Cert.QuantIdeal.Blk
open Cert.QuantIdeal Cert.QuantIdeal.Gen Cert.Spec Idealize.ShloMosaic Idealize.ShloMosaic.TcCoe

section
variable {F : FTy → Type} [FloatOps F]

/-- One step of the search for the exponent field. -/
def vStep (b : BitVec 32) (y : FVec F S256x1 .f32) (e : IVec S256x1 32) : IVec S256x1 32 :=
  select (cmpf .olt y (bitcastToFloat .f32 (shli (addi e (broadcast S256x1 b)) (broadcast S256x1 23#32)))) e
    (addi e (broadcast S256x1 b))

def vEx (y : FVec F S256x1 .f32) : IVec S256x1 32 :=
  vStep 1#32 y (vStep 2#32 y (vStep 4#32 y (vStep 8#32 y (vStep 16#32 y (vStep 32#32 y (vStep 64#32 y
    (vStep 128#32 y (broadcast S256x1 0#32))))))))

def vE (x : IVec S256x1 32) : IVec S256x1 32 :=
  select (cmpi .eq x (broadcast S256x1 0#32)) (broadcast S256x1 0#32) (subi x (broadcast S256x1 126#32))

def vScale (y : FVec F S256x1 .f32) : FVec F S256x1 .f32 :=
  bitcastToFloat .f32 (shli (addi (vE (vEx y)) (broadcast S256x1 127#32)) (broadcast S256x1 23#32))

def vInv (y : FVec F S256x1 .f32) : FVec F S256x1 .f32 :=
  bitcastToFloat .f32 (shli (subi (broadcast S256x1 127#32) (vE (vEx y))) (broadcast S256x1 23#32))

def vMax (x : FVec F S256x128 .f32) : FVec F S256 .f32 :=
  multiReduction .maximumf [1] S256 x 0xFF800000#32 reduces_S256x128_S256 (.inl rfl) rfl

def vY (x : FVec F S256x128 .f32) : FVec F S256x1 .f32 :=
  mulf (shapeCast S256x1 (vMax (absf x)) shapeCasts_S256_S256x1) (broadcast S256x1 (Scalar.ofBits .f32 0x3B124925#32))

def vCode (x : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf x (broadcastTo S256x128 (vInv (vY x)) broadcasts_S256x1_S256x128)))) bitsLt_fp8e4m3_f32

def vHq (x : FVec F S256x128 .f32) : FVec F S256x128 .bf16 :=
  mulf (extf .bf16 (vCode x) bitsLt_fp8e4m3_bf16)
    (broadcastTo S256x128 (truncf .bf16 (vScale (vY x)) bitsLt_bf16_f32) broadcasts_S256x1_S256x128)

def vHqt (x : FVec F S256x128 .f32) : FVec F S128x256 .bf16 :=
  transpose S128x256 [1, 0] (vHq x) transposes_S256x128_p1_0_S128x256

theorem inbT (C : Nat) (hC : C + 128 ≤ 1024) : ∀ a : Fin 2, (![0, C] : Fin 2 → Nat) a + (![256, 128] : Fin 2 → Nat) a ≤ S256x1024.size a := by
  intro a; fin_cases a
  · exact Nat.le_refl 256
  · exact hC

/-- A group of 128 columns of the block, widened. -/
abbrev ldT (X : Vec F S256x1024 .bf16) (C : Nat) (hC : C + 128 ≤ 1024) : FVec F S256x128 .f32 :=
  extf .f32 (View.ld X (Rect.unit (s := S256x1024) ![0, C] ![256, 128] (inbT C hC)) : Vec F S256x128 .bf16) bitsLt_bf16_f32

end

theorem ldT_apply (X : Vec Ideal S256x1024 .bf16) (C : Nat) (hC : C + 128 ≤ 1024) (p : Fin 256) (l : Fin 128) (d : Fin 1024) (h : d.val = C + l.val) :
    ldT X C hC (ix2 p l) = X (ix2 p d) := by
  refine View.ld_unit_apply_of X _ _ _ _ _ fun a => ?_
  fin_cases a
  · show p.val = 0 + p.val
    omega
  · exact h

theorem vMax_at (x : FVec Ideal S256x128 .f32) (p : Fin 256) :
    vMax x (ix1 p) = Finset.fold max ninf (fun r : Fin 128 => x (ix2 p r)) Finset.univ := by
  pointwise [vMax]

theorem col_at {α : Type} (f : S256.Idx → α) (p : Fin 256) : shapeCast S256x1 f shapeCasts_S256_S256x1 (ix2 p 0) = f (ix1 p) := by
  pointwise

theorem vY_at' (x : FVec Ideal S256x128 .f32) (p : Fin 256) :
    vY x (ix2 p 0) = Finset.fold max ninf (fun r : Fin 128 => max (x (ix2 p r)) (-(x (ix2 p r)))) Finset.univ * cq := by
  have h : vY x (ix2 p 0) = shapeCast S256x1 (vMax (absf x)) shapeCasts_S256_S256x1 (ix2 p 0) * cq := rfl
  rw [h, col_at, vMax_at]
  rfl

theorem vScale_apply (y : FVec Ideal S256x1 .f32) (x : S256x1.Idx) : vScale y x = sScale (y x) := rfl
theorem vInv_apply (y : FVec Ideal S256x1 .f32) (x : S256x1.Idx) : vInv y x = sInv (y x) := rfl

theorem bc_apply {α : Type} (v : S256x1.Idx → α) (p : Fin 256) (l : Fin 128) :
    broadcastTo S256x128 v broadcasts_S256x1_S256x128 (ix2 p l) = v (ix2 p 0) := by
  pointwise

theorem tr_apply {α : Type} (v : S256x128.Idx → α) (p : Fin 256) (l : Fin 128) :
    transpose S128x256 [1, 0] v transposes_S256x128_p1_0_S128x256 (ix2 l p) = v (ix2 p l) := by
  pointwise

theorem eta2 {n0 n1 : Nat} (x : (⟨2, ![n0, n1]⟩ : Shape).Idx) : x = ix2 (x 0) (x 1) := by
  funext a; fin_cases a <;> rfl

/-- The activations of one token of the block. -/
abbrev row (X : Vec Ideal S256x1024 .bf16) (p : Fin 256) : Fin 1024 → EReal := fun d => X (ix2 p d)

section
variable (X : Vec Ideal S256x1024 .bf16) (C : Nat) (hC : C + 128 ≤ 1024) (j : Fin 8) (hj : C = j.val * 128)
include hj

theorem vY_at (p : Fin 256) : vY (ldT X C hC) (ix2 p 0) = qY (row X p) j := by
  have e : ∀ r : Fin 128, ldT X C hC (ix2 p r) = row X p ⟨j.val * 128 + r.val, glt j r⟩ := fun r =>
    ldT_apply X C hC p r _ (by show j.val * 128 + r.val = C + r.val; omega)
  rw [vY_at']
  simp only [e]
  rfl

theorem vCode_at (p : Fin 256) (l : Fin 128) (d : Fin 1024) (h : d.val = C + l.val) :
    vCode (ldT X C hC) (ix2 p l) = kCode (row X p) d := by
  have h0 : vCode (ldT X C hC) (ix2 p l) = min hi8 (max lo8 (ldT X C hC (ix2 p l)
    * broadcastTo S256x128 (vInv (vY (ldT X C hC))) broadcasts_S256x1_S256x128 (ix2 p l))) := rfl
  have hd : (⟨d.val / 128, gdiv d⟩ : Fin 8) = j := Fin.ext (by have := l.isLt; show d.val / 128 = j.val; omega)
  rw [h0, bc_apply, vInv_apply, vY_at X C hC j hj, ldT_apply X C hC p l d h]
  unfold kCode
  rw [hd]

theorem vHq_at (p : Fin 256) (l : Fin 128) (d : Fin 1024) (h : d.val = C + l.val) :
    vHq (ldT X C hC) (ix2 p l) = kHq (row X p) d := by
  have h0 : vHq (ldT X C hC) (ix2 p l) = vCode (ldT X C hC) (ix2 p l)
    * broadcastTo S256x128 (vScale (vY (ldT X C hC))) broadcasts_S256x1_S256x128 (ix2 p l) := rfl
  have hd : (⟨d.val / 128, gdiv d⟩ : Fin 8) = j := Fin.ext (by have := l.isLt; show d.val / 128 = j.val; omega)
  rw [h0, bc_apply, vScale_apply, vY_at X C hC j hj, vCode_at X C hC j hj p l d h]
  unfold kHq kScale
  rw [hd]

theorem code_tile (pay : FVec Ideal S256x128 .fp8e4m3) (x : S256x128.Idx) (y : S256x1024.Idx) (hp : pay = vCode (ldT X C hC))
    (h0 : (y 0).val = (x 0).val) (h1 : (y 1).val = C + (x 1).val) : pay x = kCode (row X (y 0)) (y 1) := by
  have e : x = ix2 (y 0) (x 1) := by rw [show y 0 = x 0 from Fin.ext h0]; exact eta2 x
  rw [hp]
  refine (congrArg (vCode (ldT X C hC)) e).trans ?_
  exact vCode_at X C hC j hj (y 0) (x 1) (y 1) h1

theorem hq_tile (pay : FVec Ideal S256x128 .bf16) (x : S256x128.Idx) (y : S256x1024.Idx) (hp : pay = vHq (ldT X C hC))
    (h0 : (y 0).val = (x 0).val) (h1 : (y 1).val = C + (x 1).val) : pay x = kHq (row X (y 0)) (y 1) := by
  have e : x = ix2 (y 0) (x 1) := by rw [show y 0 = x 0 from Fin.ext h0]; exact eta2 x
  rw [hp]
  refine (congrArg (vHq (ldT X C hC)) e).trans ?_
  exact vHq_at X C hC j hj (y 0) (x 1) (y 1) h1

theorem hqt_tile (pay : FVec Ideal S128x256 .bf16) (x : S128x256.Idx) (y : S1024x256.Idx) (hp : pay = vHqt (ldT X C hC))
    (h0 : (y 0).val = C + (x 0).val) (h1 : (y 1).val = (x 1).val) : pay x = kHq (row X (y 1)) (y 0) := by
  have e : x = ix2 (x 0) (y 1) := by rw [show y 1 = x 1 from Fin.ext h1]; exact eta2 x
  rw [hp]
  refine (congrArg (vHqt (ldT X C hC)) e).trans ?_
  refine (tr_apply (vHq (ldT X C hC)) (y 1) (x 0)).trans ?_
  exact vHq_at X C hC j hj (y 1) (x 0) (y 0) h0

theorem scale_tile (pay : FVec Ideal S256x1 .f32) (x : S256x1.Idx) (y : S256x8.Idx) (hp : pay = vScale (vY (ldT X C hC)))
    (h0 : (x 0).val = (y 0).val) (h1 : (y 1).val = j.val) : pay x = kScale (row X (y 0)) (y 1) := by
  have e : x = (ix2 (y 0) 0 : S256x1.Idx) := by
    funext a
    fin_cases a
    · exact Fin.ext h0
    · exact Fin.ext (by have h2 : (x 1).val < 1 := (x 1).isLt; show (x 1).val = 0; omega)
  have e1 : (y 1 : Fin 8) = j := Fin.ext h1
  rw [hp]
  refine (congrArg (vScale (vY (ldT X C hC))) e).trans ?_
  refine (vScale_apply (vY (ldT X C hC)) _).trans ?_
  refine (congrArg (sScale (F := Ideal)) (vY_at X C hC j hj (y 0))).trans ?_
  exact (congrArg (kScale (row X (y 0))) e1).symm

end

theorem code_eq (X : Vec Ideal S256x1024 .bf16) : out0_1 X = fun y : S256x1024.Idx => kCode (row X (y 0)) (y 1) := by
  funext y
  unfold out0_1
  canon_tiles x h
  case piece0 => exact code_tile X 896 (by decide) 7 (by rfl) _ x y (by rfl) (by omega) (by omega)
  case piece1 => exact code_tile X 768 (by decide) 6 (by rfl) _ x y (by rfl) (by omega) (by omega)
  case piece2 => exact code_tile X 640 (by decide) 5 (by rfl) _ x y (by rfl) (by omega) (by omega)
  case piece3 => exact code_tile X 512 (by decide) 4 (by rfl) _ x y (by rfl) (by omega) (by omega)
  case piece4 => exact code_tile X 384 (by decide) 3 (by rfl) _ x y (by rfl) (by omega) (by omega)
  case piece5 => exact code_tile X 256 (by decide) 2 (by rfl) _ x y (by rfl) (by omega) (by omega)
  case piece6 => exact code_tile X 128 (by decide) 1 (by rfl) _ x y (by rfl) (by omega) (by omega)
  case piece7 => exact code_tile X 0 (by decide) 0 (by rfl) _ x y (by rfl) (by omega) (by omega)

theorem hq_eq (X : Vec Ideal S256x1024 .bf16) : out0_3 X = fun y : S256x1024.Idx => kHq (row X (y 0)) (y 1) := by
  funext y
  unfold out0_3
  canon_tiles x h
  case piece0 => exact hq_tile X 896 (by decide) 7 (by rfl) _ x y (by rfl) (by omega) (by omega)
  case piece1 => exact hq_tile X 768 (by decide) 6 (by rfl) _ x y (by rfl) (by omega) (by omega)
  case piece2 => exact hq_tile X 640 (by decide) 5 (by rfl) _ x y (by rfl) (by omega) (by omega)
  case piece3 => exact hq_tile X 512 (by decide) 4 (by rfl) _ x y (by rfl) (by omega) (by omega)
  case piece4 => exact hq_tile X 384 (by decide) 3 (by rfl) _ x y (by rfl) (by omega) (by omega)
  case piece5 => exact hq_tile X 256 (by decide) 2 (by rfl) _ x y (by rfl) (by omega) (by omega)
  case piece6 => exact hq_tile X 128 (by decide) 1 (by rfl) _ x y (by rfl) (by omega) (by omega)
  case piece7 => exact hq_tile X 0 (by decide) 0 (by rfl) _ x y (by rfl) (by omega) (by omega)

theorem hqt_eq (X : Vec Ideal S256x1024 .bf16) : out0_4 X = fun y : S1024x256.Idx => kHq (row X (y 1)) (y 0) := by
  funext y
  unfold out0_4
  canon_tiles x h
  case piece0 => exact hqt_tile X 896 (by decide) 7 (by rfl) _ x y (by rfl) (by omega) (by omega)
  case piece1 => exact hqt_tile X 768 (by decide) 6 (by rfl) _ x y (by rfl) (by omega) (by omega)
  case piece2 => exact hqt_tile X 640 (by decide) 5 (by rfl) _ x y (by rfl) (by omega) (by omega)
  case piece3 => exact hqt_tile X 512 (by decide) 4 (by rfl) _ x y (by rfl) (by omega) (by omega)
  case piece4 => exact hqt_tile X 384 (by decide) 3 (by rfl) _ x y (by rfl) (by omega) (by omega)
  case piece5 => exact hqt_tile X 256 (by decide) 2 (by rfl) _ x y (by rfl) (by omega) (by omega)
  case piece6 => exact hqt_tile X 128 (by decide) 1 (by rfl) _ x y (by rfl) (by omega) (by omega)
  case piece7 => exact hqt_tile X 0 (by decide) 0 (by rfl) _ x y (by rfl) (by omega) (by omega)

theorem scale_eq (X : Vec Ideal S256x1024 .bf16) : out0_2 X = fun y : S256x8.Idx => kScale (row X (y 0)) (y 1) := by
  have hz : (![0, 0] : Fin 2 → Nat) = fun _ => 0 := by funext a; fin_cases a <;> rfl
  unfold out0_2
  rw [View.canon_unit_zero (S := S256x8) hz]
  funext y
  unfold k0_pay2
  concat_tiles i h
  · exact scale_tile X 0 (by decide) 0 (by rfl) _ i y (by rfl) (by omega) (by omega)
  · exact scale_tile X 128 (by decide) 1 (by rfl) _ i y (by rfl) (by omega) (by omega)
  · exact scale_tile X 256 (by decide) 2 (by rfl) _ i y (by rfl) (by omega) (by omega)
  · exact scale_tile X 384 (by decide) 3 (by rfl) _ i y (by rfl) (by omega) (by omega)
  · exact scale_tile X 512 (by decide) 4 (by rfl) _ i y (by rfl) (by omega) (by omega)
  · exact scale_tile X 640 (by decide) 5 (by rfl) _ i y (by rfl) (by omega) (by omega)
  · exact scale_tile X 768 (by decide) 6 (by rfl) _ i y (by rfl) (by omega) (by omega)
  · exact scale_tile X 896 (by decide) 7 (by rfl) _ i y (by rfl) (by omega) (by omega)

end Cert.QuantIdeal.Blk
-- ==== Proof.QArr.lean ====
module
public import proofs.«01_k».proof.Proof.Gen.QuantIdeal.Value
public import proofs.«01_k».proof.Proof.QTile
@[expose] public section
set_option maxRecDepth 16384
noncomputable section

/-! What the quantisation's four arrays hold after the run, from the activations. -/

namespace Cert.QuantIdeal.Blk
open Cert.QuantIdeal Cert.QuantIdeal.Gen Cert.QuantIdeal.Value Cert.Spec Idealize.ShloMosaic Idealize.ShloMosaic.TcCoe
variable (m : (ℓ : Loc nD τ sig) → Buf (Elt Ideal) ℓ) (c : Dev nD)

/-- The activations. -/
abbrev act : Vec Ideal S1024x1024 .bf16 := m ((c : Thread nD τ).loc main_arg0)
/-- The activations of one token. -/
abbrev tok (t : Fin 1024) : Fin 1024 → EReal := fun d => act m c (ix2 t d)
abbrev B0 (t : Fin cfg0.N) : Vec Ideal S256x1024 .bf16 := iblk m c 0 t

theorem coords0 (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  omega

theorem ct (t : Fin cfg0.N) : t.val < 4 := Nat.lt_of_lt_of_eq t.isLt N_0
theorem plt {n : Nat} (h : n < 4) (p : Fin 256) : 256 * n + p.val < 1024 := by have := p.isLt; omega

theorem widx0 : ∀ t : Fin cfg0.N, win0_0.index t = ![(grid0.coords t 0).val, 0] := (by decide +kernel : ∀ t : Fin grid0.N, _)
theorem widx1 : ∀ t : Fin cfg0.N, win0_1.index t = ![(grid0.coords t 0).val, 0] := (by decide +kernel : ∀ t : Fin grid0.N, _)
theorem widx2 : ∀ t : Fin cfg0.N, win0_2.index t = ![(grid0.coords t 0).val, 0] := (by decide +kernel : ∀ t : Fin grid0.N, _)
theorem widx3 : ∀ t : Fin cfg0.N, win0_3.index t = ![(grid0.coords t 0).val, 0] := (by decide +kernel : ∀ t : Fin grid0.N, _)
theorem widx4 : ∀ t : Fin cfg0.N, win0_4.index t = ![0, (grid0.coords t 0).val] := (by decide +kernel : ∀ t : Fin grid0.N, _)

theorem fl1 : ∀ t : Fin cfg0.N, (cfg0.win 1).flush t = true := (by decide +kernel : ∀ t : Fin grid0.N, _)
theorem fl2 : ∀ t : Fin cfg0.N, (cfg0.win 2).flush t = true := (by decide +kernel : ∀ t : Fin grid0.N, _)
theorem fl3 : ∀ t : Fin cfg0.N, (cfg0.win 3).flush t = true := (by decide +kernel : ∀ t : Fin grid0.N, _)
theorem fl4 : ∀ t : Fin cfg0.N, (cfg0.win 4).flush t = true := (by decide +kernel : ∀ t : Fin grid0.N, _)

theorem B0_at (t : Fin cfg0.N) (p : Fin 256) (d : Fin 1024) : B0 m c t (ix2 p d) = act m c (ix2 ⟨256 * t.val + p.val, plt (ct t) p⟩ d) := by
  have e := coords0 t
  blk_ext! [iblk, V_main_arg0, widx0 t]

theorem row_at (t : Fin cfg0.N) (p : Fin 256) : row (B0 m c t) p = tok m c ⟨256 * t.val + p.val, plt (ct t) p⟩ :=
  funext fun d => B0_at m c t p d

theorem tlt (k : Fin 1024) : k.val / 256 < cfg0.N := Nat.lt_of_lt_of_eq (by have := k.isLt; omega : k.val / 256 < 4) N_0.symm

theorem emb1 (t : Fin cfg0.N) (p : Fin 256) (d : Fin 1024) :
    ((cfg0.win 1).blk t).view.emb (ix2 p d : S256x1024.Idx) = (ix2 ⟨256 * t.val + p.val, plt (ct t) p⟩ d : S1024x1024.Idx) := by
  have e := coords0 t
  have e0 : win0_1.index t (0 : Fin 2) = (grid0.coords t 0).val := congrFun (widx1 t) 0
  have e1 : win0_1.index t (1 : Fin 2) = 0 := congrFun (widx1 t) 1
  funext a; apply Fin.ext
  match a with
  | ⟨0, _⟩ => show win0_1.index t (0 : Fin 2) * 256 + 1 * p.val = 256 * t.val + p.val; omega
  | ⟨1, _⟩ => show win0_1.index t (1 : Fin 2) * 1024 + 1 * d.val = d.val; omega

theorem arr1_blk (t : Fin cfg0.N) (p : Fin 256) (d : Fin 1024) :
    (dats m 0 c).arrAt 1 cfg0.N (ix2 ⟨256 * t.val + p.val, plt (ct t) p⟩ d : S1024x1024.Idx) = kCode (tok m c ⟨256 * t.val + p.val, plt (ct t) p⟩) d := by
  have h := congrFun (blocks1 m c t (fl1 t)) (ix2 p d : S256x1024.Idx)
  rw [flushed1] at h
  rw [← emb1]
  refine h.trans ?_
  refine (congrFun (code_eq (B0 m c t)) (ix2 p d : S256x1024.Idx)).trans ?_
  exact congrArg (fun x => kCode x d) (row_at m c t p)

theorem arr1_at (k : Fin 1024) (d : Fin 1024) : (dats m 0 c).arrAt 1 cfg0.N (ix2 k d : S1024x1024.Idx) = kCode (tok m c k) d := by
  have h := arr1_blk m c ⟨k.val / 256, tlt k⟩ ⟨k.val % 256, Nat.mod_lt _ (by decide)⟩ d
  have e : (⟨256 * (⟨k.val / 256, tlt k⟩ : Fin cfg0.N).val + (⟨k.val % 256, Nat.mod_lt _ (by decide)⟩ : Fin 256).val, plt (ct _) _⟩ : Fin 1024) = k :=
    Fin.ext (by show 256 * (k.val / 256) + k.val % 256 = k.val; omega)
  rw [e] at h
  exact h

theorem emb2 (t : Fin cfg0.N) (p : Fin 256) (d : Fin 8) :
    ((cfg0.win 2).blk t).view.emb (ix2 p d : S256x8.Idx) = (ix2 ⟨256 * t.val + p.val, plt (ct t) p⟩ d : S1024x8.Idx) := by
  have e := coords0 t
  have e0 : win0_2.index t (0 : Fin 2) = (grid0.coords t 0).val := congrFun (widx2 t) 0
  have e1 : win0_2.index t (1 : Fin 2) = 0 := congrFun (widx2 t) 1
  funext a; apply Fin.ext
  match a with
  | ⟨0, _⟩ => show win0_2.index t (0 : Fin 2) * 256 + 1 * p.val = 256 * t.val + p.val; omega
  | ⟨1, _⟩ => show win0_2.index t (1 : Fin 2) * 8 + 1 * d.val = d.val; omega

theorem arr2_blk (t : Fin cfg0.N) (p : Fin 256) (d : Fin 8) :
    (dats m 0 c).arrAt 2 cfg0.N (ix2 ⟨256 * t.val + p.val, plt (ct t) p⟩ d : S1024x8.Idx) = kScale (tok m c ⟨256 * t.val + p.val, plt (ct t) p⟩) d := by
  have h := congrFun (blocks2 m c t (fl2 t)) (ix2 p d : S256x8.Idx)
  rw [flushed2] at h
  rw [← emb2]
  refine h.trans ?_
  refine (congrFun (scale_eq (B0 m c t)) (ix2 p d : S256x8.Idx)).trans ?_
  exact congrArg (fun x => kScale x d) (row_at m c t p)

theorem arr2_at (k : Fin 1024) (d : Fin 8) : (dats m 0 c).arrAt 2 cfg0.N (ix2 k d : S1024x8.Idx) = kScale (tok m c k) d := by
  have h := arr2_blk m c ⟨k.val / 256, tlt k⟩ ⟨k.val % 256, Nat.mod_lt _ (by decide)⟩ d
  have e : (⟨256 * (⟨k.val / 256, tlt k⟩ : Fin cfg0.N).val + (⟨k.val % 256, Nat.mod_lt _ (by decide)⟩ : Fin 256).val, plt (ct _) _⟩ : Fin 1024) = k :=
    Fin.ext (by show 256 * (k.val / 256) + k.val % 256 = k.val; omega)
  rw [e] at h
  exact h

theorem emb3 (t : Fin cfg0.N) (p : Fin 256) (d : Fin 1024) :
    ((cfg0.win 3).blk t).view.emb (ix2 p d : S256x1024.Idx) = (ix2 ⟨256 * t.val + p.val, plt (ct t) p⟩ d : S1024x1024.Idx) := by
  have e := coords0 t
  have e0 : win0_3.index t (0 : Fin 2) = (grid0.coords t 0).val := congrFun (widx3 t) 0
  have e1 : win0_3.index t (1 : Fin 2) = 0 := congrFun (widx3 t) 1
  funext a; apply Fin.ext
  match a with
  | ⟨0, _⟩ => show win0_3.index t (0 : Fin 2) * 256 + 1 * p.val = 256 * t.val + p.val; omega
  | ⟨1, _⟩ => show win0_3.index t (1 : Fin 2) * 1024 + 1 * d.val = d.val; omega

theorem arr3_blk (t : Fin cfg0.N) (p : Fin 256) (d : Fin 1024) :
    (dats m 0 c).arrAt 3 cfg0.N (ix2 ⟨256 * t.val + p.val, plt (ct t) p⟩ d : S1024x1024.Idx) = kHq (tok m c ⟨256 * t.val + p.val, plt (ct t) p⟩) d := by
  have h := congrFun (blocks3 m c t (fl3 t)) (ix2 p d : S256x1024.Idx)
  rw [flushed3] at h
  rw [← emb3]
  refine h.trans ?_
  refine (congrFun (hq_eq (B0 m c t)) (ix2 p d : S256x1024.Idx)).trans ?_
  exact congrArg (fun x => kHq x d) (row_at m c t p)

theorem arr3_at (k : Fin 1024) (d : Fin 1024) : (dats m 0 c).arrAt 3 cfg0.N (ix2 k d : S1024x1024.Idx) = kHq (tok m c k) d := by
  have h := arr3_blk m c ⟨k.val / 256, tlt k⟩ ⟨k.val % 256, Nat.mod_lt _ (by decide)⟩ d
  have e : (⟨256 * (⟨k.val / 256, tlt k⟩ : Fin cfg0.N).val + (⟨k.val % 256, Nat.mod_lt _ (by decide)⟩ : Fin 256).val, plt (ct _) _⟩ : Fin 1024) = k :=
    Fin.ext (by show 256 * (k.val / 256) + k.val % 256 = k.val; omega)
  rw [e] at h
  exact h

theorem emb4 (t : Fin cfg0.N) (p : Fin 256) (d : Fin 1024) :
    ((cfg0.win 4).blk t).view.emb (ix2 d p : S1024x256.Idx) = (ix2 d ⟨256 * t.val + p.val, plt (ct t) p⟩ : S1024x1024.Idx) := by
  have e := coords0 t
  have e0 : win0_4.index t (0 : Fin 2) = 0 := congrFun (widx4 t) 0
  have e1 : win0_4.index t (1 : Fin 2) = (grid0.coords t 0).val := congrFun (widx4 t) 1
  funext a; apply Fin.ext
  match a with
  | ⟨0, _⟩ => show win0_4.index t (0 : Fin 2) * 1024 + 1 * d.val = d.val; omega
  | ⟨1, _⟩ => show win0_4.index t (1 : Fin 2) * 256 + 1 * p.val = 256 * t.val + p.val; omega

theorem arr4_blk (t : Fin cfg0.N) (p : Fin 256) (d : Fin 1024) :
    (dats m 0 c).arrAt 4 cfg0.N (ix2 d ⟨256 * t.val + p.val, plt (ct t) p⟩ : S1024x1024.Idx) = kHq (tok m c ⟨256 * t.val + p.val, plt (ct t) p⟩) d := by
  have h := congrFun (blocks4 m c t (fl4 t)) (ix2 d p : S1024x256.Idx)
  rw [flushed4] at h
  rw [← emb4]
  refine h.trans ?_
  refine (congrFun (hqt_eq (B0 m c t)) (ix2 d p : S1024x256.Idx)).trans ?_
  exact congrArg (fun x => kHq x d) (row_at m c t p)

theorem arr4_at (k : Fin 1024) (d : Fin 1024) : (dats m 0 c).arrAt 4 cfg0.N (ix2 d k : S1024x1024.Idx) = kHq (tok m c k) d := by
  have h := arr4_blk m c ⟨k.val / 256, tlt k⟩ ⟨k.val % 256, Nat.mod_lt _ (by decide)⟩ d
  have e : (⟨256 * (⟨k.val / 256, tlt k⟩ : Fin cfg0.N).val + (⟨k.val % 256, Nat.mod_lt _ (by decide)⟩ : Fin 256).val, plt (ct _) _⟩ : Fin 1024) = k :=
    Fin.ext (by show 256 * (k.val / 256) + k.val % 256 = k.val; omega)
  rw [e] at h
  exact h

end Cert.QuantIdeal.Blk
-- ==== Proof.QRefRun.lean ====
/- The run of the reference of the quantisation call: each of its four result arrays after the run, as the body's payload of the
   argument array. One grid point, every window the whole array. -/
module

public import proofs.«01_k».proof.Proof.Gen.QuantReferenceIdeal.Frame
public import Idealize.ShloMosaic.Lib.Pipeline.Value

@[expose] public section

noncomputable section

namespace Cert.QuantReferenceIdeal.RefRun

open Cert.QuantReferenceIdeal Cert.QuantReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_3) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1024x1024.Idx) : ((cfg0.win 0).blk t).view.emb j = j := by
  obtain ⟨e0, e1⟩ := idx_zero0 t
  funext a; apply Fin.ext
  match a with
  | ⟨0, _⟩ => show win0_0.index t (0 : Fin 2) * 1024 + 1 * (j 0).val = (j 0).val; omega
  | ⟨1, _⟩ => show win0_0.index t (1 : Fin 2) * 1024 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x1024.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1024x8.Idx) : ((cfg0.win 2).blk t).view.emb j = j := by
  obtain ⟨e0, e1⟩ := idx_zero2 t
  funext a; apply Fin.ext
  match a with
  | ⟨0, _⟩ => show win0_2.index t (0 : Fin 2) * 1024 + 1 * (j 0).val = (j 0).val; omega
  | ⟨1, _⟩ => show win0_2.index t (1 : Fin 2) * 8 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1024x1024.Idx) : ((cfg0.win 3).blk t).view.emb j = j := by
  obtain ⟨e0, e1⟩ := idx_zero3 t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1024x1024.Idx) : ((cfg0.win 4).blk t).view.emb j = j := by
  obtain ⟨e0, e1⟩ := idx_zero4 t
  funext a; apply Fin.ext
  match a with
  | ⟨0, _⟩ => show win0_4.index t (0 : Fin 2) * 1024 + 1 * (j 0).val = (j 0).val; omega
  | ⟨1, _⟩ => show win0_4.index t (1 : Fin 2) * 1024 + 1 * (j 1).val = (j 1).val; omega

/-! ### Output window 1: the array after the run -/

/-- What the window's array ends holding: `out0_1` applied to the argument arrays in place of the input blocks (a value that the
    frame states apart, `kK_payN a…`, keeps its loads inside its own definition). -/
abbrev G1 (a0 : Vec F S1024x1024 .bf16) : Vec F S1024x1024 .fp8e4m3 :=
  k0_pay7 a0

/-- A load of the whole of a block reads the block, and the one store through the whole rectangle leaves its payload. -/
theorem out1_eq (a0 : Vec F S1024x1024 .bf16) : out0_1 (F := F) a0 = G1 a0 := by
  unfold out0_1
  rw [View.canon_unit_zero hz1, View.ld_unit_zero (S := S1024x1024) hz0 _ a0]

/-- Cutting the point's block out of `X` and reading `X` through the block's view give the same. -/
theorem cut1_eq (t : Fin cfg0.N) (X : Vec F S1024x1024 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S1024x1024.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks (a value that the
    frame states apart, `kK_payN a…`, keeps its loads inside its own definition). -/
abbrev G2 (a0 : Vec F S1024x1024 .bf16) : Vec F S1024x8 .f32 :=
  k0_pay4 a0

/-- A load of the whole of a block reads the block, and the one store through the whole rectangle leaves its payload. -/
theorem out2_eq (a0 : Vec F S1024x1024 .bf16) : out0_2 (F := F) a0 = G2 a0 := by
  unfold out0_2
  rw [View.canon_unit_zero hz2, View.ld_unit_zero (S := S1024x1024) hz0 _ a0]

/-- Cutting the point's block out of `X` and reading `X` through the block's view give the same. -/
theorem cut2_eq (t : Fin cfg0.N) (X : Vec F S1024x8 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S1024x8.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks (a value that the
    frame states apart, `kK_payN a…`, keeps its loads inside its own definition). -/
abbrev G3 (a0 : Vec F S1024x1024 .bf16) : Vec F S1024x1024 .bf16 :=
  k0_pay6 a0

/-- A load of the whole of a block reads the block, and the one store through the whole rectangle leaves its payload. -/
theorem out3_eq (a0 : Vec F S1024x1024 .bf16) : out0_3 (F := F) a0 = G3 a0 := by
  unfold out0_3
  rw [View.canon_unit_zero hz3, View.ld_unit_zero (S := S1024x1024) hz0 _ a0]

/-- Cutting the point's block out of `X` and reading `X` through the block's view give the same. -/
theorem cut3_eq (t : Fin cfg0.N) (X : Vec F S1024x1024 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S1024x1024.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ### Output window 4: the array after the run -/

/-- What the window's array ends holding: `out0_4` applied to the argument arrays in place of the input blocks (a value that the
    frame states apart, `kK_payN a…`, keeps its loads inside its own definition). -/
abbrev G4 (a0 : Vec F S1024x1024 .bf16) : Vec F S1024x1024 .bf16 :=
  k0_pay1 (k0_pay6 a0)

/-- A load of the whole of a block reads the block, and the one store through the whole rectangle leaves its payload. -/
theorem out4_eq (a0 : Vec F S1024x1024 .bf16) : out0_4 (F := F) a0 = G4 a0 := by
  unfold out0_4
  rw [View.canon_unit_zero hz4, View.ld_unit_zero (S := S1024x1024) hz0 _ a0]

/-- Cutting the point's block out of `X` and reading `X` through the block's view give the same. -/
theorem cut4_eq (t : Fin cfg0.N) (X : Vec F S1024x1024 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0)) := by
  show (cfg0.win 4).cut (grid0.coords t) ((dats m 0 c).after 4 t) = _
  rw [after0_4, out4_eq, iblk0_eq]
  exact cut4_eq t _

/-- Every index of the array is in the point's block. -/
theorem covered4 (i : S1024x1024.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) :=
  ((dats m 0 c).arrAt_eq_of_cover 4 (G4 (V m c main_arg0)) (fun t _ => flushed4_eq m c t) covered4).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_v0_3) = G4 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      (post4 m r h c).trans (final4 m c),
      kept_main_arg0 m r h c⟩)
    (run_main m ρ)

end Cert.QuantReferenceIdeal.RefRun

end
-- ==== Proof.QRefVal.lean ====
module
public import proofs.«01_k».proof.Proof.QRefRun
public import proofs.«01_k».proof.Proof.QSpec
public import Idealize.ShloMosaic.Lib.Pipeline.ValueKit
@[expose] public section
set_option maxRecDepth 16384
noncomputable section

/-! The four results of the quantisation's reference at an index, as the mathematics of `Cert.Spec`. -/

namespace Cert.QuantReferenceIdeal.RefVal
open Cert.QuantReferenceIdeal Cert.QuantReferenceIdeal.Gen Cert.Spec Idealize.ShloMosaic Idealize.ShloMosaic.TcCoe

variable (v0 : Vec Ideal S1024x1024 .bf16)

/-- The row of a token. -/
abbrev row (t : Fin 1024) : Fin 1024 → EReal := fun d => v0 (ix2 t d)

theorem x_at (t : Fin 1024) (j : Fin 8) (r : Fin 128) : k0_pay2 v0 (ix3 t j r) = v0 (ix2 t ⟨j.val * 128 + r.val, glt j r⟩) := by
  pointwise [k0_pay2]

def yOf (g : FVec Ideal S1024x8x128 .f32) : FVec Ideal S1024x8 .f32 :=
  mulf (multiReduction .maximumf [2] S1024x8 (absf g) 0xFF800000#32 reduces_S1024x8x128_S1024x8 (.inl rfl) rfl)
    (broadcast S1024x8 (Scalar.ofBits .f32 0x3B124925#32))

theorem maxOf_at (g : FVec Ideal S1024x8x128 .f32) (t : Fin 1024) (n : Fin 8) :
    (multiReduction .maximumf [2] S1024x8 g 0xFF800000#32 reduces_S1024x8x128_S1024x8 (.inl rfl) rfl) (ix2 t n)
      = Finset.fold max ninf (fun r : Fin 128 => g (ix3 t n r)) Finset.univ := by
  pointwise

theorem absf_at (g : FVec Ideal S1024x8x128 .f32) (i : S1024x8x128.Idx) : absf g i = max (g i) (-(g i)) := rfl

theorem mulf_at (a : FVec Ideal S1024x8 .f32) (i : S1024x8.Idx) :
    mulf a (broadcast S1024x8 (Scalar.ofBits .f32 0x3B124925#32)) i = a i * cq := rfl

theorem yOf_at (t : Fin 1024) (n : Fin 8) : yOf (k0_pay2 v0) (ix2 t n) = qY (row v0 t) n := by
  unfold yOf
  rw [mulf_at, maxOf_at]
  simp only [absf_at, x_at]
  rfl

def eOf (y : FVec Ideal S1024x8 .f32) : FVec Ideal S1024x8 .f32 :=
  select (cmpf .olt y (broadcast S1024x8 (Scalar.ofBits .f32 0x00800000#32))) (broadcast S1024x8 (Scalar.ofBits .f32 0x00000000#32))
    (addf (floor (divf (log y) (log (broadcast S1024x8 (Scalar.ofBits .f32 0x40000000#32)))))
      (broadcast S1024x8 (Scalar.ofBits .f32 0x3F800000#32)))

theorem pay3_eq : k0_pay3 v0 = eOf (yOf (k0_pay2 v0)) := rfl

theorem eOf_at (y : FVec Ideal S1024x8 .f32) (t : Fin 1024) (n : Fin 8) : eOf y (ix2 t n) = rE (y (ix2 t n)) := by
  pointwise [eOf]
  rfl

theorem e_at (t : Fin 1024) (n : Fin 8) : k0_pay3 v0 (ix2 t n) = rE (qY (row v0 t) n) := by
  rw [pay3_eq, eOf_at, yOf_at]

theorem pay4_eq : k0_pay4 v0 = exp2 (k0_pay3 v0) := rfl

theorem exp2_at (e : FVec Ideal S1024x8 .f32) (i : S1024x8.Idx) : exp2 e i = Ideal.exp2 (e i) := rfl

theorem scale_at (t : Fin 1024) (n : Fin 8) : k0_pay4 v0 (ix2 t n) = qScale (row v0 t) n := by
  rw [pay4_eq, exp2_at, e_at]
  rfl

def codeOf (g : FVec Ideal S1024x8x128 .f32) (e : FVec Ideal S1024x8 .f32) : FVec Ideal S1024x8x128 .fp8e4m3 :=
  truncf .fp8e4m3 (minimumf (broadcast S1024x8x128 (Scalar.ofBits .f32 0x43E00000#32))
    (maximumf (broadcast S1024x8x128 (Scalar.ofBits .f32 0xC3E00000#32))
      (mulf g (broadcastTo S1024x8x128 (shapeCast S1024x8x1 (exp2 (subf (broadcast S1024x8 (Scalar.ofBits .f32 0x00000000#32)) e))
        shapeCasts_S1024x8_S1024x8x1) broadcasts_S1024x8x1_S1024x8x128)))) bitsLt_fp8e4m3_f32

theorem pay5_eq : k0_pay5 v0 = codeOf (k0_pay2 v0) (k0_pay3 v0) := rfl

theorem codeOf_at (g : FVec Ideal S1024x8x128 .f32) (e : FVec Ideal S1024x8 .f32) (t : Fin 1024) (n : Fin 8) (r : Fin 128) :
    codeOf g e (ix3 t n r) = min hi8 (max lo8 (g (ix3 t n r) * Ideal.exp2 (0 - e (ix2 t n)))) := by
  pointwise [codeOf]
  rfl

theorem c_at (t : Fin 1024) (d : Fin 1024) :
    k0_pay5 v0 (ix3 t ⟨d.val / 128, gdiv d⟩ ⟨d.val % 128, Nat.mod_lt _ (by decide)⟩) = qCode (row v0 t) d := by
  rw [pay5_eq, codeOf_at, x_at, e_at]
  have e : (⟨(⟨d.val / 128, gdiv d⟩ : Fin 8).val * 128 + (⟨d.val % 128, Nat.mod_lt _ (by decide)⟩ : Fin 128).val, glt _ _⟩ : Fin 1024) = d :=
    Fin.ext (by show d.val / 128 * 128 + d.val % 128 = d.val; omega)
  rw [e]
  rfl

theorem flat8 (g : FVec Ideal S1024x8x128 .fp8e4m3) (t : Fin 1024) (d : Fin 1024) :
    shapeCast S1024x1024 g shapeCasts_S1024x8x128_S1024x1024 (ix2 t d)
      = g (ix3 t ⟨d.val / 128, gdiv d⟩ ⟨d.val % 128, Nat.mod_lt _ (by decide)⟩) := by
  pointwise

theorem pay7_eq : k0_pay7 v0 = shapeCast S1024x1024 (k0_pay5 v0) shapeCasts_S1024x8x128_S1024x1024 := rfl

theorem code_at (t : Fin 1024) (d : Fin 1024) : k0_pay7 v0 (ix2 t d) = qCode (row v0 t) d := by
  rw [pay7_eq, flat8, c_at]

def hqOf (g : FVec Ideal S1024x8x128 .fp8e4m3) (s : FVec Ideal S1024x8 .f32) : FVec Ideal S1024x1024 .bf16 :=
  shapeCast S1024x1024 (mulf (extf .bf16 g bitsLt_fp8e4m3_bf16) (broadcastTo S1024x8x128
    (shapeCast S1024x8x1 (truncf .bf16 s bitsLt_bf16_f32) shapeCasts_S1024x8_S1024x8x1) broadcasts_S1024x8x1_S1024x8x128))
    shapeCasts_S1024x8x128_S1024x1024

theorem pay6_eq : k0_pay6 v0 = hqOf (k0_pay5 v0) (k0_pay4 v0) := rfl

theorem hqOf_at (g : FVec Ideal S1024x8x128 .fp8e4m3) (s : FVec Ideal S1024x8 .f32) (t : Fin 1024) (d : Fin 1024) :
    hqOf g s (ix2 t d) = g (ix3 t ⟨d.val / 128, gdiv d⟩ ⟨d.val % 128, Nat.mod_lt _ (by decide)⟩) * s (ix2 t ⟨d.val / 128, gdiv d⟩) := by
  pointwise [hqOf]

theorem hq_at (t : Fin 1024) (d : Fin 1024) : k0_pay6 v0 (ix2 t d) = qHq (row v0 t) d := by
  rw [pay6_eq, hqOf_at, c_at, scale_at]
  rfl

theorem tr_at (g : FVec Ideal S1024x1024 .bf16) (d t : Fin 1024) : k0_pay1 g (ix2 d t) = g (ix2 t d) := by
  pointwise [k0_pay1]

theorem hqt_at (d t : Fin 1024) : k0_pay1 (k0_pay6 v0) (ix2 d t) = qHq (row v0 t) d := by
  rw [tr_at, hq_at]

end Cert.QuantReferenceIdeal.RefVal
-- ==== Proof.QPre.lean ====
module
public import proofs.«01_k».proof.Proof.Gen.Pre_finite_activations
public import proofs.«01_k».proof.Proof.QSpec
public import Idealize.ShloMosaic.Lib.IdealHost
public import Idealize.ShloMosaic.Lib.Pipeline.ValueKit
@[expose] public section
set_option maxRecDepth 16384
noncomputable section

/-! The precondition of the quantisation, read at an index. -/

namespace Cert.Pre_finite_activations
open Idealize.ShloMosaic Cert.Spec Cert.Pre_finite_activations.Facts
variable [Facts]

theorem high_at (y : FVec Ideal S_ .f32) (b : BitVec 32) (hy : y = constant S_ .f32 b) (t d : Fin 1024) :
    broadcastInDim S1024x1024 ![] bcast_S_S1024x1024 y (ix2 t d) = Ideal.ofBits FTy.f32 b := by
  subst hy
  pointwise

theorem of_true (p : Prop) [Decidable p] (h : BitVec.ofBool (decide p) = 1#1) : p := by
  by_contra hn
  rw [decide_eq_false hn] at h
  exact absurd h (by decide)

theorem fine (x : FVec Ideal S1024x1024 .bf16) (h1 : (fn (F := Ideal) x).1 = fun _ => 1#1) (h2 : (fn (F := Ideal) x).2 = fun _ => 1#1) (t : Fin 1024) :
    Fine fun d => x (ix2 t d) := by
  intro d
  constructor
  · have h := of_true (x (ix2 t d) ≤ broadcastInDim S1024x1024 ![] bcast_S_S1024x1024 (constant (F := Ideal) S_ .f32 0x7F7F0000#32) (ix2 t d)) (congrFun h1 (ix2 t d))
    rw [high_at _ _ rfl] at h
    exact h
  · have h := of_true (-(broadcastInDim S1024x1024 ![] bcast_S_S1024x1024 (constant (F := Ideal) S_ .f32 0x7F7F0000#32) (ix2 t d)) ≤ x (ix2 t d)) (congrFun h2 (ix2 t d))
    rw [high_at _ _ rfl] at h
    exact h

end Cert.Pre_finite_activations
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_statistics_of_the_logits
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantIdeal.Value
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.Pre_finite_activations
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardIdeal.Value
public import proofs.«01_k».proof.Proof.Gen.ForwardReferenceIdeal
public import proofs.«01_k».proof.Proof.Gen.ForwardReferenceIdeal.Skeleton
public import proofs.«01_k».proof.Proof.Gen.ForwardReferenceIdeal.Launch
public import proofs.«01_k».proof.Proof.Gen.ForwardReferenceIdeal.Points
public import proofs.«01_k».proof.Proof.Gen.ForwardReferenceIdeal.Frame
public import proofs.«01_k».proof.Proof.Gen.ForwardReferenceIdeal.Value
public import proofs.«01_k».proof.Proof.FwdAlg
public import proofs.«01_k».proof.Proof.RefRun
public import proofs.«01_k».proof.Proof.KFinal
public import proofs.«01_k».proof.Proof.QArr
public import proofs.«01_k».proof.Proof.QRefVal
public import proofs.«01_k».proof.Proof.QPre
public import Idealize.ShloMosaic.Adequacy
public import Idealize.ShloMosaic.Init

@[expose] public section

noncomputable section

namespace Cert.Proof

open Idealize.ShloMosaic Idealize.SL.Sem

attribute [local instance] Cert.Pre_statistics_of_the_logits.Gen.facts Cert.Pre_finite_activations.Gen.facts

/-- The precondition gives the statistics of every token's column. -/
theorem stats_of (m : (ℓ : Loc Cert.KernelIdeal.nD Cert.KernelIdeal.τ Cert.KernelIdeal.sig) → Buf (Elt Ideal) ℓ)
    (h : Cert.Pre_KernelIdeal_statistics_of_the_logits (hPre_statistics_of_the_logits := Cert.Pre_statistics_of_the_logits.Gen.facts) m)
    (c : Dev Cert.KernelIdeal.nD) : Cert.KernelIdeal.Blk.Stats m c := by
  obtain ⟨h1, h2, h3, h4, h5, h6⟩ := h c
  exact fun k => Cert.Pre_statistics_of_the_logits.stats _ _ _ _ _ _ _ _ _ h1 h2 h3 h4 h5 h6 k

theorem algebraic : Cert.algebraic_KernelIdeal_ReferenceIdeal_pre_statistics_of_the_logits
    (hKernelIdeal := Cert.KernelIdeal.Gen.facts) (hReferenceIdeal := Cert.ReferenceIdeal.Gen.facts)
    (hPre_statistics_of_the_logits := Cert.Pre_statistics_of_the_logits.Gen.facts) := by
  intro m g m' g' hp ha
  have hs := stats_of m hp
  refine ⟨fun c => Cert.KernelIdeal.Value.G9 m c, fun c => Cert.KernelIdeal.Value.G10 m c,
    fun c => Cert.KernelIdeal.Value.G11 m c, fun c => Cert.KernelIdeal.Value.G12 m c, Cert.KernelIdeal.Value.run m g, ?_⟩
  refine (θ_run Cert.ReferenceIdeal.defs _ _).mono (fun r h c => ?_) (Cert.ReferenceIdeal.RefRun.run m' g')
  obtain ⟨e0, e1, e2, e3, hargs⟩ := h c
  obtain ⟨b0, b1, b2, b3, b4, b5, b6, b7, b8⟩ := ha c
  refine ⟨e0.trans ?_, e1.trans ?_, e2.trans ?_, e3.trans ?_, hargs⟩
  · rw [b0, b1, b2, b3, b4, b5, b6, b7, b8]
    exact (Cert.KernelIdeal.Blk.g9_eq (hs c)).symm
  · rw [b0, b1, b2, b3, b4, b5, b6, b7, b8]
    exact (Cert.KernelIdeal.Blk.g10_eq (hs c)).symm
  · rw [b0, b1, b2, b3, b4, b5, b6, b7, b8]
    exact (Cert.KernelIdeal.Blk.g11_eq (hs c)).symm
  · rw [b0, b1, b2, b3, b4, b5, b6, b7, b8]
    exact (Cert.KernelIdeal.Blk.g12_eq (hs c)).symm

/-- The precondition bounds every activation. -/
theorem fine_of (m : (ℓ : Loc Cert.QuantIdeal.nD Cert.QuantIdeal.τ Cert.QuantIdeal.sig) → Buf (Elt Ideal) ℓ)
    (h : Cert.Pre_QuantIdeal_finite_activations (hPre_finite_activations := Cert.Pre_finite_activations.Gen.facts) m)
    (c : Dev Cert.QuantIdeal.nD) (t : Fin 1024) : Cert.Spec.Fine (Cert.QuantIdeal.Blk.tok m c t) := by
  obtain ⟨h1, h2⟩ := h c
  exact Cert.Pre_finite_activations.fine _ h1 h2 t

theorem quant_algebraic : Cert.algebraic_QuantIdeal_QuantReferenceIdeal_pre_finite_activations
    (hQuantIdeal := Cert.QuantIdeal.Gen.facts) (hQuantReferenceIdeal := Cert.QuantReferenceIdeal.Gen.facts)
    (hPre_finite_activations := Cert.Pre_finite_activations.Gen.facts) := by
  intro m g m' g' hp ha
  have hs := fine_of m hp
  refine ⟨fun c => (Cert.QuantIdeal.Gen.dats m 0 c).arrAt 1 Cert.QuantIdeal.cfg0.N, fun c => (Cert.QuantIdeal.Gen.dats m 0 c).arrAt 2 Cert.QuantIdeal.cfg0.N,
    fun c => (Cert.QuantIdeal.Gen.dats m 0 c).arrAt 3 Cert.QuantIdeal.cfg0.N, fun c => (Cert.QuantIdeal.Gen.dats m 0 c).arrAt 4 Cert.QuantIdeal.cfg0.N,
    Cert.QuantIdeal.Value.run_blocks m g, ?_⟩
  refine (θ_run Cert.QuantReferenceIdeal.defs _ _).mono (fun r h c => ?_) (Cert.QuantReferenceIdeal.RefRun.run m' g')
  obtain ⟨e0, e1, e2, e3, hargs⟩ := h c
  have b0 := ha c
  refine ⟨e0.trans ?_, e1.trans ?_, e2.trans ?_, e3.trans ?_, hargs⟩
  · rw [b0]
    funext i
    rw [Cert.QuantIdeal.Blk.eta2 i]
    refine (Cert.QuantReferenceIdeal.RefVal.code_at _ (i 0) (i 1)).trans ?_
    exact ((Cert.QuantIdeal.Blk.arr1_at m c (i 0) (i 1)).trans (Cert.Spec.kCode_eq _ (hs c (i 0)) (i 1))).symm
  · rw [b0]
    funext i
    rw [Cert.QuantIdeal.Blk.eta2 i]
    refine (Cert.QuantReferenceIdeal.RefVal.scale_at _ (i 0) (i 1)).trans ?_
    exact ((Cert.QuantIdeal.Blk.arr2_at m c (i 0) (i 1)).trans (Cert.Spec.kScale_eq _ (hs c (i 0)) (i 1))).symm
  · rw [b0]
    funext i
    rw [Cert.QuantIdeal.Blk.eta2 i]
    refine (Cert.QuantReferenceIdeal.RefVal.hq_at _ (i 0) (i 1)).trans ?_
    exact ((Cert.QuantIdeal.Blk.arr3_at m c (i 0) (i 1)).trans (Cert.Spec.kHq_eq _ (hs c (i 0)) (i 1))).symm
  · rw [b0]
    funext i
    rw [Cert.QuantIdeal.Blk.eta2 i]
    refine (Cert.QuantReferenceIdeal.RefVal.hqt_at _ (i 0) (i 1)).trans ?_
    exact ((Cert.QuantIdeal.Blk.arr4_at m c (i 1) (i 0)).trans (Cert.Spec.kHq_eq _ (hs c (i 1)) (i 0))).symm

theorem claim : Cert.Claim := ⟨Cert.Kernel.Gen.facts, Cert.KernelIdeal.Gen.facts, Cert.ReferenceIdeal.Gen.facts,
  Cert.Quant.Gen.facts, Cert.QuantIdeal.Gen.facts, Cert.QuantReferenceIdeal.Gen.facts,
  Cert.Forward.Gen.facts, Cert.ForwardIdeal.Gen.facts, Cert.ForwardReferenceIdeal.Gen.facts,
  Cert.Pre_statistics_of_the_logits.Gen.facts, Cert.Pre_finite_activations.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  fun m ρ _ => Cert.Quant.Gen.frame m ρ,
  fun m ρ _ => Cert.QuantIdeal.Gen.frame m ρ,
  fun m ρ _ => Cert.QuantIdeal.Gen.frame m ρ,
  fun m ρ _ => Cert.QuantReferenceIdeal.Gen.frame m ρ,
  fun m ρ _ => Cert.QuantReferenceIdeal.Gen.frame m ρ,
  fun m ρ _ => Cert.Forward.Gen.frame m ρ,
  fun m ρ _ => Cert.ForwardIdeal.Gen.frame m ρ,
  fun m ρ _ => Cert.ForwardReferenceIdeal.Gen.frame m ρ,
  trivial,
  algebraic,
  trivial,
  quant_algebraic,
  trivial,
  Cert.ForwardIdeal.Blk.forward_algebraic⟩

end Cert.Proof

end
